-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_bounded [hPre_bounded : Cert.Pre_bounded.Facts] (m : (ℓ : Loc Cert.AdaIdeal.nD Cert.AdaIdeal.τ Cert.AdaIdeal.sig) → Buf (Elt Ideal) ℓ) : Prop :=
  ∀ c : Dev Cert.AdaIdeal.nD,
    (Cert.Pre_bounded.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3))) = (fun _ => 1#1)

def Pre_AdaReferenceIdeal (m : (ℓ : Loc Cert.AdaReferenceIdeal.nD Cert.AdaReferenceIdeal.τ Cert.AdaReferenceIdeal.sig) → Buf (Elt Ideal) ℓ) : Prop :=
  True

def Pre_AdaReferenceIdeal_bounded [hPre_bounded : Cert.Pre_bounded.Facts] (m : (ℓ : Loc Cert.AdaReferenceIdeal.nD Cert.AdaReferenceIdeal.τ Cert.AdaReferenceIdeal.sig) → Buf (Elt Ideal) ℓ) : Prop :=
  ∀ c : Dev Cert.AdaReferenceIdeal.nD,
    (Cert.Pre_bounded.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2)) (m ((c.tc : Thread Cert.AdaReferenceIdeal.nD Cert.AdaReferenceIdeal.τ).loc Cert.AdaReferenceIdeal.main_arg3))) = (fun _ => 1#1)

def Pre_FfnInCtx (m : (ℓ : Loc Cert.FfnInCtx.nD Cert.FfnInCtx.τ Cert.FfnInCtx.sig) → Buf (Elt Bits) ℓ) : Prop :=
  True

def Pre_FfnInCtxIdeal (m : (ℓ : Loc Cert.FfnInCtxIdeal.nD Cert.FfnInCtxIdeal.τ Cert.FfnInCtxIdeal.sig) → Buf (Elt Ideal) ℓ) : Prop :=
  True

def Pre_InReferenceCtxIdeal (m : (ℓ : Loc Cert.InReferenceCtxIdeal.nD Cert.InReferenceCtxIdeal.τ Cert.InReferenceCtxIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8)
      ∧ r.2.mem ((c.tc : Thread Cert.OutFfn.nD Cert.OutFfn.τ).loc Cert.OutFfn.main_arg9) = m ((c.tc : Thread Cert.OutFfn.nD Cert.OutFfn.τ).loc Cert.OutFfn.main_arg9)
      ∧ r.2.mem ((c.tc : Thread Cert.OutFfn.nD Cert.OutFfn.τ).loc Cert.OutFfn.main_arg10) = m ((c.tc : Thread Cert.OutFfn.nD Cert.OutFfn.τ).loc Cert.OutFfn.main_arg10))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
      ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
      ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaIdeal_pre_bounded [hAdaIdeal : Cert.AdaIdeal.Facts] [hPre_bounded : Cert.Pre_bounded.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_bounded m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_AdaReferenceIdeal_pre_bounded [hAdaReferenceIdeal : Cert.AdaReferenceIdeal.Facts] [hPre_bounded : Cert.Pre_bounded.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal_bounded m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_FfnInCtx [hFfnInCtx : Cert.FfnInCtx.Facts] : Prop :=
  ∀ (m : (ℓ : Loc Cert.FfnInCtx.nD Cert.FfnInCtx.τ Cert.FfnInCtx.sig) → Buf (Elt Bits) ℓ) (g : Dev Cert.FfnInCtx.nD → PrngReg), Pre_FfnInCtx m →
    θ_run (Cert.FfnInCtx.defs (F := Bits)) (onTc (τ := Cert.FfnInCtx.τ) (Cert.FfnInCtx.main (F := Bits))) ⟨m, fun _ => 0, g⟩ (fun r => (∀ c : Dev Cert.FfnInCtx.nD,
      r.2.mem ((c.tc : Thread Cert.FfnInCtx.nD Cert.FfnInCtx.τ).loc Cert.FfnInCtx.main_arg0) = m ((c.tc : Thread Cert.FfnInCtx.nD Cert.FfnInCtx.τ).loc Cert.FfnInCtx.main_arg0)
      ∧ r.2.mem ((c.tc : Thread Cert.FfnInCtx.nD Cert.FfnInCtx.τ).loc Cert.FfnInCtx.main_arg1) = m ((c.tc : Thread Cert.FfnInCtx.nD Cert.FfnInCtx.τ).loc Cert.FfnInCtx.main_arg1)
      ∧ r.2.mem ((c.tc : Thread Cert.FfnInCtx.nD Cert.FfnInCtx.τ).loc Cert.FfnInCtx.main_arg2) = m ((c.tc : Thread Cert.FfnInCtx.nD Cert.FfnInCtx.τ).loc Cert.FfnInCtx.main_arg2)
      ∧ r.2.mem ((c.tc : Thread Cert.FfnInCtx.nD Cert.FfnInCtx.τ).loc Cert.FfnInCtx.main_arg3) = m ((c.tc : Thread Cert.FfnInCtx.nD Cert.FfnInCtx.τ).loc Cert.FfnInCtx.main_arg3)
      ∧ r.2.mem ((c.tc : Thread Cert.FfnInCtx.nD Cert.FfnInCtx.τ).loc Cert.FfnInCtx.main_arg4) = m ((c.tc : Thread Cert.FfnInCtx.nD Cert.FfnInCtx.τ).loc Cert.FfnInCtx.main_arg4)
      ∧ r.2.mem ((c.tc : Thread Cert.FfnInCtx.nD Cert.FfnInCtx.τ).loc Cert.FfnInCtx.main_arg5) = m ((c.tc : Thread Cert.FfnInCtx.nD Cert.FfnInCtx.τ).loc Cert.FfnInCtx.main_arg5)
      ∧ r.2.mem ((c.tc : Thread Cert.FfnInCtx.nD Cert.FfnInCtx.τ).loc Cert.FfnInCtx.main_arg6) = m ((c.tc : Thread Cert.FfnInCtx.nD Cert.FfnInCtx.τ).loc Cert.FfnInCtx.main_arg6))
      ∧ r.2.sem = fun _ => 0)

def quiescent_FfnInCtxIdeal [hFfnInCtxIdeal : Cert.FfnInCtxIdeal.Facts] : Prop :=
  ∀ (m : (ℓ : Loc Cert.FfnInCtxIdeal.nD Cert.FfnInCtxIdeal.τ Cert.FfnInCtxIdeal.sig) → Buf (Elt Ideal) ℓ) (g : Dev Cert.FfnInCtxIdeal.nD → PrngReg), Pre_FfnInCtxIdeal m →
    θ_run (Cert.FfnInCtxIdeal.defs (F := Ideal)) (onTc (τ := Cert.FfnInCtxIdeal.τ) (Cert.FfnInCtxIdeal.main (F := Ideal))) ⟨m, fun _ => 0, g⟩ (fun r => (∀ c : Dev Cert.FfnInCtxIdeal.nD,
      r.2.mem ((c.tc : Thread Cert.FfnInCtxIdeal.nD Cert.FfnInCtxIdeal.τ).loc Cert.FfnInCtxIdeal.main_arg0) = m ((c.tc : Thread Cert.FfnInCtxIdeal.nD Cert.FfnInCtxIdeal.τ).loc Cert.FfnInCtxIdeal.main_arg0)
      ∧ r.2.mem ((c.tc : Thread Cert.FfnInCtxIdeal.nD Cert.FfnInCtxIdeal.τ).loc Cert.FfnInCtxIdeal.main_arg1) = m ((c.tc : Thread Cert.FfnInCtxIdeal.nD Cert.FfnInCtxIdeal.τ).loc Cert.FfnInCtxIdeal.main_arg1)
      ∧ r.2.mem ((c.tc : Thread Cert.FfnInCtxIdeal.nD Cert.FfnInCtxIdeal.τ).loc Cert.FfnInCtxIdeal.main_arg2) = m ((c.tc : Thread Cert.FfnInCtxIdeal.nD Cert.FfnInCtxIdeal.τ).loc Cert.FfnInCtxIdeal.main_arg2)
      ∧ r.2.mem ((c.tc : Thread Cert.FfnInCtxIdeal.nD Cert.FfnInCtxIdeal.τ).loc Cert.FfnInCtxIdeal.main_arg3) = m ((c.tc : Thread Cert.FfnInCtxIdeal.nD Cert.FfnInCtxIdeal.τ).loc Cert.FfnInCtxIdeal.main_arg3)
      ∧ r.2.mem ((c.tc : Thread Cert.FfnInCtxIdeal.nD Cert.FfnInCtxIdeal.τ).loc Cert.FfnInCtxIdeal.main_arg4) = m ((c.tc : Thread Cert.FfnInCtxIdeal.nD Cert.FfnInCtxIdeal.τ).loc Cert.FfnInCtxIdeal.main_arg4)
      ∧ r.2.mem ((c.tc : Thread Cert.FfnInCtxIdeal.nD Cert.FfnInCtxIdeal.τ).loc Cert.FfnInCtxIdeal.main_arg5) = m ((c.tc : Thread Cert.FfnInCtxIdeal.nD Cert.FfnInCtxIdeal.τ).loc Cert.FfnInCtxIdeal.main_arg5)
      ∧ r.2.mem ((c.tc : Thread Cert.FfnInCtxIdeal.nD Cert.FfnInCtxIdeal.τ).loc Cert.FfnInCtxIdeal.main_arg6) = m ((c.tc : Thread Cert.FfnInCtxIdeal.nD Cert.FfnInCtxIdeal.τ).loc Cert.FfnInCtxIdeal.main_arg6))
      ∧ r.2.sem = fun _ => 0)

def quiescent_InReferenceCtxIdeal [hInReferenceCtxIdeal : Cert.InReferenceCtxIdeal.Facts] : Prop :=
  ∀ (m : (ℓ : Loc Cert.InReferenceCtxIdeal.nD Cert.InReferenceCtxIdeal.τ Cert.InReferenceCtxIdeal.sig) → Buf (Elt Ideal) ℓ) (g : Dev Cert.InReferenceCtxIdeal.nD → PrngReg), Pre_InReferenceCtxIdeal m →
    θ_run (Cert.InReferenceCtxIdeal.defs (F := Ideal)) (onTc (τ := Cert.InReferenceCtxIdeal.τ) (Cert.InReferenceCtxIdeal.main (F := Ideal))) ⟨m, fun _ => 0, g⟩ (fun r => (∀ c : Dev Cert.InReferenceCtxIdeal.nD,
      r.2.mem ((c.tc : Thread Cert.InReferenceCtxIdeal.nD Cert.InReferenceCtxIdeal.τ).loc Cert.InReferenceCtxIdeal.main_arg0) = m ((c.tc : Thread Cert.InReferenceCtxIdeal.nD Cert.InReferenceCtxIdeal.τ).loc Cert.InReferenceCtxIdeal.main_arg0)
      ∧ r.2.mem ((c.tc : Thread Cert.InReferenceCtxIdeal.nD Cert.InReferenceCtxIdeal.τ).loc Cert.InReferenceCtxIdeal.main_arg1) = m ((c.tc : Thread Cert.InReferenceCtxIdeal.nD Cert.InReferenceCtxIdeal.τ).loc Cert.InReferenceCtxIdeal.main_arg1)
      ∧ r.2.mem ((c.tc : Thread Cert.InReferenceCtxIdeal.nD Cert.InReferenceCtxIdeal.τ).loc Cert.InReferenceCtxIdeal.main_arg2) = m ((c.tc : Thread Cert.InReferenceCtxIdeal.nD Cert.InReferenceCtxIdeal.τ).loc Cert.InReferenceCtxIdeal.main_arg2)
      ∧ r.2.mem ((c.tc : Thread Cert.InReferenceCtxIdeal.nD Cert.InReferenceCtxIdeal.τ).loc Cert.InReferenceCtxIdeal.main_arg3) = m ((c.tc : Thread Cert.InReferenceCtxIdeal.nD Cert.InReferenceCtxIdeal.τ).loc Cert.InReferenceCtxIdeal.main_arg3)
      ∧ r.2.mem ((c.tc : Thread Cert.InReferenceCtxIdeal.nD Cert.InReferenceCtxIdeal.τ).loc Cert.InReferenceCtxIdeal.main_arg4) = m ((c.tc : Thread Cert.InReferenceCtxIdeal.nD Cert.InReferenceCtxIdeal.τ).loc Cert.InReferenceCtxIdeal.main_arg4)
      ∧ r.2.mem ((c.tc : Thread Cert.InReferenceCtxIdeal.nD Cert.InReferenceCtxIdeal.τ).loc Cert.InReferenceCtxIdeal.main_arg5) = m ((c.tc : Thread Cert.InReferenceCtxIdeal.nD Cert.InReferenceCtxIdeal.τ).loc Cert.InReferenceCtxIdeal.main_arg5)
      ∧ r.2.mem ((c.tc : Thread Cert.InReferenceCtxIdeal.nD Cert.InReferenceCtxIdeal.τ).loc Cert.InReferenceCtxIdeal.main_arg6) = m ((c.tc : Thread Cert.InReferenceCtxIdeal.nD Cert.InReferenceCtxIdeal.τ).loc Cert.InReferenceCtxIdeal.main_arg6))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_OutFfn_OutFfnIdeal : Prop :=
  True

def algebraic_OutFfnIdeal_OutReferenceIdeal [hOutFfnIdeal : Cert.OutFfnIdeal.Facts] [hOutReferenceIdeal : Cert.OutReferenceIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutFfnIdeal m →
    (∀ c : Dev Cert.OutFfnIdeal.nD,
      m' ((c.tc : Thread Cert.OutReferenceIdeal.nD Cert.OutReferenceIdeal.τ).loc Cert.OutReferenceIdeal.main_arg0) = m ((c.tc : Thread Cert.OutFfnIdeal.nD Cert.OutFfnIdeal.τ).loc Cert.OutFfnIdeal.main_arg0)
      ∧ m' ((c.tc : Thread Cert.OutReferenceIdeal.nD Cert.OutReferenceIdeal.τ).loc Cert.OutReferenceIdeal.main_arg1) = m ((c.tc : Thread Cert.OutFfnIdeal.nD Cert.OutFfnIdeal.τ).loc Cert.OutFfnIdeal.main_arg1)
      ∧ m' ((c.tc : Thread Cert.OutReferenceIdeal.nD Cert.OutReferenceIdeal.τ).loc Cert.OutReferenceIdeal.main_arg2) = m ((c.tc : Thread Cert.OutFfnIdeal.nD Cert.OutFfnIdeal.τ).loc Cert.OutFfnIdeal.main_arg2)
      ∧ m' ((c.tc : Thread Cert.OutReferenceIdeal.nD Cert.OutReferenceIdeal.τ).loc Cert.OutReferenceIdeal.main_arg3) = m ((c.tc : Thread Cert.OutFfnIdeal.nD Cert.OutFfnIdeal.τ).loc Cert.OutFfnIdeal.main_arg3)
      ∧ m' ((c.tc : Thread Cert.OutReferenceIdeal.nD Cert.OutReferenceIdeal.τ).loc Cert.OutReferenceIdeal.main_arg4) = m ((c.tc : Thread Cert.OutFfnIdeal.nD Cert.OutFfnIdeal.τ).loc Cert.OutFfnIdeal.main_arg4)
      ∧ m' ((c.tc : Thread Cert.OutReferenceIdeal.nD Cert.OutReferenceIdeal.τ).loc Cert.OutReferenceIdeal.main_arg5) = m ((c.tc : Thread Cert.OutFfnIdeal.nD Cert.OutFfnIdeal.τ).loc Cert.OutFfnIdeal.main_arg5)
      ∧ m' ((c.tc : Thread Cert.OutReferenceIdeal.nD Cert.OutReferenceIdeal.τ).loc Cert.OutReferenceIdeal.main_arg6) = m ((c.tc : Thread Cert.OutFfnIdeal.nD Cert.OutFfnIdeal.τ).loc Cert.OutFfnIdeal.main_arg6)
      ∧ m' ((c.tc : Thread Cert.OutReferenceIdeal.nD Cert.OutReferenceIdeal.τ).loc Cert.OutReferenceIdeal.main_arg7) = m ((c.tc : Thread Cert.OutFfnIdeal.nD Cert.OutFfnIdeal.τ).loc Cert.OutFfnIdeal.main_arg7)
      ∧ m' ((c.tc : Thread Cert.OutReferenceIdeal.nD Cert.OutReferenceIdeal.τ).loc Cert.OutReferenceIdeal.main_arg8) = m ((c.tc : Thread Cert.OutFfnIdeal.nD Cert.OutFfnIdeal.τ).loc Cert.OutFfnIdeal.main_arg8)
      ∧ m' ((c.tc : Thread Cert.OutReferenceIdeal.nD Cert.OutReferenceIdeal.τ).loc Cert.OutReferenceIdeal.main_arg9) = m ((c.tc : Thread Cert.OutFfnIdeal.nD Cert.OutFfnIdeal.τ).loc Cert.OutFfnIdeal.main_arg9)
      ∧ m' ((c.tc : Thread Cert.OutReferenceIdeal.nD Cert.OutReferenceIdeal.τ).loc Cert.OutReferenceIdeal.main_arg10) = m ((c.tc : Thread Cert.OutFfnIdeal.nD Cert.OutFfnIdeal.τ).loc Cert.OutFfnIdeal.main_arg10)) →
    ∃ (v0 : (c : Dev Cert.OutFfnIdeal.nD) → Buf (Elt Ideal) ((c.tc : Thread Cert.OutFfnIdeal.nD Cert.OutFfnIdeal.τ).loc Cert.OutFfnIdeal.main_v12)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v12) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
          ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
          ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v128) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9)
          ∧ r.2.mem ((c.tc : Thread Cert.OutReferenceIdeal.nD Cert.OutReferenceIdeal.τ).loc Cert.OutReferenceIdeal.main_arg10) = m' ((c.tc : Thread Cert.OutReferenceIdeal.nD Cert.OutReferenceIdeal.τ).loc Cert.OutReferenceIdeal.main_arg10))

def preserves_FfnIn_FfnInIdeal : Prop :=
  True

def algebraic_FfnInIdeal_InReferenceIdeal [hFfnInIdeal : Cert.FfnInIdeal.Facts] [hInReferenceIdeal : Cert.InReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_FfnInIdeal m →
    (∀ c : Dev Cert.FfnInIdeal.nD,
      m' ((c.tc : Thread Cert.InReferenceIdeal.nD Cert.InReferenceIdeal.τ).loc Cert.InReferenceIdeal.main_arg0) = m ((c.tc : Thread Cert.FfnInIdeal.nD Cert.FfnInIdeal.τ).loc Cert.FfnInIdeal.main_arg0)
      ∧ m' ((c.tc : Thread Cert.InReferenceIdeal.nD Cert.InReferenceIdeal.τ).loc Cert.InReferenceIdeal.main_arg1) = m ((c.tc : Thread Cert.FfnInIdeal.nD Cert.FfnInIdeal.τ).loc Cert.FfnInIdeal.main_arg1)
      ∧ m' ((c.tc : Thread Cert.InReferenceIdeal.nD Cert.InReferenceIdeal.τ).loc Cert.InReferenceIdeal.main_arg2) = m ((c.tc : Thread Cert.FfnInIdeal.nD Cert.FfnInIdeal.τ).loc Cert.FfnInIdeal.main_arg2)
      ∧ m' ((c.tc : Thread Cert.InReferenceIdeal.nD Cert.InReferenceIdeal.τ).loc Cert.InReferenceIdeal.main_arg3) = m ((c.tc : Thread Cert.FfnInIdeal.nD Cert.FfnInIdeal.τ).loc Cert.FfnInIdeal.main_arg3)
      ∧ m' ((c.tc : Thread Cert.InReferenceIdeal.nD Cert.InReferenceIdeal.τ).loc Cert.InReferenceIdeal.main_arg4) = m ((c.tc : Thread Cert.FfnInIdeal.nD Cert.FfnInIdeal.τ).loc Cert.FfnInIdeal.main_arg4)
      ∧ m' ((c.tc : Thread Cert.InReferenceIdeal.nD Cert.InReferenceIdeal.τ).loc Cert.InReferenceIdeal.main_arg5) = m ((c.tc : Thread Cert.FfnInIdeal.nD Cert.FfnInIdeal.τ).loc Cert.FfnInIdeal.main_arg5)
      ∧ m' ((c.tc : Thread Cert.InReferenceIdeal.nD Cert.InReferenceIdeal.τ).loc Cert.InReferenceIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v9_0)) (v1 : (c : Dev Cert.FfnInIdeal.nD) → Buf (Elt Ideal) ((c.tc : Thread Cert.FfnInIdeal.nD Cert.FfnInIdeal.τ).loc Cert.FfnInIdeal.main_v9_1)) (v2 : (c : Dev Cert.FfnInIdeal.nD) → Buf (Elt Ideal) ((c.tc : Thread Cert.FfnInIdeal.nD Cert.FfnInIdeal.τ).loc Cert.FfnInIdeal.main_v9_2)) (v3 : (c : Dev Cert.FfnInIdeal.nD) → Buf (Elt Ideal) ((c.tc : Thread Cert.FfnInIdeal.nD Cert.FfnInIdeal.τ).loc Cert.FfnInIdeal.main_v9_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v9_0) = v0 c
          ∧ r.2.mem ((c.tc : Thread Cert.FfnInIdeal.nD Cert.FfnInIdeal.τ).loc Cert.FfnInIdeal.main_v9_1) = v1 c
          ∧ r.2.mem ((c.tc : Thread Cert.FfnInIdeal.nD Cert.FfnInIdeal.τ).loc Cert.FfnInIdeal.main_v9_2) = v2 c
          ∧ r.2.mem ((c.tc : Thread Cert.FfnInIdeal.nD Cert.FfnInIdeal.τ).loc Cert.FfnInIdeal.main_v9_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v79) = v0 c
          ∧ r.2.mem ((c.tc : Thread Cert.InReferenceIdeal.nD Cert.InReferenceIdeal.τ).loc Cert.InReferenceIdeal.main_v81) = v1 c
          ∧ r.2.mem ((c.tc : Thread Cert.InReferenceIdeal.nD Cert.InReferenceIdeal.τ).loc Cert.InReferenceIdeal.main_v82) = v2 c
          ∧ r.2.mem ((c.tc : Thread Cert.InReferenceIdeal.nD Cert.InReferenceIdeal.τ).loc Cert.InReferenceIdeal.main_v83) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6))

def preserves_Ada_AdaIdeal : Prop :=
  True

def algebraic_AdaIdeal_AdaReferenceIdeal_pre_bounded [hAdaIdeal : Cert.AdaIdeal.Facts] [hAdaReferenceIdeal : Cert.AdaReferenceIdeal.Facts] [hPre_bounded : Cert.Pre_bounded.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal_bounded m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v8)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v8) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v14) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_FfnInCtx_FfnInCtxIdeal : Prop :=
  True

def algebraic_FfnInCtxIdeal_InReferenceCtxIdeal [hFfnInCtxIdeal : Cert.FfnInCtxIdeal.Facts] [hInReferenceCtxIdeal : Cert.InReferenceCtxIdeal.Facts] : Prop :=
  ∀ (m : (ℓ : Loc Cert.FfnInCtxIdeal.nD Cert.FfnInCtxIdeal.τ Cert.FfnInCtxIdeal.sig) → Buf (Elt Ideal) ℓ) (g : Dev Cert.FfnInCtxIdeal.nD → PrngReg)
    (m' : (ℓ : Loc Cert.InReferenceCtxIdeal.nD Cert.InReferenceCtxIdeal.τ Cert.InReferenceCtxIdeal.sig) → Buf (Elt Ideal) ℓ) (g' : Dev Cert.InReferenceCtxIdeal.nD → PrngReg), Pre_FfnInCtxIdeal m →
    (∀ c : Dev Cert.FfnInCtxIdeal.nD,
      m' ((c.tc : Thread Cert.InReferenceCtxIdeal.nD Cert.InReferenceCtxIdeal.τ).loc Cert.InReferenceCtxIdeal.main_arg0) = m ((c.tc : Thread Cert.FfnInCtxIdeal.nD Cert.FfnInCtxIdeal.τ).loc Cert.FfnInCtxIdeal.main_arg0)
      ∧ m' ((c.tc : Thread Cert.InReferenceCtxIdeal.nD Cert.InReferenceCtxIdeal.τ).loc Cert.InReferenceCtxIdeal.main_arg1) = m ((c.tc : Thread Cert.FfnInCtxIdeal.nD Cert.FfnInCtxIdeal.τ).loc Cert.FfnInCtxIdeal.main_arg1)
      ∧ m' ((c.tc : Thread Cert.InReferenceCtxIdeal.nD Cert.InReferenceCtxIdeal.τ).loc Cert.InReferenceCtxIdeal.main_arg2) = m ((c.tc : Thread Cert.FfnInCtxIdeal.nD Cert.FfnInCtxIdeal.τ).loc Cert.FfnInCtxIdeal.main_arg2)
      ∧ m' ((c.tc : Thread Cert.InReferenceCtxIdeal.nD Cert.InReferenceCtxIdeal.τ).loc Cert.InReferenceCtxIdeal.main_arg3) = m ((c.tc : Thread Cert.FfnInCtxIdeal.nD Cert.FfnInCtxIdeal.τ).loc Cert.FfnInCtxIdeal.main_arg3)
      ∧ m' ((c.tc : Thread Cert.InReferenceCtxIdeal.nD Cert.InReferenceCtxIdeal.τ).loc Cert.InReferenceCtxIdeal.main_arg4) = m ((c.tc : Thread Cert.FfnInCtxIdeal.nD Cert.FfnInCtxIdeal.τ).loc Cert.FfnInCtxIdeal.main_arg4)
      ∧ m' ((c.tc : Thread Cert.InReferenceCtxIdeal.nD Cert.InReferenceCtxIdeal.τ).loc Cert.InReferenceCtxIdeal.main_arg5) = m ((c.tc : Thread Cert.FfnInCtxIdeal.nD Cert.FfnInCtxIdeal.τ).loc Cert.FfnInCtxIdeal.main_arg5)
      ∧ m' ((c.tc : Thread Cert.InReferenceCtxIdeal.nD Cert.InReferenceCtxIdeal.τ).loc Cert.InReferenceCtxIdeal.main_arg6) = m ((c.tc : Thread Cert.FfnInCtxIdeal.nD Cert.FfnInCtxIdeal.τ).loc Cert.FfnInCtxIdeal.main_arg6)) →
    ∃ (v0 : (c : Dev Cert.FfnInCtxIdeal.nD) → Buf (Elt Ideal) ((c.tc : Thread Cert.FfnInCtxIdeal.nD Cert.FfnInCtxIdeal.τ).loc Cert.FfnInCtxIdeal.main_v10_0)) (v1 : (c : Dev Cert.FfnInCtxIdeal.nD) → Buf (Elt Ideal) ((c.tc : Thread Cert.FfnInCtxIdeal.nD Cert.FfnInCtxIdeal.τ).loc Cert.FfnInCtxIdeal.main_v10_1)) (v2 : (c : Dev Cert.FfnInCtxIdeal.nD) → Buf (Elt Ideal) ((c.tc : Thread Cert.FfnInCtxIdeal.nD Cert.FfnInCtxIdeal.τ).loc Cert.FfnInCtxIdeal.main_v10_2)) (v3 : (c : Dev Cert.FfnInCtxIdeal.nD) → Buf (Elt Ideal) ((c.tc : Thread Cert.FfnInCtxIdeal.nD Cert.FfnInCtxIdeal.τ).loc Cert.FfnInCtxIdeal.main_v10_3)),
      θ_run (Cert.FfnInCtxIdeal.defs (F := Ideal)) (onTc (τ := Cert.FfnInCtxIdeal.τ) (Cert.FfnInCtxIdeal.main (F := Ideal))) ⟨m, fun _ => 0, g⟩ (fun r => ∀ c : Dev Cert.FfnInCtxIdeal.nD,
          r.2.mem ((c.tc : Thread Cert.FfnInCtxIdeal.nD Cert.FfnInCtxIdeal.τ).loc Cert.FfnInCtxIdeal.main_v10_0) = v0 c
          ∧ r.2.mem ((c.tc : Thread Cert.FfnInCtxIdeal.nD Cert.FfnInCtxIdeal.τ).loc Cert.FfnInCtxIdeal.main_v10_1) = v1 c
          ∧ r.2.mem ((c.tc : Thread Cert.FfnInCtxIdeal.nD Cert.FfnInCtxIdeal.τ).loc Cert.FfnInCtxIdeal.main_v10_2) = v2 c
          ∧ r.2.mem ((c.tc : Thread Cert.FfnInCtxIdeal.nD Cert.FfnInCtxIdeal.τ).loc Cert.FfnInCtxIdeal.main_v10_3) = v3 c
          ∧ r.2.mem ((c.tc : Thread Cert.FfnInCtxIdeal.nD Cert.FfnInCtxIdeal.τ).loc Cert.FfnInCtxIdeal.main_arg0) = m ((c.tc : Thread Cert.FfnInCtxIdeal.nD Cert.FfnInCtxIdeal.τ).loc Cert.FfnInCtxIdeal.main_arg0)
          ∧ r.2.mem ((c.tc : Thread Cert.FfnInCtxIdeal.nD Cert.FfnInCtxIdeal.τ).loc Cert.FfnInCtxIdeal.main_arg1) = m ((c.tc : Thread Cert.FfnInCtxIdeal.nD Cert.FfnInCtxIdeal.τ).loc Cert.FfnInCtxIdeal.main_arg1)
          ∧ r.2.mem ((c.tc : Thread Cert.FfnInCtxIdeal.nD Cert.FfnInCtxIdeal.τ).loc Cert.FfnInCtxIdeal.main_arg2) = m ((c.tc : Thread Cert.FfnInCtxIdeal.nD Cert.FfnInCtxIdeal.τ).loc Cert.FfnInCtxIdeal.main_arg2)
          ∧ r.2.mem ((c.tc : Thread Cert.FfnInCtxIdeal.nD Cert.FfnInCtxIdeal.τ).loc Cert.FfnInCtxIdeal.main_arg3) = m ((c.tc : Thread Cert.FfnInCtxIdeal.nD Cert.FfnInCtxIdeal.τ).loc Cert.FfnInCtxIdeal.main_arg3)
          ∧ r.2.mem ((c.tc : Thread Cert.FfnInCtxIdeal.nD Cert.FfnInCtxIdeal.τ).loc Cert.FfnInCtxIdeal.main_arg4) = m ((c.tc : Thread Cert.FfnInCtxIdeal.nD Cert.FfnInCtxIdeal.τ).loc Cert.FfnInCtxIdeal.main_arg4)
          ∧ r.2.mem ((c.tc : Thread Cert.FfnInCtxIdeal.nD Cert.FfnInCtxIdeal.τ).loc Cert.FfnInCtxIdeal.main_arg5) = m ((c.tc : Thread Cert.FfnInCtxIdeal.nD Cert.FfnInCtxIdeal.τ).loc Cert.FfnInCtxIdeal.main_arg5)
          ∧ r.2.mem ((c.tc : Thread Cert.FfnInCtxIdeal.nD Cert.FfnInCtxIdeal.τ).loc Cert.FfnInCtxIdeal.main_arg6) = m ((c.tc : Thread Cert.FfnInCtxIdeal.nD Cert.FfnInCtxIdeal.τ).loc Cert.FfnInCtxIdeal.main_arg6))
      ∧ θ_run (Cert.InReferenceCtxIdeal.defs (F := Ideal)) (onTc (τ := Cert.InReferenceCtxIdeal.τ) (Cert.InReferenceCtxIdeal.main (F := Ideal))) ⟨m', fun _ => 0, g'⟩ (fun r => ∀ c : Dev Cert.InReferenceCtxIdeal.nD,
          r.2.mem ((c.tc : Thread Cert.InReferenceCtxIdeal.nD Cert.InReferenceCtxIdeal.τ).loc Cert.InReferenceCtxIdeal.main_v84) = v0 c
          ∧ r.2.mem ((c.tc : Thread Cert.InReferenceCtxIdeal.nD Cert.InReferenceCtxIdeal.τ).loc Cert.InReferenceCtxIdeal.main_v86) = v1 c
          ∧ r.2.mem ((c.tc : Thread Cert.InReferenceCtxIdeal.nD Cert.InReferenceCtxIdeal.τ).loc Cert.InReferenceCtxIdeal.main_v87) = v2 c
          ∧ r.2.mem ((c.tc : Thread Cert.InReferenceCtxIdeal.nD Cert.InReferenceCtxIdeal.τ).loc Cert.InReferenceCtxIdeal.main_v88) = v3 c
          ∧ r.2.mem ((c.tc : Thread Cert.InReferenceCtxIdeal.nD Cert.InReferenceCtxIdeal.τ).loc Cert.InReferenceCtxIdeal.main_arg0) = m' ((c.tc : Thread Cert.InReferenceCtxIdeal.nD Cert.InReferenceCtxIdeal.τ).loc Cert.InReferenceCtxIdeal.main_arg0)
          ∧ r.2.mem ((c.tc : Thread Cert.InReferenceCtxIdeal.nD Cert.InReferenceCtxIdeal.τ).loc Cert.InReferenceCtxIdeal.main_arg1) = m' ((c.tc : Thread Cert.InReferenceCtxIdeal.nD Cert.InReferenceCtxIdeal.τ).loc Cert.InReferenceCtxIdeal.main_arg1)
          ∧ r.2.mem ((c.tc : Thread Cert.InReferenceCtxIdeal.nD Cert.InReferenceCtxIdeal.τ).loc Cert.InReferenceCtxIdeal.main_arg2) = m' ((c.tc : Thread Cert.InReferenceCtxIdeal.nD Cert.InReferenceCtxIdeal.τ).loc Cert.InReferenceCtxIdeal.main_arg2)
          ∧ r.2.mem ((c.tc : Thread Cert.InReferenceCtxIdeal.nD Cert.InReferenceCtxIdeal.τ).loc Cert.InReferenceCtxIdeal.main_arg3) = m' ((c.tc : Thread Cert.InReferenceCtxIdeal.nD Cert.InReferenceCtxIdeal.τ).loc Cert.InReferenceCtxIdeal.main_arg3)
          ∧ r.2.mem ((c.tc : Thread Cert.InReferenceCtxIdeal.nD Cert.InReferenceCtxIdeal.τ).loc Cert.InReferenceCtxIdeal.main_arg4) = m' ((c.tc : Thread Cert.InReferenceCtxIdeal.nD Cert.InReferenceCtxIdeal.τ).loc Cert.InReferenceCtxIdeal.main_arg4)
          ∧ r.2.mem ((c.tc : Thread Cert.InReferenceCtxIdeal.nD Cert.InReferenceCtxIdeal.τ).loc Cert.InReferenceCtxIdeal.main_arg5) = m' ((c.tc : Thread Cert.InReferenceCtxIdeal.nD Cert.InReferenceCtxIdeal.τ).loc Cert.InReferenceCtxIdeal.main_arg5)
          ∧ r.2.mem ((c.tc : Thread Cert.InReferenceCtxIdeal.nD Cert.InReferenceCtxIdeal.τ).loc Cert.InReferenceCtxIdeal.main_arg6) = m' ((c.tc : Thread Cert.InReferenceCtxIdeal.nD Cert.InReferenceCtxIdeal.τ).loc Cert.InReferenceCtxIdeal.main_arg6))

def Claim : Prop :=
  ∃ (hKernel : Cert.Kernel.Facts) (hKernelIdeal : Cert.KernelIdeal.Facts) (hReferenceIdeal : Cert.ReferenceIdeal.Facts) (hOutFfn : Cert.OutFfn.Facts) (hOutFfnIdeal : Cert.OutFfnIdeal.Facts) (hOutReferenceIdeal : Cert.OutReferenceIdeal.Facts) (hFfnIn : Cert.FfnIn.Facts) (hFfnInIdeal : Cert.FfnInIdeal.Facts) (hInReferenceIdeal : Cert.InReferenceIdeal.Facts) (hAda : Cert.Ada.Facts) (hAdaIdeal : Cert.AdaIdeal.Facts) (hAdaReferenceIdeal : Cert.AdaReferenceIdeal.Facts) (hFfnInCtx : Cert.FfnInCtx.Facts) (hFfnInCtxIdeal : Cert.FfnInCtxIdeal.Facts) (hInReferenceCtxIdeal : Cert.InReferenceCtxIdeal.Facts) (hPre_well_posed : Cert.Pre_well_posed.Facts) (hPre_bounded : Cert.Pre_bounded.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ quiescent_OutFfn (hOutFfn := hOutFfn)
    ∧ quiescent_OutFfnIdeal (hOutFfnIdeal := hOutFfnIdeal)
    ∧ quiescent_OutReferenceIdeal (hOutReferenceIdeal := hOutReferenceIdeal)
    ∧ quiescent_FfnIn (hFfnIn := hFfnIn)
    ∧ quiescent_FfnInIdeal (hFfnInIdeal := hFfnInIdeal)
    ∧ quiescent_InReferenceIdeal (hInReferenceIdeal := hInReferenceIdeal)
    ∧ quiescent_Ada (hAda := hAda)
    ∧ quiescent_AdaIdeal (hAdaIdeal := hAdaIdeal)
    ∧ quiescent_AdaIdeal_pre_bounded (hAdaIdeal := hAdaIdeal) (hPre_bounded := hPre_bounded)
    ∧ quiescent_AdaReferenceIdeal (hAdaReferenceIdeal := hAdaReferenceIdeal)
    ∧ quiescent_AdaReferenceIdeal_pre_bounded (hAdaReferenceIdeal := hAdaReferenceIdeal) (hPre_bounded := hPre_bounded)
    ∧ quiescent_FfnInCtx (hFfnInCtx := hFfnInCtx)
    ∧ quiescent_FfnInCtxIdeal (hFfnInCtxIdeal := hFfnInCtxIdeal)
    ∧ quiescent_InReferenceCtxIdeal (hInReferenceCtxIdeal := hInReferenceCtxIdeal)
    ∧ preserves_Kernel_KernelIdeal
    ∧ algebraic_KernelIdeal_ReferenceIdeal_pre_well_posed (hKernelIdeal := hKernelIdeal) (hReferenceIdeal := hReferenceIdeal) (hPre_well_posed := hPre_well_posed)
    ∧ preserves_OutFfn_OutFfnIdeal
    ∧ algebraic_OutFfnIdeal_OutReferenceIdeal (hOutFfnIdeal := hOutFfnIdeal) (hOutReferenceIdeal := hOutReferenceIdeal)
    ∧ preserves_FfnIn_FfnInIdeal
    ∧ algebraic_FfnInIdeal_InReferenceIdeal (hFfnInIdeal := hFfnInIdeal) (hInReferenceIdeal := hInReferenceIdeal)
    ∧ preserves_Ada_AdaIdeal
    ∧ algebraic_AdaIdeal_AdaReferenceIdeal_pre_bounded (hAdaIdeal := hAdaIdeal) (hAdaReferenceIdeal := hAdaReferenceIdeal) (hPre_bounded := hPre_bounded)
    ∧ preserves_FfnInCtx_FfnInCtxIdeal
    ∧ algebraic_FfnInCtxIdeal_InReferenceCtxIdeal (hFfnInCtxIdeal := hFfnInCtxIdeal) (hInReferenceCtxIdeal := hInReferenceCtxIdeal)
-- ==== Pre_bounded.lean ====
abbrev S8x1024 : Shape := ⟨2, ![8, 1024]⟩
abbrev S1024 : Shape := ⟨1, ![1024]⟩
abbrev S1x1024x9216 : Shape := ⟨3, ![1, 1024, 9216]⟩
abbrev S1x9216 : Shape := ⟨2, ![1, 9216]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024x9216 : S_.BroadcastsInDim S1x1024x9216 (![] : Fin 0 → Fin S1x1024x9216.rank)
  reducesTo_S1x1024x9216_S_d0_1_2 : S1x1024x9216.ReducesTo [0, 1, 2] S_

variable [Facts]

def fn {F : FTy → Type} [FloatOps F] (main_arg0 : FVec F S8x1024 .f32) (main_arg1 : FVec F S1024 .f32) (main_arg2 : FVec F S1x1024x9216 .f32) (main_arg3 : FVec F S1x9216 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1x1024x9216 .f32 := Host.absf main_arg2
  let main_cst_3 : FVec F S_ .f32 := constant S_ .f32 0x7F800000#32
  let main_v11 : FVec F S1x1024x9216 .f32 := broadcastInDim S1x1024x9216 ![] bcast_S_S1x1024x9216 main_cst_3
  let main_v12 : IVec S1x1024x9216 1 := cmpf .olt main_v10 main_v11
  let main_c_4 : IVec S_ 1 := constantI S_ 1 1#1
  let main_v13 : IVec S_ 1 := (fun x v => Host.reduce IntOp.andi x v reducesTo_S1x1024x9216_S_d0_1_2 h_S_) main_v12 main_c_4
  let main_v14 : IVec S_ 1 := andi main_v9 main_v13
  main_v14
-- ==== Pre_well_posed.lean ====
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S16x256 : Shape := ⟨2, ![16, 256]⟩
abbrev S_ : Shape := ⟨0, ![]⟩

class Facts : Prop where
  bcast_S_S1x2x32x64 : S_.BroadcastsInDim S1x2x32x64 (![] : Fin 0 → Fin S1x2x32x64.rank)
  reducesTo_S1x2x32x64_S_d0_1_2_3 : S1x2x32x64.ReducesTo [0, 1, 2, 3] S_
  h_S_ : 0 < S_.numel
  bcast_S_S1x2x32 : S_.BroadcastsInDim S1x2x32 (![] : Fin 0 → Fin S1x2x32.rank)
  reducesTo_S1x2x32_S_d0_1_2 : S1x2x32.ReducesTo [0, 1, 2] S_
  bcast_S_S1x2x32x64x16 : S_.BroadcastsInDim S1x2x32x64x16 (![] : Fin 0 → Fin S1x2x32x64x16.rank)
  reducesTo_S1x2x32x64x16_S_d0_1_2_3_4 : S1x2x32x64x16.ReducesTo [0, 1, 2, 3, 4] S_
  bcast_S_S1x2x32x16x64 : S_.BroadcastsInDim S1x2x32x16x64 (![] : Fin 0 → Fin S1x2x32x16x64.rank)
  reducesTo_S1x2x32x16x64_S_d0_1_2_3_4 : S1x2x32x16x64.ReducesTo [0, 1, 2, 3, 4] S_
  bcast_S_S16x256 : S_.BroadcastsInDim S16x256 (![] : Fin 0 → Fin S16x256.rank)
  reducesTo_S16x256_S_d0_1 : S16x256.ReducesTo [0, 1] S_

variable [Facts]

def fn_where {F : FTy → Type} [FloatOps F] (arg0 : IVec S16x256 1) (arg1 : FVec F S_ .f32) (arg2 : FVec F S_ .f32) : FVec F S16x256 .f32 :=
  let v0 : FVec F S16x256 .f32 := broadcastInDim S16x256 ![] bcast_S_S16x256 arg1
  let v1 : FVec F S16x256 .f32 := broadcastInDim S16x256 ![] bcast_S_S16x256 arg2
  let v2 : FVec F S16x256 .f32 := select arg0 v0 v1
  v2

def fn_part3 {F : FTy → Type} [FloatOps F] (main_arg7 : FVec F S16x256 .f32) (main_v34 : IVec S_ 1) (main_v40 : IVec S_ 1) (main_v50 : FVec F S16x256 .f32) : IVec S_ 1 :=
  let main_v51 : FVec F S16x256 .f32 := id main_v50
  let main_v52 : IVec S16x256 1 := cmpf .oeq main_arg7 main_v51
  let main_c_19 : IVec S_ 1 := constantI S_ 1 1#1
  let main_v53 : IVec S_ 1 := (fun x v => Host.reduce IntOp.andi x v reducesTo_S16x256_S_d0_1 h_S_) main_v52 main_c_19
  let main_v54 : IVec S_ 1 := andi main_v34 main_v40
  let main_v55 : IVec S_ 1 := andi main_v54 main_v53
  main_v55

def fn_part2 {F : FTy → Type} [FloatOps F] (main_arg0 : FVec F S1x2x32x64 .f32) (main_arg1 : FVec F S1x2x32x64 .f32) (main_arg7 : FVec F S16x256 .f32) (main_v29 : IVec S_ 1) (main_v32 : IVec S1x2x32x16x64 1) (main_c_12 : IVec S_ 1) : IVec S_ 1 :=
  let main_v33 : IVec S_ 1 := (fun x v => Host.reduce IntOp.andi x v reducesTo_S1x2x32x16x64_S_d0_1_2_3_4 h_S_) main_v32 main_c_12
  let main_v34 : IVec S_ 1 := andi main_v29 main_v33
  let main_v35 : FVec F S1x2x32x64 .f32 := mulf main_arg0 main_arg0
  let main_v36 : FVec F S1x2x32x64 .f32 := mulf main_arg1 main_arg1
  let main_v37 : FVec F S1x2x32x64 .f32 := addf main_v35 main_v36
  let main_cst_13 : FVec F S_ .f32 := constant S_ .f32 0x00000000#32
  let main_v38 : FVec F S1x2x32x64 .f32 := broadcastInDim S1x2x32x64 ![] bcast_S_S1x2x32x64 main_cst_13
  let main_v39 : IVec S1x2x32x64 1 := cmpf .ogt main_v37 main_v38
  let main_c_14 : IVec S_ 1 := constantI S_ 1 1#1
  let main_v40 : IVec S_ 1 := (fun x v => Host.reduce IntOp.andi x v reducesTo_S1x2x32x64_S_d0_1_2_3 h_S_) main_v39 main_c_14
  let main_v41 : IVec S16x256 32 := iotaInDim S16x256 32 1
  let main_v42 : IVec S16x256 32 := iotaInDim S16x256 32 0
  let main_c_15 : IVec S_ 32 := constantI S_ 32 16#32
  let main_v43 : IVec S16x256 32 := broadcastInDim S16x256 ![] bcast_S_S16x256 main_c_15
  let main_v44 : IVec S16x256 32 := muli main_v43 main_v42
  let main_v45 : IVec S16x256 1 := cmpi .sle main_v44 main_v41
  let main_c_16 : IVec S_ 32 := constantI S_ 32 16#32
  let main_v46 : IVec S16x256 32 := broadcastInDim S16x256 ![] bcast_S_S16x256 main_c_16
  let main_v47 : IVec S16x256 32 := addi main_v44 main_v46
  let main_v48 : IVec S16x256 1 := cmpi .slt main_v41 main_v47
  let main_v49 : IVec S16x256 1 := andi main_v45 main_v48
  let main_cst_17 : FVec F S_ .f32 := constant S_ .f32 0x3F800000#32
  let main_cst_18 : FVec F S_ .f32 := constant S_ .f32 0x00000000#32
  let main_v50 : FVec F S16x256 .f32 := fn_where (F := F) main_v49 main_cst_17 main_cst_18
  fn_part3 (F := F) main_arg7 main_v34 main_v40 main_v50

def fn_part1 {F : FTy → Type} [FloatOps F] (main_arg0 : FVec F S1x2x32x64 .f32) (main_arg1 : FVec F S1x2x32x64 .f32) (main_arg4 : FVec F S1x2x32x64x16 .f32) (main_arg5 : FVec F S1x2x32x16x64 .f32) (main_arg6 : FVec F S1x2x32x16x64 .f32) (main_arg7 : FVec F S16x256 .f32) (main_v14 : IVec S_ 1) (main_v15 : FVec F S1x2x32x64x16 .f32) (main_cst_5 : FVec F S_ .f32) : IVec S_ 1 :=
  let main_v16 : FVec F S1x2x32x64x16 .f32 := broadcastInDim S1x2x32x64x16 ![] bcast_S_S1x2x32x64x16 main_cst_5
  let main_v17 : IVec S1x2x32x64x16 1 := cmpf .olt main_v15 main_v16
  let main_c_6 : IVec S_ 1 := constantI S_ 1 1#1
  let main_v18 : IVec S_ 1 := (fun x v => Host.reduce IntOp.andi x v reducesTo_S1x2x32x64x16_S_d0_1_2_3_4 h_S_) main_v17 main_c_6
  let main_v19 : IVec S_ 1 := andi main_v14 main_v18
  let main_v20 : FVec F S1x2x32x64x16 .f32 := Host.absf main_arg4
  let main_cst_7 : FVec F S_ .f32 := constant S_ .f32 0x7F800000#32
  let main_v21 : FVec F S1x2x32x64x16 .f32 := broadcastInDim S1x2x32x64x16 ![] bcast_S_S1x2x32x64x16 main_cst_7
  let main_v22 : IVec S1x2x32x64x16 1 := cmpf .olt main_v20 main_v21
  let main_c_8 : IVec S_ 1 := constantI S_ 1 1#1
  let main_v23 : IVec S_ 1 := (fun x v => Host.reduce IntOp.andi x v reducesTo_S1x2x32x64x16_S_d0_1_2_3_4 h_S_) main_v22 main_c_8
  let main_v24 : IVec S_ 1 := andi main_v19 main_v23
  let main_v25 : FVec F S1x2x32x16x64 .f32 := Host.absf main_arg5
  let main_cst_9 : FVec F S_ .f32 := constant S_ .f32 0x7F800000#32
  let main_v26 : FVec F S1x2x32x16x64 .f32 := broadcastInDim S1x2x32x16x64 ![] bcast_S_S1x2x32x16x64 main_cst_9
  let main_v27 : IVec S1x2x32x16x64 1 := cmpf .olt main_v25 main_v26
  let main_c_10 : IVec S_ 1 := constantI S_ 1 1#1
  let main_v28 : IVec S_ 1 := (fun x v => Host.reduce IntOp.andi x v reducesTo_S1x2x32x16x64_S_d0_1_2_3_4 h_S_) main_v27 main_c_10
  let main_v29 : IVec S_ 1 := andi main_v24 main_v28
  let main_v30 : FVec F S1x2x32x16x64 .f32 := Host.absf main_arg6
  let main_cst_11 : FVec F S_ .f32 := constant S_ .f32 0x7F800000#32
  let main_v31 : FVec F S1x2x32x16x64 .f32 := broadcastInDim S1x2x32x16x64 ![] bcast_S_S1x2x32x16x64 main_cst_11
  let main_v32 : IVec S1x2x32x16x64 1 := cmpf .olt main_v30 main_v31
  let main_c_12 : IVec S_ 1 := constantI S_ 1 1#1
  fn_part2 (F := F) main_arg0 main_arg1 main_arg7 main_v29 main_v32 main_c_12

def fn {F : FTy → Type} [FloatOps F] (main_arg0 : FVec F S1x2x32x64 .f32) (main_arg1 : FVec F S1x2x32x64 .f32) (main_arg2 : FVec F S1x2x32 .f32) (main_arg3 : FVec F S1x2x32x64x16 .f32) (main_arg4 : FVec F S1x2x32x64x16 .f32) (main_arg5 : FVec F S1x2x32x16x64 .f32) (main_arg6 : FVec F S1x2x32x16x64 .f32) (main_arg7 : FVec F S16x256 .f32) : IVec S_ 1 :=
  let main_v0 : FVec F S1x2x32x64 .f32 := Host.absf main_arg0
  let main_cst : FVec F S_ .f32 := constant S_ .f32 0x7F800000#32
  let main_v1 : FVec F S1x2x32x64 .f32 := broadcastInDim S1x2x32x64 ![] bcast_S_S1x2x32x64 main_cst
  let main_v2 : IVec S1x2x32x64 1 := cmpf .olt main_v0 main_v1
  let main_c : IVec S_ 1 := constantI S_ 1 1#1
  let main_v3 : IVec S_ 1 := (fun x v => Host.reduce IntOp.andi x v reducesTo_S1x2x32x64_S_d0_1_2_3 h_S_) main_v2 main_c
  let main_c_0 : IVec S_ 1 := constantI S_ 1 1#1
  let main_v4 : IVec S_ 1 := andi main_c_0 main_v3
  let main_v5 : FVec F S1x2x32x64 .f32 := Host.absf main_arg1
  let main_cst_1 : FVec F S_ .f32 := constant S_ .f32 0x7F800000#32
  let main_v6 : FVec F S1x2x32x64 .f32 := broadcastInDim S1x2x32x64 ![] bcast_S_S1x2x32x64 main_cst_1
  let main_v7 : IVec S1x2x32x64 1 := cmpf .olt main_v5 main_v6
  let main_c_2 : IVec S_ 1 := constantI S_ 1 1#1
  let main_v8 : IVec S_ 1 := (fun x v => Host.reduce IntOp.andi x v reducesTo_S1x2x32x64_S_d0_1_2_3 h_S_) main_v7 main_c_2
  let main_v9 : IVec S_ 1 := andi main_v4 main_v8
  let main_v10 : FVec F S1x2x32 .f32 := Host.absf main_arg2
  let main_cst_3 : FVec F S_ .f32 := constant S_ .f32 0x7F800000#32
  let main_v11 : FVec F S1x2x32 .f32 := broadcastInDim S1x2x32 ![] bcast_S_S1x2x32 main_cst_3
  let main_v12 : IVec S1x2x32 1 := cmpf .olt main_v10 main_v11
  let main_c_4 : IVec S_ 1 := constantI S_ 1 1#1
  let main_v13 : IVec S_ 1 := (fun x v => Host.reduce IntOp.andi x v reducesTo_S1x2x32_S_d0_1_2 h_S_) main_v12 main_c_4
  let main_v14 : IVec S_ 1 := andi main_v9 main_v13
  let main_v15 : FVec F S1x2x32x64x16 .f32 := Host.absf main_arg3
  let main_cst_5 : FVec F S_ .f32 := constant S_ .f32 0x7F800000#32
  fn_part1 (F := F) main_arg0 main_arg1 main_arg4 main_arg5 main_arg6 main_arg7 main_v14 main_v15 main_cst_5
-- ==== Kernel.lean ====
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S16x256 : Shape := ⟨2, ![16, 256]⟩
abbrev S2x1x1x16 : Shape := ⟨4, ![2, 1, 1, 16]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x32x1 : Shape := ⟨3, ![2, 32, 1]⟩
abbrev S_ : Shape := ⟨0, ![]⟩
abbrev S2x32x1x64 : Shape := ⟨4, ![2, 32, 1, 64]⟩
abbrev S2x32x64x256 : Shape := ⟨4, ![2, 32, 64, 256]⟩
abbrev S2x32x64x1 : Shape := ⟨4, ![2, 32, 64, 1]⟩
abbrev S2x32x128x256 : Shape := ⟨4, ![2, 32, 128, 256]⟩
abbrev S2x32x16x128 : Shape := ⟨4, ![2, 32, 16, 128]⟩
abbrev S32x256x256 : Shape := ⟨3, ![32, 256, 256]⟩
abbrev S2x8x16x128 : Shape := ⟨4, ![2, 8, 16, 128]⟩
abbrev S2x8x128x256 : Shape := ⟨4, ![2, 8, 128, 256]⟩
abbrev S8x256x256 : Shape := ⟨3, ![8, 256, 256]⟩
abbrev S1x256 : Shape := ⟨2, ![1, 256]⟩
abbrev S1x1x16x128 : Shape := ⟨4, ![1, 1, 16, 128]⟩
abbrev S16x128 : Shape := ⟨2, ![16, 128]⟩
abbrev S1x1x128x256 : Shape := ⟨4, ![1, 1, 128, 256]⟩
abbrev S128x256 : Shape := ⟨2, ![128, 256]⟩
abbrev S1x16x256 : Shape := ⟨3, ![1, 16, 256]⟩

abbrev nBuf : Space → Nat
  | .hbm => 87
  | .vmem => 6
  | .smem => 0
  | _ => 0

abbrev bufTy : (tb : Table) → Fin (tcTables nBuf tb) → BufTy
  | .hbm, ⟨0, _⟩ => ⟨S1x2x32x64, .f32⟩
  | .hbm, ⟨1, _⟩ => ⟨S1x2x32x64, .f32⟩
  | .hbm, ⟨2, _⟩ => ⟨S1x2x32, .f32⟩
  | .hbm, ⟨3, _⟩ => ⟨S1x2x32x64x16, .f32⟩
  | .hbm, ⟨4, _⟩ => ⟨S1x2x32x64x16, .f32⟩
  | .hbm, ⟨5, _⟩ => ⟨S1x2x32x16x64, .f32⟩
  | .hbm, ⟨6, _⟩ => ⟨S1x2x32x16x64, .f32⟩
  | .hbm, ⟨7, _⟩ => ⟨S16x256, .f32⟩
  | .hbm, ⟨8, _⟩ => ⟨S16x256, .f32⟩
  | .hbm, ⟨9, _⟩ => ⟨S2x1x1x16, .f32⟩
  | .hbm, ⟨10, _⟩ => ⟨S2x32x64, .f32⟩
  | .hbm, ⟨11, _⟩ => ⟨S2x32x64, .f32⟩
  | .hbm, ⟨12, _⟩ => ⟨S2x32, .f32⟩
  | .hbm, ⟨13, _⟩ => ⟨S2x32x64x16, .f32⟩
  | .hbm, ⟨14, _⟩ => ⟨S2x32x64x16, .f32⟩
  | .hbm, ⟨15, _⟩ => ⟨S2x32x16x64, .f32⟩
  | .hbm, ⟨16, _⟩ => ⟨S2x32x16x64, .f32⟩
  | .hbm, ⟨17, _⟩ => ⟨S2x32, .f32⟩
  | .hbm, ⟨18, _⟩ => ⟨S2x32x1, .f32⟩
  | .hbm, ⟨19, _⟩ => ⟨S2x32x64, .f32⟩
  | .hbm, ⟨20, _⟩ => ⟨S2x32x64, .f32⟩
  | .hbm, ⟨21, _⟩ => ⟨S2x32x64, .f32⟩
  | .hbm, ⟨22, _⟩ => ⟨S2x32x64, .f32⟩
  | .hbm, ⟨23, _⟩ => ⟨S2x32x64, .f32⟩
  | .hbm, ⟨24, _⟩ => ⟨S2x32x64, .f32⟩
  | .hbm, ⟨25, _⟩ => ⟨S2x32x64, .f32⟩
  | .hbm, ⟨26, _⟩ => ⟨S2x32x64, .f32⟩
  | .hbm, ⟨27, _⟩ => ⟨S2x32x64, .f32⟩
  | .hbm, ⟨28, _⟩ => ⟨S2x32x64, .f32⟩
  | .hbm, ⟨29, _⟩ => ⟨S2x32x64, .f32⟩
  | .hbm, ⟨30, _⟩ => ⟨S2x32x64, .f32⟩
  | .hbm, ⟨31, _⟩ => ⟨S2x32x64, .f32⟩
  | .hbm, ⟨32, _⟩ => ⟨S_, .f32⟩
  | .hbm, ⟨33, _⟩ => ⟨S2x32x64, .f32⟩
  | .hbm, ⟨34, _⟩ => ⟨S2x32x64, .f32⟩
  | .hbm, ⟨35, _⟩ => ⟨S2x32x64, .f32⟩
  | .hbm, ⟨36, _⟩ => ⟨S2x32x64, .f32⟩
  | .hbm, ⟨37, _⟩ => ⟨S2x32x64, .f32⟩
  | .hbm, ⟨38, _⟩ => ⟨S2x32x64, .f32⟩
  | .hbm, ⟨39, _⟩ => ⟨S2x32x1x64, .f32⟩
  | .hbm, ⟨40, _⟩ => ⟨S2x32x64, .f32⟩
  | .hbm, ⟨41, _⟩ => ⟨S2x32x64, .f32⟩
  | .hbm, ⟨42, _⟩ => ⟨S2x32x64, .f32⟩
  | .hbm, ⟨43, _⟩ => ⟨S2x32x64, .f32⟩
  | .hbm, ⟨44, _⟩ => ⟨S2x32x1x64, .f32⟩
  | .hbm, ⟨45, _⟩ => ⟨S2x32x16x64, .f32⟩
  | .hbm, ⟨46, _⟩ => ⟨S2x32x16x64, .f32⟩
  | .hbm, ⟨47, _⟩ => ⟨S2x32x16x64, .f32⟩
  | .hbm, ⟨48, _⟩ => ⟨S2x32x16x64, .f32⟩
  | .hbm, ⟨49, _⟩ => ⟨S2x32x16x64, .f32⟩
  | .hbm, ⟨50, _⟩ => ⟨S2x32x16x64, .f32⟩
  | .hbm, ⟨51, _⟩ => ⟨S2x32x16x64, .f32⟩
  | .hbm, ⟨52, _⟩ => ⟨S2x32x16x64, .f32⟩
  | .hbm, ⟨53, _⟩ => ⟨S2x32x16x64, .f32⟩
  | .hbm, ⟨54, _⟩ => ⟨S2x32x16x64, .f32⟩
  | .hbm, ⟨55, _⟩ => ⟨S2x32x16x64, .f32⟩
  | .hbm, ⟨56, _⟩ => ⟨S2x32x16x64, .f32⟩
  | .hbm, ⟨57, _⟩ => ⟨S2x32x64x256, .f32⟩
  | .hbm, ⟨58, _⟩ => ⟨S2x32x64x256, .f32⟩
  | .hbm, ⟨59, _⟩ => ⟨S2x32x64x1, .f32⟩
  | .hbm, ⟨60, _⟩ => ⟨S2x32x64x1, .f32⟩
  | .hbm, ⟨61, _⟩ => ⟨S2x32x64x16, .f32⟩
  | .hbm, ⟨62, _⟩ => ⟨S2x32x64x16, .f32⟩
  | .hbm, ⟨63, _⟩ => ⟨S2x32x64x16, .f32⟩
  | .hbm, ⟨64, _⟩ => ⟨S2x32x64x16, .f32⟩
  | .hbm, ⟨65, _⟩ => ⟨S2x32x64x16, .f32⟩
  | .hbm, ⟨66, _⟩ => ⟨S2x32x64x16, .f32⟩
  | .hbm, ⟨67, _⟩ => ⟨S2x32x64x16, .f32⟩
  | .hbm, ⟨68, _⟩ => ⟨S2x32x64x16, .f32⟩
  | .hbm, ⟨69, _⟩ => ⟨S2x32x64x16, .f32⟩
  | .hbm, ⟨70, _⟩ => ⟨S2x32x64x16, .f32⟩
  | .hbm, ⟨71, _⟩ => ⟨S2x32x64x16, .f32⟩
  | .hbm, ⟨72, _⟩ => ⟨S2x32x64x16, .f32⟩
  | .hbm, ⟨73, _⟩ => ⟨S2x32x64x16, .f32⟩
  | .hbm, ⟨74, _⟩ => ⟨S2x32x64x16, .f32⟩
  | .hbm, ⟨75, _⟩ => ⟨S2x32x64x256, .f32⟩
  | .hbm, ⟨76, _⟩ => ⟨S2x32x64x256, .f32⟩
  | .hbm, ⟨77, _⟩ => ⟨S2x32x64x256, .f32⟩
  | .hbm, ⟨78, _⟩ => ⟨S2x32x64x256, .f32⟩
  | .hbm, ⟨79, _⟩ => ⟨S2x32x64x256, .f32⟩
  | .hbm, ⟨80, _⟩ => ⟨S2x32x64x256, .f32⟩
  | .hbm, ⟨81, _⟩ => ⟨S2x32x64x256, .f32⟩
  | .hbm, ⟨82, _⟩ => ⟨S2x32x64x256, .f32⟩
  | .hbm, ⟨83, _⟩ => ⟨S2x32x128x256, .f32⟩
  | .hbm, ⟨84, _⟩ => ⟨S2x32x16x64, .f32⟩
  | .hbm, ⟨85, _⟩ => ⟨S2x32x16x128, .f32⟩
  | .hbm, ⟨86, _⟩ => ⟨S32x256x256, .bf16⟩
  | .local _ .vmem, ⟨0, _⟩ => ⟨S2x8x16x128, .f32⟩
  | .local _ .vmem, ⟨1, _⟩ => ⟨S2x8x16x128, .f32⟩
  | .local _ .vmem, ⟨2, _⟩ => ⟨S2x8x128x256, .f32⟩
  | .local _ .vmem, ⟨3, _⟩ => ⟨S2x8x128x256, .f32⟩
  | .local _ .vmem, ⟨4, _⟩ => ⟨S8x256x256, .bf16⟩
  | .local _ .vmem, ⟨5, _⟩ => ⟨S8x256x256, .bf16⟩
  | _, _ => ⟨S1x2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S16x256 : Shape := ⟨2, ![16, 256]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x32x1 : Shape := ⟨3, ![2, 32, 1]⟩
abbrev S_ : Shape := ⟨0, ![]⟩
abbrev S2x32x64x1 : Shape := ⟨4, ![2, 32, 64, 1]⟩
abbrev S2x32x1x1x64 : Shape := ⟨5, ![2, 32, 1, 1, 64]⟩
abbrev S2x32x1x16x64 : Shape := ⟨5, ![2, 32, 1, 16, 64]⟩
abbrev S16x1x1x1x1 : Shape := ⟨5, ![16, 1, 1, 1, 1]⟩
abbrev S2x32x16x16x64 : Shape := ⟨5, ![2, 32, 16, 16, 64]⟩
abbrev S16x32x16x16x16 : Shape := ⟨5, ![16, 32, 16, 16, 16]⟩
abbrev S1 : Shape := ⟨1, ![1]⟩
abbrev S2 : Shape := ⟨1, ![2]⟩
abbrev S2x16 : Shape := ⟨2, ![2, 16]⟩
abbrev S2x1 : Shape := ⟨2, ![2, 1]⟩
abbrev S2x1x16x1x1 : Shape := ⟨5, ![2, 1, 16, 1, 1]⟩
abbrev S2x32x16x16x16 : Shape := ⟨5, ![2, 32, 16, 16, 16]⟩
abbrev S1x32x16x16x16 : Shape := ⟨5, ![1, 32, 16, 16, 16]⟩
abbrev S32x16x16x16 : Shape := ⟨4, ![32, 16, 16, 16]⟩
abbrev S32x16x16x16x16 : Shape := ⟨5, ![32, 16, 16, 16, 16]⟩
abbrev S32x256x256 : Shape := ⟨3, ![32, 256, 256]⟩

abbrev nBuf : Space → Nat
  | .hbm => 152
  | .vmem => 0
  | .smem => 0
  | _ => 0

abbrev hbmTy0_0 (i : Nat) : BufTy := match i % 128 with
  | 0 => ⟨S1x2x32x64, .f32⟩
  | 1 => ⟨S1x2x32x64, .f32⟩
  | 2 => ⟨S1x2x32, .f32⟩
  | 3 => ⟨S1x2x32x64x16, .f32⟩
  | 4 => ⟨S1x2x32x64x16, .f32⟩
  | 5 => ⟨S1x2x32x16x64, .f32⟩
  | 6 => ⟨S1x2x32x16x64, .f32⟩
  | 7 => ⟨S16x256, .f32⟩
  | 8 => ⟨S2x32x64, .f32⟩
  | 9 => ⟨S2x32x64, .f32⟩
  | 10 => ⟨S2x32, .f32⟩
  | 11 => ⟨S2x32x64x16, .f32⟩
  | 12 => ⟨S2x32x64x16, .f32⟩
  | 13 => ⟨S2x32x16x64, .f32⟩
  | 14 => ⟨S2x32x16x64, .f32⟩
  | 15 => ⟨S2x32, .f32⟩
  | 16 => ⟨S2x32x1, .f32⟩
  | 17 => ⟨S2x32x64, .f32⟩
  | 18 => ⟨S2x32x64, .f32⟩
  | 19 => ⟨S2x32x64, .f32⟩
  | 20 => ⟨S2x32x64, .f32⟩
  | 21 => ⟨S2x32x64, .f32⟩
  | 22 => ⟨S2x32x64, .f32⟩
  | 23 => ⟨S2x32x64, .f32⟩
  | 24 => ⟨S2x32x64, .f32⟩
  | 25 => ⟨S2x32x64, .f32⟩
  | 26 => ⟨S2x32x64, .f32⟩
  | 27 => ⟨S2x32x64, .f32⟩
  | 28 => ⟨S2x32x64, .f32⟩
  | 29 => ⟨S2x32x64, .f32⟩
  | 30 => ⟨S2x32x64, .f32⟩
  | 31 => ⟨S_, .f32⟩
  | 32 => ⟨S2x32x64, .f32⟩
  | 33 => ⟨S2x32x64, .f32⟩
  | 34 => ⟨S2x32x64, .f32⟩
  | 35 => ⟨S2x32x64, .f32⟩
  | 36 => ⟨S2x32x64, .f32⟩
  | 37 => ⟨S2x32x64, .f32⟩
  | 38 => ⟨S2x32x64, .f32⟩
  | 39 => ⟨S_, .f32⟩
  | 40 => ⟨S2x32x64, .f32⟩
  | 41 => ⟨S2x32x64, .f32⟩
  | 42 => ⟨S2x32x64, .f32⟩
  | 43 => ⟨S2x32x64, .f32⟩
  | 44 => ⟨S2x32x64, .f32⟩
  | 45 => ⟨S2x32x64x1, .f32⟩
  | 46 => ⟨S2x32x64x16, .f32⟩
  | 47 => ⟨S2x32x64x16, .f32⟩
  | 48 => ⟨S2x32x64x1, .f32⟩
  | 49 => ⟨S2x32x64x16, .f32⟩
  | 50 => ⟨S2x32x64x16, .f32⟩
  | 51 => ⟨S2x32x64x16, .f32⟩
  | 52 => ⟨S2x32x64x1, .f32⟩
  | 53 => ⟨S2x32x64x16, .f32⟩
  | 54 => ⟨S2x32x64x16, .f32⟩
  | 55 => ⟨S2x32x64x1, .f32⟩
  | 56 => ⟨S2x32x64x16, .f32⟩
  | 57 => ⟨S2x32x64x16, .f32⟩
  | 58 => ⟨S2x32x64x16, .f32⟩
  | 59 => ⟨S2x32x1x1x64, .f32⟩
  | 60 => ⟨S2x32x1x1x64, .f32⟩
  | 61 => ⟨S2x32x16x64, .f32⟩
  | 62 => ⟨S2x32x1x16x64, .f32⟩
  | 63 => ⟨S2x32x16x64, .f32⟩
  | 64 => ⟨S2x32x1x16x64, .f32⟩
  | 65 => ⟨S16x1x1x1x1, .i32⟩
  | 66 => ⟨S_, .f32⟩
  | 67 => ⟨S2x32x16x16x64, .f32⟩
  | 68 => ⟨S_, .f32⟩
  | 69 => ⟨S16x32x16x16x16, .f32⟩
  | 70 => ⟨S_, .i32⟩
  | 71 => ⟨S_, .i32⟩
  | 72 => ⟨S2x32x1x1x64, .f32⟩
  | 73 => ⟨S2x32x1x1x64, .f32⟩
  | 74 => ⟨S2x32x1x16x64, .f32⟩
  | 75 => ⟨S2x32x1x16x64, .f32⟩
  | 76 => ⟨S2x32x16x64, .f32⟩
  | 77 => ⟨S2x32x16x64, .f32⟩
  | 78 => ⟨S16x1x1x1x1, .i32⟩
  | 79 => ⟨S_, .i32⟩
  | 80 => ⟨S_, .i32⟩
  | 81 => ⟨S2x32x16x16x64, .f32⟩
  | 82 => ⟨S2x32x16x16x64, .f32⟩
  | 83 => ⟨S16x32x16x16x16, .f32⟩
  | 84 => ⟨S16x32x16x16x16, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1, .i32⟩
  | 92 => ⟨S1, .i32⟩
  | 93 => ⟨S2, .i32⟩
  | 94 => ⟨S2x16, .i32⟩
  | 95 => ⟨S2x1, .i32⟩
  | 96 => ⟨S2x1, .i32⟩
  | 97 => ⟨S2x16, .i32⟩
  | 98 => ⟨S2x16, .i1⟩
  | 99 => ⟨S_, .f32⟩
  | 100 => ⟨S_, .f32⟩
  | 101 => ⟨S2x16, .f32⟩
  | 102 => ⟨S2x16, .f32⟩
  | 103 => ⟨S2x16, .f32⟩
  | 104 => ⟨S2x1x16x1x1, .f32⟩
  | 105 => ⟨S2x32x16x16x64, .f32⟩
  | 106 => ⟨S2x32x16x16x64, .f32⟩
  | 107 => ⟨S2x32x16x16x64, .f32⟩
  | 108 => ⟨S2x32x16x16x64, .f32⟩
  | 109 => ⟨S2x32x16x16x64, .f32⟩
  | 110 => ⟨S2x1x16x1x1, .f32⟩
  | 111 => ⟨S2x32x16x16x64, .f32⟩
  | 112 => ⟨S2x32x16x16x64, .f32⟩
  | 113 => ⟨S2x32x16x16x64, .f32⟩
  | 114 => ⟨S2x32x16x16x64, .f32⟩
  | 115 => ⟨S2x32x16x16x64, .f32⟩
  | 116 => ⟨S2x32x16x16x64, .f32⟩
  | 117 => ⟨S2x32x16x16x64, .f32⟩
  | 118 => ⟨S2x32x16x16x64, .f32⟩
  | 119 => ⟨S2x32x16x16x64, .f32⟩
  | 120 => ⟨S2x1x16x1x1, .f32⟩
  | 121 => ⟨S2x32x16x16x64, .f32⟩
  | 122 => ⟨S2x32x16x16x64, .f32⟩
  | 123 => ⟨S2x32x16x16x64, .f32⟩
  | 124 => ⟨S2x32x16x16x64, .f32⟩
  | 125 => ⟨S2x32x16x16x16, .f32⟩
  | 126 => ⟨S2x32x16x16x16, .f32⟩
  | 127 => ⟨S2x32x16x16x16, .f32⟩
  | _ => ⟨S1x2x32x64, .f32⟩

abbrev hbmTy0_1 (i : Nat) : BufTy := match i % 128 with
  | 0 => ⟨S_, .i32⟩
  | 1 => ⟨S16x1x1x1x1, .i32⟩
  | 2 => ⟨S16x1x1x1x1, .i1⟩
  | 3 => ⟨S1x32x16x16x16, .f32⟩
  | 4 => ⟨S32x16x16x16, .f32⟩
  | 5 => ⟨S16x32x16x16x16, .i1⟩
  | 6 => ⟨S16x32x16x16x16, .f32⟩
  | 7 => ⟨S16x32x16x16x16, .f32⟩
  | 8 => ⟨S_, .i32⟩
  | 9 => ⟨S_, .i32⟩
  | 10 => ⟨S_, .i32⟩
  | 11 => ⟨S16x1x1x1x1, .i32⟩
  | 12 => ⟨S16x1x1x1x1, .i1⟩
  | 13 => ⟨S1x32x16x16x16, .f32⟩
  | 14 => ⟨S32x16x16x16, .f32⟩
  | 15 => ⟨S16x32x16x16x16, .i1⟩
  | 16 => ⟨S16x32x16x16x16, .f32⟩
  | 17 => ⟨S16x32x16x16x16, .f32⟩
  | 18 => ⟨S_, .i32⟩
  | 19 => ⟨S_, .i32⟩
  | 20 => ⟨S16x32x16x16x16, .f32⟩
  | 21 => ⟨S32x16x16x16x16, .f32⟩
  | 22 => ⟨S32x256x256, .f32⟩
  | 23 => ⟨S32x256x256, .bf16⟩
  | _ => ⟨S1x2x32x64, .f32⟩

abbrev hbmTy (i : Nat) : BufTy := match i / 128 with
  | 0 => hbmTy0_0 i
  | 1 => hbmTy0_1 i
  | _ => ⟨S1x2x32x64, .f32⟩

abbrev bufTy : (tb : Table) → Fin (tcTables nBuf tb) → BufTy
  | .hbm, ⟨i, _⟩ => hbmTy i
  | _, _ => ⟨S1x2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_1 : Ref sig .tc := ⟨.hbm, 66, rfl⟩
abbrev main_v56 : Ref sig .tc := ⟨.hbm, 67, rfl⟩
abbrev main_cst_2 : Ref sig .tc := ⟨.hbm, 68, rfl⟩
abbrev main_v57 : Ref sig .tc := ⟨.hbm, 69, rfl⟩
abbrev main_c : Ref sig .tc := ⟨.hbm, 70, rfl⟩
abbrev main_c_3 : Ref sig .tc := ⟨.hbm, 71, rfl⟩
abbrev main_v58_0 : Ref sig .tc := ⟨.hbm, 72, rfl⟩
abbrev main_v58_1 : Ref sig .tc := ⟨.hbm, 73, rfl⟩
abbrev main_v58_2 : Ref sig .tc := ⟨.hbm, 74, rfl⟩
abbrev main_v58_3 : Ref sig .tc := ⟨.hbm, 75, rfl⟩
abbrev main_v58_4 : Ref sig .tc := ⟨.hbm, 76, rfl⟩
abbrev main_v58_5 : Ref sig .tc := ⟨.hbm, 77, rfl⟩
abbrev main_v58_6 : Ref sig .tc := ⟨.hbm, 78, rfl⟩
abbrev main_v58_7 : Ref sig .tc := ⟨.hbm, 79, rfl⟩
abbrev main_v58_8 : Ref sig .tc := ⟨.hbm, 80, rfl⟩
abbrev main_v58_9 : Ref sig .tc := ⟨.hbm, 81, rfl⟩
abbrev main_v58_10 : Ref sig .tc := ⟨.hbm, 82, rfl⟩
abbrev main_v58_11 : Ref sig .tc := ⟨.hbm, 83, rfl⟩
abbrev main_v58_12 : Ref sig .tc := ⟨.hbm, 84, rfl⟩
abbrev main_while0c_c_16 : Ref sig .tc := ⟨.hbm, 85, rfl⟩
abbrev main_while0c_v63 : Ref sig .tc := ⟨.hbm, 86, rfl⟩
abbrev main_while0b_c_16 : Ref sig .tc := ⟨.hbm, 87, rfl⟩
abbrev main_while0b_v63 : Ref sig .tc := ⟨.hbm, 88, rfl⟩
abbrev main_while0b_c_17 : Ref sig .tc := ⟨.hbm, 89, rfl⟩
abbrev main_while0b_v64 : Ref sig .tc := ⟨.hbm, 90, rfl⟩
abbrev main_while0b_v65 : Ref sig .tc := ⟨.hbm, 91, rfl⟩
abbrev main_while0b_v66 : Ref sig .tc := ⟨.hbm, 92, rfl⟩
abbrev main_while0b_v67 : Ref sig .tc := ⟨.hbm, 93, rfl⟩
abbrev main_while0b_v68 : Ref sig .tc := ⟨.hbm, 94, rfl⟩
abbrev main_while0b_v69 : Ref sig .tc := ⟨.hbm, 95, rfl⟩
abbrev main_while0b_v70 : Ref sig .tc := ⟨.hbm, 96, rfl⟩
abbrev main_while0b_v71 : Ref sig .tc := ⟨.hbm, 97, rfl⟩
abbrev main_while0b_v72 : Ref sig .tc := ⟨.hbm, 98, rfl⟩
abbrev main_while0b_cst_18 : Ref sig .tc := ⟨.hbm, 99, rfl⟩
abbrev main_while0b_cst_19 : Ref sig .tc := ⟨.hbm, 100, rfl⟩
abbrev main_while0b_call0_v0 : Ref sig .tc := ⟨.hbm, 101, rfl⟩
abbrev main_while0b_call0_v1 : Ref sig .tc := ⟨.hbm, 102, rfl⟩
abbrev main_while0b_v73 : Ref sig .tc := ⟨.hbm, 103, rfl⟩
abbrev main_while0b_v74 : Ref sig .tc := ⟨.hbm, 104, rfl⟩
abbrev main_while0b_v75 : Ref sig .tc := ⟨.hbm, 105, rfl⟩
abbrev main_while0b_v76 : Ref sig .tc := ⟨.hbm, 106, rfl⟩
abbrev main_while0b_v77 : Ref sig .tc := ⟨.hbm, 107, rfl⟩
abbrev main_while0b_v78 : Ref sig .tc := ⟨.hbm, 108, rfl⟩
abbrev main_while0b_v79 : Ref sig .tc := ⟨.hbm, 109, rfl⟩
abbrev main_while0b_v80 : Ref sig .tc := ⟨.hbm, 110, rfl⟩
abbrev main_while0b_v81 : Ref sig .tc := ⟨.hbm, 111, rfl⟩
abbrev main_while0b_v82 : Ref sig .tc := ⟨.hbm, 112, rfl⟩
abbrev main_while0b_v83 : Ref sig .tc := ⟨.hbm, 113, rfl⟩
abbrev main_while0b_v84 : Ref sig .tc := ⟨.hbm, 114, rfl⟩
abbrev main_while0b_v85 : Ref sig .tc := ⟨.hbm, 115, rfl⟩
abbrev main_while0b_v86 : Ref sig .tc := ⟨.hbm, 116, rfl⟩
abbrev main_while0b_v87 : Ref sig .tc := ⟨.hbm, 117, rfl⟩
abbrev main_while0b_v88 : Ref sig .tc := ⟨.hbm, 118, rfl⟩
abbrev main_while0b_v89 : Ref sig .tc := ⟨.hbm, 119, rfl⟩
abbrev main_while0b_v90 : Ref sig .tc := ⟨.hbm, 120, rfl⟩
abbrev main_while0b_v91 : Ref sig .tc := ⟨.hbm, 121, rfl⟩
abbrev main_while0b_v92 : Ref sig .tc := ⟨.hbm, 122, rfl⟩
abbrev main_while0b_v93 : Ref sig .tc := ⟨.hbm, 123, rfl⟩
abbrev main_while0b_v94 : Ref sig .tc := ⟨.hbm, 124, rfl⟩
abbrev main_while0b_v95 : Ref sig .tc := ⟨.hbm, 125, rfl⟩
abbrev main_while0b_v96 : Ref sig .tc := ⟨.hbm, 126, rfl⟩
abbrev main_while0b_v97 : Ref sig .tc := ⟨.hbm, 127, rfl⟩
abbrev main_while0b_v98 : Ref sig .tc := ⟨.hbm, 128, rfl⟩
abbrev main_while0b_v99 : Ref sig .tc := ⟨.hbm, 129, rfl⟩
abbrev main_while0b_v100 : Ref sig .tc := ⟨.hbm, 130, rfl⟩
abbrev main_while0b_v101 : Ref sig .tc := ⟨.hbm, 131, rfl⟩
abbrev main_while0b_v102 : Ref sig .tc := ⟨.hbm, 132, rfl⟩
abbrev main_while0b_call1_v0 : Ref sig .tc := ⟨.hbm, 133, rfl⟩
abbrev main_while0b_call1_v1 : Ref sig .tc := ⟨.hbm, 134, rfl⟩
abbrev main_while0b_v103 : Ref sig .tc := ⟨.hbm, 135, rfl⟩
abbrev main_while0b_c_20 : Ref sig .tc := ⟨.hbm, 136, rfl⟩
abbrev main_while0b_v104 : Ref sig .tc := ⟨.hbm, 137, rfl⟩
abbrev main_while0b_v105 : Ref sig .tc := ⟨.hbm, 138, rfl⟩
abbrev main_while0b_v106 : Ref sig .tc := ⟨.hbm, 139, rfl⟩
abbrev main_while0b_v107 : Ref sig .tc := ⟨.hbm, 140, rfl⟩
abbrev main_while0b_v108 : Ref sig .tc := ⟨.hbm, 141, rfl⟩
abbrev main_while0b_v109 : Ref sig .tc := ⟨.hbm, 142, rfl⟩
abbrev main_while0b_call2_v0 : Ref sig .tc := ⟨.hbm, 143, rfl⟩
abbrev main_while0b_call2_v1 : Ref sig .tc := ⟨.hbm, 144, rfl⟩
abbrev main_while0b_v110 : Ref sig .tc := ⟨.hbm, 145, rfl⟩
abbrev main_while0b_c_21 : Ref sig .tc := ⟨.hbm, 146, rfl⟩
abbrev main_while0b_v111 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩

abbrev nD : Nat := 1
abbrev τ : Topo := Topo.v7x

variable {F : FTy → Type} [FloatOps F]

abbrev main_while0_count : Scf.Loop 32 := ⟨0#32, 16#32, 1#32⟩
-- ==== OutFfn.lean ====
abbrev S32768x1024 : Shape := ⟨2, ![32768, 1024]⟩
abbrev S32768x512 : Shape := ⟨2, ![32768, 512]⟩
abbrev S32x2048x256 : Shape := ⟨3, ![32, 2048, 256]⟩
abbrev S16x9x1024 : Shape := ⟨3, ![16, 9, 1024]⟩
abbrev S1x3x1024 : Shape := ⟨3, ![1, 3, 1024]⟩
abbrev S1x512x512 : Shape := ⟨3, ![1, 512, 512]⟩
abbrev S1x512 : Shape := ⟨2, ![1, 512]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S3x1024 : Shape := ⟨2, ![3, 1024]⟩
abbrev S512x512 : Shape := ⟨2, ![512, 512]⟩
abbrev S512 : Shape := ⟨1, ![512]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S32x32x256 : Shape := ⟨3, ![32, 32, 256]⟩
abbrev S1x9x1024 : Shape := ⟨3, ![1, 9, 1024]⟩
abbrev S512x2816 : Shape := ⟨2, ![512, 2816]⟩
abbrev S4x512x128 : Shape := ⟨3, ![4, 512, 128]⟩
abbrev S9x1024 : Shape := ⟨2, ![9, 1024]⟩
abbrev S1024x256 : Shape := ⟨2, ![1024, 256]⟩
abbrev S512x256 : Shape := ⟨2, ![512, 256]⟩
abbrev S1x32x128 : Shape := ⟨3, ![1, 32, 128]⟩
abbrev S32x128 : Shape := ⟨2, ![32, 128]⟩
abbrev S1x128 : Shape := ⟨2, ![1, 128]⟩
abbrev S1x512x128 : Shape := ⟨3, ![1, 512, 128]⟩
abbrev S512x128 : Shape := ⟨2, ![512, 128]⟩
abbrev S1x1024 : Shape := ⟨2, ![1, 1024]⟩
abbrev S512x1 : Shape := ⟨2, ![512, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32x2048x256, .f32⟩
  | .hbm, ⟨3, _⟩ => ⟨S16x9x1024, .f32⟩
  | .hbm, ⟨4, _⟩ => ⟨S1x3x1024, .f32⟩
  | .hbm, ⟨5, _⟩ => ⟨S1x3x1024, .f32⟩
  | .hbm, ⟨6, _⟩ => ⟨S1x512x512, .f32⟩
  | .hbm, ⟨7, _⟩ => ⟨S1x512, .f32⟩
  | .hbm, ⟨8, _⟩ => ⟨S1x1024x1024, .f32⟩
  | .hbm, ⟨9, _⟩ => ⟨S1x1024x5632, .f32⟩
  | .hbm, ⟨10, _⟩ => ⟨S1x2816x1024, .f32⟩
  | .hbm, ⟨11, _⟩ => ⟨S3x1024, .f32⟩
  | .hbm, ⟨12, _⟩ => ⟨S3x1024, .f32⟩
  | .hbm, ⟨13, _⟩ => ⟨S512x512, .f32⟩
  | .hbm, ⟨14, _⟩ => ⟨S512x512, .bf16⟩
  | .hbm, ⟨15, _⟩ => ⟨S512, .f32⟩
  | .hbm, ⟨16, _⟩ => ⟨S1x512, .f32⟩
  | .hbm, ⟨17, _⟩ => ⟨S1024x1024, .f32⟩
  | .hbm, ⟨18, _⟩ => ⟨S1024x1024, .bf16⟩
  | .hbm, ⟨19, _⟩ => ⟨S1024x5632, .f32⟩
  | .hbm, ⟨20, _⟩ => ⟨S1024x5632, .bf16⟩
  | .hbm, ⟨21, _⟩ => ⟨S2816x1024, .f32⟩
  | .hbm, ⟨22, _⟩ => ⟨S2816x1024, .bf16⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S32x32x256, .f32⟩
  | .local _ .vmem, ⟨5, _⟩ => ⟨S32x32x256, .f32⟩
  | .local _ .vmem, ⟨6, _⟩ => ⟨S1x9x1024, .f32⟩
  | .local _ .vmem, ⟨7, _⟩ => ⟨S1x9x1024, .f32⟩
  | .local _ .vmem, ⟨8, _⟩ => ⟨S1x9x1024, .f32⟩
  | .local _ .vmem, ⟨9, _⟩ => ⟨S1x9x1024, .f32⟩
  | .local _ .vmem, ⟨10, _⟩ => ⟨S3x1024, .f32⟩
  | .local _ .vmem, ⟨11, _⟩ => ⟨S3x1024, .f32⟩
  | .local _ .vmem, ⟨12, _⟩ => ⟨S512x512, .bf16⟩
  | .local _ .vmem, ⟨13, _⟩ => ⟨S1x512, .f32⟩
  | .local _ .vmem, ⟨14, _⟩ => ⟨S1024x1024, .bf16⟩
  | .local _ .vmem, ⟨15, _⟩ => ⟨S1024x5632, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | .local _ .vmem, ⟨19, _⟩ => ⟨S512x2816, .bf16⟩
  | .local _ .vmem, ⟨20, _⟩ => ⟨S4x512x128, .f32⟩
  | .local _ .vmem, ⟨21, _⟩ => ⟨S512x1024, .bf16⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutReferenceIdeal.lean ====
abbrev S32768x1024 : Shape := ⟨2, ![32768, 1024]⟩
abbrev S32768x512 : Shape := ⟨2, ![32768, 512]⟩
abbrev S32x2048x256 : Shape := ⟨3, ![32, 2048, 256]⟩
abbrev S16x9x1024 : Shape := ⟨3, ![16, 9, 1024]⟩
abbrev S1x3x1024 : Shape := ⟨3, ![1, 3, 1024]⟩
abbrev S1x512x512 : Shape := ⟨3, ![1, 512, 512]⟩
abbrev S1x512 : Shape := ⟨2, ![1, 512]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S8x4096x1024 : Shape := ⟨3, ![8, 4096, 1024]⟩
abbrev S8x9x1024 : Shape := ⟨3, ![8, 9, 1024]⟩
abbrev S8x1x9216 : Shape := ⟨3, ![8, 1, 9216]⟩
abbrev S8x1x1024 : Shape := ⟨3, ![8, 1, 1024]⟩
abbrev S8x4096x512 : Shape := ⟨3, ![8, 4096, 512]⟩
abbrev S32x2048x16x16 : Shape := ⟨4, ![32, 2048, 16, 16]⟩
abbrev S2048x16x32x16 : Shape := ⟨4, ![2048, 16, 32, 16]⟩
abbrev S_ : Shape := ⟨0, ![]⟩
abbrev S512x512 : Shape := ⟨2, ![512, 512]⟩
abbrev S512 : Shape := ⟨1, ![512]⟩
abbrev S1x1x512 : Shape := ⟨3, ![1, 1, 512]⟩
abbrev S1024x1024 : Shape := ⟨2, ![1024, 1024]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S2816x1024 : Shape := ⟨2, ![2816, 1024]⟩

abbrev nBuf : Space → Nat
  | .hbm => 168
  | .vmem => 0
  | .smem => 0
  | _ => 0

abbrev hbmTy0_0 (i : Nat) : BufTy := match i % 128 with
  | 0 => ⟨S32768x1024, .f32⟩
  | 1 => ⟨S32768x512, .bf16⟩
  | 2 => ⟨S32x2048x256, .f32⟩
  | 3 => ⟨S16x9x1024, .f32⟩
  | 4 => ⟨S1x3x1024, .f32⟩
  | 5 => ⟨S1x3x1024, .f32⟩
  | 6 => ⟨S1x512x512, .f32⟩
  | 7 => ⟨S1x512, .f32⟩
  | 8 => ⟨S1x1024x1024, .f32⟩
  | 9 => ⟨S1x1024x5632, .f32⟩
  | 10 => ⟨S1x2816x1024, .f32⟩
  | 11 => ⟨S8x4096x1024, .f32⟩
  | 12 => ⟨S8x9x1024, .f32⟩
  | 13 => ⟨S8x1x9216, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S32768x512, .f32⟩
  | 24 => ⟨S8x4096x512, .f32⟩
  | 25 => ⟨S32x2048x16x16, .f32⟩
  | 26 => ⟨S2048x16x32x16, .f32⟩
  | 27 => ⟨S8x4096x512, .f32⟩
  | 28 => ⟨S8x4096x512, .f32⟩
  | 29 => ⟨S8x4096x512, .f32⟩
  | 30 => ⟨S_, .f32⟩
  | 31 => ⟨S8x4096x512, .f32⟩
  | 32 => ⟨S8x4096x512, .f32⟩
  | 33 => ⟨S8x4096x512, .f32⟩
  | 34 => ⟨S_, .f32⟩
  | 35 => ⟨S8x4096x512, .f32⟩
  | 36 => ⟨S8x4096x512, .f32⟩
  | 37 => ⟨S8x4096x512, .f32⟩
  | 38 => ⟨S_, .f32⟩
  | 39 => ⟨S8x4096x512, .f32⟩
  | 40 => ⟨S8x4096x512, .f32⟩
  | 41 => ⟨S_, .f32⟩
  | 42 => ⟨S8x4096x512, .f32⟩
  | 43 => ⟨S8x4096x512, .f32⟩
  | 44 => ⟨S8x4096x512, .f32⟩
  | 45 => ⟨S512x512, .f32⟩
  | 46 => ⟨S8x4096x512, .f32⟩
  | 47 => ⟨S512, .f32⟩
  | 48 => ⟨S1x1x512, .f32⟩
  | 49 => ⟨S8x4096x512, .f32⟩
  | 50 => ⟨S8x4096x512, .f32⟩
  | 51 => ⟨S8x4096x512, .f32⟩
  | 52 => ⟨S8x4096x512, .f32⟩
  | 53 => ⟨S_, .f32⟩
  | 54 => ⟨S8x4096x512, .f32⟩
  | 55 => ⟨S8x4096x512, .f32⟩
  | 56 => ⟨S_, .f32⟩
  | 57 => ⟨S8x4096x512, .f32⟩
  | 58 => ⟨S8x4096x512, .f32⟩
  | 59 => ⟨S8x4096x512, .f32⟩
  | 60 => ⟨S8x4096x1024, .f32⟩
  | 61 => ⟨S1024x1024, .f32⟩
  | 62 => ⟨S8x4096x1024, .f32⟩
  | 63 => ⟨S_, .f32⟩
  | 64 => ⟨S8x4096x1024, .f32⟩
  | 65 => ⟨S8x4096x1024, .f32⟩
  | 66 => ⟨S8x4096x1024, .f32⟩
  | 67 => ⟨S8x4096x1024, .f32⟩
  | 68 => ⟨S8x4096x1024, .f32⟩
  | 69 => ⟨S1x1x1024, .f32⟩
  | 70 => ⟨S1024, .f32⟩
  | 71 => ⟨S1x1x1024, .f32⟩
  | 72 => ⟨S1024, .f32⟩
  | 73 => ⟨S_, .f32⟩
  | 74 => ⟨S8x4096, .f32⟩
  | 75 => ⟨S8x4096x1, .f32⟩
  | 76 => ⟨S_, .f32⟩
  | 77 => ⟨S8x4096x1, .f32⟩
  | 78 => ⟨S8x4096x1, .f32⟩
  | 79 => ⟨S8x4096x1024, .f32⟩
  | 80 => ⟨S8x4096x1024, .f32⟩
  | 81 => ⟨S8x4096x1024, .f32⟩
  | 82 => ⟨S_, .f32⟩
  | 83 => ⟨S8x4096, .f32⟩
  | 84 => ⟨S8x4096x1, .f32⟩
  | 85 => ⟨S_, .f32⟩
  | 86 => ⟨S8x4096x1, .f32⟩
  | 87 => ⟨S8x4096x1, .f32⟩
  | 88 => ⟨S8x4096x1024, .f32⟩
  | 89 => ⟨S8x4096x1024, .f32⟩
  | 90 => ⟨S_, .f32⟩
  | 91 => ⟨S8x4096x1, .f32⟩
  | 92 => ⟨S8x4096x1, .f32⟩
  | 93 => ⟨S8x4096x1, .f32⟩
  | 94 => ⟨S8x4096x1024, .f32⟩
  | 95 => ⟨S8x4096x1024, .f32⟩
  | 96 => ⟨S1x1x1024, .f32⟩
  | 97 => ⟨S8x4096x1024, .f32⟩
  | 98 => ⟨S8x4096x1024, .f32⟩
  | 99 => ⟨S1x1x1024, .f32⟩
  | 100 => ⟨S8x4096x1024, .f32⟩
  | 101 => ⟨S8x4096x1024, .f32⟩
  | 102 => ⟨S_, .f32⟩
  | 103 => ⟨S8x1x1024, .f32⟩
  | 104 => ⟨S8x1x1024, .f32⟩
  | 105 => ⟨S8x4096x1024, .f32⟩
  | 106 => ⟨S8x4096x1024, .f32⟩
  | 107 => ⟨S8x4096x1024, .f32⟩
  | 108 => ⟨S8x4096x1024, .f32⟩
  | 109 => ⟨S1024x5632, .f32⟩
  | 110 => ⟨S8x4096x5632, .f32⟩
  | 111 => ⟨S8x4096x2816, .f32⟩
  | 112 => ⟨S8x4096x2816, .f32⟩
  | 113 => ⟨S8x4096x2816, .f32⟩
  | 114 => ⟨S8x4096x2816, .f32⟩
  | 115 => ⟨S_, .f32⟩
  | 116 => ⟨S8x4096x2816, .f32⟩
  | 117 => ⟨S8x4096x2816, .f32⟩
  | 118 => ⟨S_, .f32⟩
  | 119 => ⟨S8x4096x2816, .f32⟩
  | 120 => ⟨S8x4096x2816, .f32⟩
  | 121 => ⟨S8x4096x2816, .f32⟩
  | 122 => ⟨S8x4096x2816, .f32⟩
  | 123 => ⟨S2816x1024, .f32⟩
  | 124 => ⟨S8x4096x1024, .f32⟩
  | 125 => ⟨S_, .f32⟩
  | 126 => ⟨S8x4096x1024, .f32⟩
  | 127 => ⟨S8x4096x1024, .f32⟩
  | _ => ⟨S32768x1024, .f32⟩

abbrev hbmTy0_1 (i : Nat) : BufTy := match i % 128 with
  | 0 => ⟨S_, .f32⟩
  | 1 => ⟨S8x1x1024, .f32⟩
  | 2 => ⟨S8x1x1024, .f32⟩
  | 3 => ⟨S8x4096x1024, .f32⟩
  | 4 => ⟨S8x4096x1024, .f32⟩
  | 5 => ⟨S8x4096x1024, .f32⟩
  | 6 => ⟨S1x1x1024, .f32⟩
  | 7 => ⟨S1024, .f32⟩
  | 8 => ⟨S1x1x1024, .f32⟩
  | 9 => ⟨S1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S8x4096x1024, .f32⟩
  | 17 => ⟨S8x4096x1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S8x4096x1024, .f32⟩
  | 26 => ⟨S8x4096x1024, .f32⟩
  | 27 => ⟨S_, .f32⟩
  | 28 => ⟨S8x4096x1, .f32⟩
  | 29 => ⟨S8x4096x1, .f32⟩
  | 30 => ⟨S8x4096x1, .f32⟩
  | 31 => ⟨S8x4096x1024, .f32⟩
  | 32 => ⟨S8x4096x1024, .f32⟩
  | 33 => ⟨S1x1x1024, .f32⟩
  | 34 => ⟨S8x4096x1024, .f32⟩
  | 35 => ⟨S8x4096x1024, .f32⟩
  | 36 => ⟨S1x1x1024, .f32⟩
  | 37 => ⟨S8x4096x1024, .f32⟩
  | 38 => ⟨S8x4096x1024, .f32⟩
  | 39 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_12 : Ref sig .tc := ⟨.hbm, 125, rfl⟩
abbrev main_v93 : Ref sig .tc := ⟨.hbm, 126, rfl⟩
abbrev main_v94 : Ref sig .tc := ⟨.hbm, 127, rfl⟩
abbrev main_cst_13 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_14 : Ref sig .tc := ⟨.hbm, 138, rfl⟩
abbrev main_v104 : Ref sig .tc := ⟨.hbm, 139, rfl⟩
abbrev main_v105 : Ref sig .tc := ⟨.hbm, 140, rfl⟩
abbrev main_cst_15 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_16 : Ref sig .tc := ⟨.hbm, 147, rfl⟩
abbrev main_v111 : Ref sig .tc := ⟨.hbm, 148, rfl⟩
abbrev main_v112 : Ref sig .tc := ⟨.hbm, 149, rfl⟩
abbrev main_cst_17 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_18 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩

abbrev nD : Nat := 1
abbrev τ : Topo := Topo.v7x

variable {F : FTy → Type} [FloatOps F]
-- ==== FfnIn.lean ====
abbrev S8x4096x1024 : Shape := ⟨3, ![8, 4096, 1024]⟩
abbrev S16x9x1024 : Shape := ⟨3, ![16, 9, 1024]⟩
abbrev S1x3x1024 : Shape := ⟨3, ![1, 3, 1024]⟩
abbrev S1x1024x5632 : Shape := ⟨3, ![1, 1024, 5632]⟩
abbrev S1x2816x1024 : Shape := ⟨3, ![1, 2816, 1024]⟩
abbrev S1x1024x2048 : Shape := ⟨3, ![1, 1024, 2048]⟩
abbrev S32768x1024 : Shape := ⟨2, ![32768, 1024]⟩
abbrev S3x1024 : Shape := ⟨2, ![3, 1024]⟩
abbrev S1024x5632 : Shape := ⟨2, ![1024, 5632]⟩
abbrev S2816x1024 : Shape := ⟨2, ![2816, 1024]⟩
abbrev S1024x2048 : Shape := ⟨2, ![1024, 2048]⟩
abbrev S128x512x256 : Shape := ⟨3, ![128, 512, 256]⟩
abbrev S32x2048x256 : Shape := ⟨3, ![32, 2048, 256]⟩
abbrev S512x1024 : Shape := ⟨2, ![512, 1024]⟩
abbrev S1x9x1024 : Shape := ⟨3, ![1, 9, 1024]⟩
abbrev S2x512x256 : Shape := ⟨3, ![2, 512, 256]⟩
abbrev S32x32x256 : Shape := ⟨3, ![32, 32, 256]⟩
abbrev S512x2816 : Shape := ⟨2, ![512, 2816]⟩
abbrev S4x512x128 : Shape := ⟨3, ![4, 512, 128]⟩
abbrev S9x1024 : Shape := ⟨2, ![9, 1024]⟩
abbrev S1x1024 : Shape := ⟨2, ![1, 1024]⟩
abbrev S1024x256 : Shape := ⟨2, ![1024, 256]⟩
abbrev S512x256 : Shape := ⟨2, ![512, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1x256x128 : Shape := ⟨3, ![1, 256, 128]⟩
abbrev S1x16x128 : Shape := ⟨3, ![1, 16, 128]⟩
abbrev S16x128 : Shape := ⟨2, ![16, 128]⟩
abbrev S1x128 : Shape := ⟨2, ![1, 128]⟩
abbrev S1024x1536 : Shape := ⟨2, ![1024, 1536]⟩
abbrev S256x1536 : Shape := ⟨2, ![256, 1536]⟩
abbrev S1x512x256 : Shape := ⟨3, ![1, 512, 256]⟩

abbrev nBuf : Space → Nat
  | .hbm => 20
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x3x1024, .f32⟩
  | .hbm, ⟨3, _⟩ => ⟨S1x3x1024, .f32⟩
  | .hbm, ⟨4, _⟩ => ⟨S1x1024x5632, .f32⟩
  | .hbm, ⟨5, _⟩ => ⟨S1x2816x1024, .f32⟩
  | .hbm, ⟨6, _⟩ => ⟨S1x1024x2048, .f32⟩
  | .hbm, ⟨7, _⟩ => ⟨S32768x1024, .f32⟩
  | .hbm, ⟨8, _⟩ => ⟨S3x1024, .f32⟩
  | .hbm, ⟨9, _⟩ => ⟨S3x1024, .f32⟩
  | .hbm, ⟨10, _⟩ => ⟨S1024x5632, .f32⟩
  | .hbm, ⟨11, _⟩ => ⟨S1024x5632, .bf16⟩
  | .hbm, ⟨12, _⟩ => ⟨S2816x1024, .f32⟩
  | .hbm, ⟨13, _⟩ => ⟨S2816x1024, .bf16⟩
  | .hbm, ⟨14, _⟩ => ⟨S1024x2048, .f32⟩
  | .hbm, ⟨15, _⟩ => ⟨S1024x2048, .bf16⟩
  | .hbm, ⟨16, _⟩ => ⟨S32768x1024, .f32⟩
  | .hbm, ⟨17, _⟩ => ⟨S32768x1024, .bf16⟩
  | .hbm, ⟨18, _⟩ => ⟨S128x512x256, .bf16⟩
  | .hbm, ⟨19, _⟩ => ⟨S32x2048x256, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S3x1024, .f32⟩
  | .local _ .vmem, ⟨6, _⟩ => ⟨S1024x5632, .bf16⟩
  | .local _ .vmem, ⟨7, _⟩ => ⟨S2816x1024, .bf16⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S2x512x256, .bf16⟩
  | .local _ .vmem, ⟨14, _⟩ => ⟨S2x512x256, .bf16⟩
  | .local _ .vmem, ⟨15, _⟩ => ⟨S32x32x256, .f32⟩
  | .local _ .vmem, ⟨16, _⟩ => ⟨S32x32x256, .f32⟩
  | .local _ .vmem, ⟨17, _⟩ => ⟨S512x2816, .bf16⟩
  | .local _ .vmem, ⟨18, _⟩ => ⟨S4x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InReferenceIdeal.lean ====
abbrev S8x4096x1024 : Shape := ⟨3, ![8, 4096, 1024]⟩
abbrev S16x9x1024 : Shape := ⟨3, ![16, 9, 1024]⟩
abbrev S1x3x1024 : Shape := ⟨3, ![1, 3, 1024]⟩
abbrev S1x1024x5632 : Shape := ⟨3, ![1, 1024, 5632]⟩
abbrev S1x2816x1024 : Shape := ⟨3, ![1, 2816, 1024]⟩
abbrev S1x1024x2048 : Shape := ⟨3, ![1, 1024, 2048]⟩
abbrev S8x9x1024 : Shape := ⟨3, ![8, 9, 1024]⟩
abbrev S8x1x9216 : Shape := ⟨3, ![8, 1, 9216]⟩
abbrev S8x1x1024 : Shape := ⟨3, ![8, 1, 1024]⟩
abbrev S_ : Shape := ⟨0, ![]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S2816x1024 : Shape := ⟨2, ![2816, 1024]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S1024x2048 : Shape := ⟨2, ![1024, 2048]⟩
abbrev S8x4096x2048 : Shape := ⟨3, ![8, 4096, 2048]⟩
abbrev S8x4096x512 : Shape := ⟨3, ![8, 4096, 512]⟩
abbrev S128x256x512 : Shape := ⟨3, ![128, 256, 512]⟩
abbrev S128x512x256 : Shape := ⟨3, ![128, 512, 256]⟩
abbrev S2048x16x32x16 : Shape := ⟨4, ![2048, 16, 32, 16]⟩
abbrev S32x2048x16x16 : Shape := ⟨4, ![32, 2048, 16, 16]⟩
abbrev S32768x1024 : Shape := ⟨2, ![32768, 1024]⟩
abbrev S32x2048x256 : Shape := ⟨3, ![32, 2048, 256]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x3x1024, .f32⟩
  | .hbm, ⟨3, _⟩ => ⟨S1x3x1024, .f32⟩
  | .hbm, ⟨4, _⟩ => ⟨S1x1024x5632, .f32⟩
  | .hbm, ⟨5, _⟩ => ⟨S1x2816x1024, .f32⟩
  | .hbm, ⟨6, _⟩ => ⟨S1x1024x2048, .f32⟩
  | .hbm, ⟨7, _⟩ => ⟨S8x9x1024, .f32⟩
  | .hbm, ⟨8, _⟩ => ⟨S8x1x9216, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S_, .f32⟩
  | .hbm, ⟨19, _⟩ => ⟨S8x1x1024, .f32⟩
  | .hbm, ⟨20, _⟩ => ⟨S8x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S1024x5632, .f32⟩
  | .hbm, ⟨26, _⟩ => ⟨S8x4096x5632, .f32⟩
  | .hbm, ⟨27, _⟩ => ⟨S8x4096x2816, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S2816x1024, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x1x1024, .f32⟩
  | .hbm, ⟨46, _⟩ => ⟨S8x1x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S1x1x1024, .f32⟩
  | .hbm, ⟨51, _⟩ => ⟨S1024, .f32⟩
  | .hbm, ⟨52, _⟩ => ⟨S1x1x1024, .f32⟩
  | .hbm, ⟨53, _⟩ => ⟨S1024, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x1024, .f32⟩
  | .hbm, ⟨76, _⟩ => ⟨S8x4096x1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | .hbm, ⟨80, _⟩ => ⟨S1x1x1024, .f32⟩
  | .hbm, ⟨81, _⟩ => ⟨S8x4096x1024, .f32⟩
  | .hbm, ⟨82, _⟩ => ⟨S8x4096x1024, .f32⟩
  | .hbm, ⟨83, _⟩ => ⟨S_, .f32⟩
  | .hbm, ⟨84, _⟩ => ⟨S8x1x1024, .f32⟩
  | .hbm, ⟨85, _⟩ => ⟨S8x1x1024, .f32⟩
  | .hbm, ⟨86, _⟩ => ⟨S8x4096x1024, .f32⟩
  | .hbm, ⟨87, _⟩ => ⟨S8x4096x1024, .f32⟩
  | .hbm, ⟨88, _⟩ => ⟨S8x4096x1024, .f32⟩
  | .hbm, ⟨89, _⟩ => ⟨S8x4096x1024, .f32⟩
  | .hbm, ⟨90, _⟩ => ⟨S1024x2048, .f32⟩
  | .hbm, ⟨91, _⟩ => ⟨S8x4096x2048, .f32⟩
  | .hbm, ⟨92, _⟩ => ⟨S8x4096x512, .f32⟩
  | .hbm, ⟨93, _⟩ => ⟨S8x4096x512, .f32⟩
  | .hbm, ⟨94, _⟩ => ⟨S8x4096x512, .f32⟩
  | .hbm, ⟨95, _⟩ => ⟨S8x4096x512, .f32⟩
  | .hbm, ⟨96, _⟩ => ⟨S_, .f32⟩
  | .hbm, ⟨97, _⟩ => ⟨S8x4096x512, .f32⟩
  | .hbm, ⟨98, _⟩ => ⟨S8x4096x512, .f32⟩
  | .hbm, ⟨99, _⟩ => ⟨S8x4096x1024, .f32⟩
  | .hbm, ⟨100, _⟩ => ⟨S128x256x512, .f32⟩
  | .hbm, ⟨101, _⟩ => ⟨S128x512x256, .f32⟩
  | .hbm, ⟨102, _⟩ => ⟨S2048x16x32x16, .f32⟩
  | .hbm, ⟨103, _⟩ => ⟨S32x2048x16x16, .f32⟩
  | .hbm, ⟨104, _⟩ => ⟨S32768x1024, .f32⟩
  | .hbm, ⟨105, _⟩ => ⟨S8x4096x1024, .bf16⟩
  | .hbm, ⟨106, _⟩ => ⟨S32768x1024, .bf16⟩
  | .hbm, ⟨107, _⟩ => ⟨S128x512x256, .bf16⟩
  | .hbm, ⟨108, _⟩ => ⟨S32x2048x256, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_0 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_8 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Ada.lean ====
abbrev S8x1024 : Shape := ⟨2, ![8, 1024]⟩
abbrev S1024 : Shape := ⟨1, ![1024]⟩
abbrev S1x1024x9216 : Shape := ⟨3, ![1, 1024, 9216]⟩
abbrev S1x9216 : Shape := ⟨2, ![1, 9216]⟩
abbrev S_ : Shape := ⟨0, ![]⟩
abbrev S16x1024 : Shape := ⟨2, ![16, 1024]⟩
abbrev S1 : Shape := ⟨1, ![1]⟩
abbrev S1024x9216 : Shape := ⟨2, ![1024, 9216]⟩
abbrev S9216 : Shape := ⟨1, ![9216]⟩
abbrev S16x9216 : Shape := ⟨2, ![16, 9216]⟩
abbrev S1024x1152 : Shape := ⟨2, ![1024, 1152]⟩
abbrev S1x1152 : Shape := ⟨2, ![1, 1152]⟩
abbrev S16x1152 : Shape := ⟨2, ![16, 1152]⟩

abbrev nBuf : Space → Nat
  | .hbm => 16
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x9216, .f32⟩
  | .hbm, ⟨3, _⟩ => ⟨S1x9216, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S1024x9216, .f32⟩
  | .hbm, ⟨13, _⟩ => ⟨S9216, .f32⟩
  | .hbm, ⟨14, _⟩ => ⟨S1x9216, .f32⟩
  | .hbm, ⟨15, _⟩ => ⟨S16x9216, .f32⟩
  | .local _ .vmem, ⟨0, _⟩ => ⟨S16x1024, .f32⟩
  | .local _ .vmem, ⟨1, _⟩ => ⟨S1024x1152, .f32⟩
  | .local _ .vmem, ⟨2, _⟩ => ⟨S1024x1152, .f32⟩
  | .local _ .vmem, ⟨3, _⟩ => ⟨S1x1152, .f32⟩
  | .local _ .vmem, ⟨4, _⟩ => ⟨S1x1152, .f32⟩
  | .local _ .vmem, ⟨5, _⟩ => ⟨S16x1152, .f32⟩
  | .local _ .vmem, ⟨6, _⟩ => ⟨S16x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S8x1024 : Shape := ⟨2, ![8, 1024]⟩
abbrev S1024 : Shape := ⟨1, ![1024]⟩
abbrev S1x1024x9216 : Shape := ⟨3, ![1, 1024, 9216]⟩
abbrev S1x9216 : Shape := ⟨2, ![1, 9216]⟩
abbrev S_ : Shape := ⟨0, ![]⟩
abbrev S1024x9216 : Shape := ⟨2, ![1024, 9216]⟩
abbrev S8x9216 : Shape := ⟨2, ![8, 9216]⟩
abbrev S9216 : Shape := ⟨1, ![9216]⟩
abbrev S7x9216 : Shape := ⟨2, ![7, 9216]⟩
abbrev S16x9216 : Shape := ⟨2, ![16, 9216]⟩

abbrev nBuf : Space → Nat
  | .hbm => 35
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x9216, .f32⟩
  | .hbm, ⟨3, _⟩ => ⟨S1x9216, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024x9216, .f32⟩
  | .hbm, ⟨14, _⟩ => ⟨S8x9216, .f32⟩
  | .hbm, ⟨15, _⟩ => ⟨S9216, .f32⟩
  | .hbm, ⟨16, _⟩ => ⟨S1x9216, .f32⟩
  | .hbm, ⟨17, _⟩ => ⟨S8x9216, .f32⟩
  | .hbm, ⟨18, _⟩ => ⟨S8x9216, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024x9216, .f32⟩
  | .hbm, ⟨29, _⟩ => ⟨S9216, .f32⟩
  | .hbm, ⟨30, _⟩ => ⟨S9216, .f32⟩
  | .hbm, ⟨31, _⟩ => ⟨S9216, .f32⟩
  | .hbm, ⟨32, _⟩ => ⟨S1x9216, .f32⟩
  | .hbm, ⟨33, _⟩ => ⟨S7x9216, .f32⟩
  | .hbm, ⟨34, _⟩ => ⟨S16x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== FfnInCtx.lean ====
abbrev S8x256x1024 : Shape := ⟨3, ![8, 256, 1024]⟩
abbrev S16x9x1024 : Shape := ⟨3, ![16, 9, 1024]⟩
abbrev S1x3x1024 : Shape := ⟨3, ![1, 3, 1024]⟩
abbrev S1x1024x5632 : Shape := ⟨3, ![1, 1024, 5632]⟩
abbrev S1x2816x1024 : Shape := ⟨3, ![1, 2816, 1024]⟩
abbrev S1x1024x2048 : Shape := ⟨3, ![1, 1024, 2048]⟩
abbrev S2048x1024 : Shape := ⟨2, ![2048, 1024]⟩
abbrev S1x9x1024 : Shape := ⟨3, ![1, 9, 1024]⟩
abbrev S3x1024 : Shape := ⟨2, ![3, 1024]⟩
abbrev S1024x5632 : Shape := ⟨2, ![1024, 5632]⟩
abbrev S2816x1024 : Shape := ⟨2, ![2816, 1024]⟩
abbrev S1024x2048 : Shape := ⟨2, ![1024, 2048]⟩
abbrev S8x512x256 : Shape := ⟨3, ![8, 512, 256]⟩
abbrev S32x128x256 : Shape := ⟨3, ![32, 128, 256]⟩
abbrev S512x1024 : Shape := ⟨2, ![512, 1024]⟩
abbrev S2x512x256 : Shape := ⟨3, ![2, 512, 256]⟩
abbrev S32x32x256 : Shape := ⟨3, ![32, 32, 256]⟩
abbrev S512x2816 : Shape := ⟨2, ![512, 2816]⟩
abbrev S4x512x128 : Shape := ⟨3, ![4, 512, 128]⟩
abbrev S9x1024 : Shape := ⟨2, ![9, 1024]⟩
abbrev S1x1024 : Shape := ⟨2, ![1, 1024]⟩
abbrev S1024x256 : Shape := ⟨2, ![1024, 256]⟩
abbrev S512x256 : Shape := ⟨2, ![512, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1x256x128 : Shape := ⟨3, ![1, 256, 128]⟩
abbrev S1x16x128 : Shape := ⟨3, ![1, 16, 128]⟩
abbrev S16x128 : Shape := ⟨2, ![16, 128]⟩
abbrev S1x128 : Shape := ⟨2, ![1, 128]⟩
abbrev S1024x1536 : Shape := ⟨2, ![1024, 1536]⟩
abbrev S256x1536 : Shape := ⟨2, ![256, 1536]⟩
abbrev S1x512x256 : Shape := ⟨3, ![1, 512, 256]⟩

abbrev nBuf : Space → Nat
  | .hbm => 21
  | .vmem => 18
  | .smem => 0
  | _ => 0

abbrev bufTy : (tb : Table) → Fin (tcTables nBuf tb) → BufTy
  | .hbm, ⟨0, _⟩ => ⟨S8x256x1024, .f32⟩
  | .hbm, ⟨1, _⟩ => ⟨S16x9x1024, .f32⟩
  | .hbm, ⟨2, _⟩ => ⟨S1x3x1024, .f32⟩
  | .hbm, ⟨3, _⟩ => ⟨S1x3x1024, .f32⟩
  | .hbm, ⟨4, _⟩ => ⟨S1x1024x5632, .f32⟩
  | .hbm, ⟨5, _⟩ => ⟨S1x2816x1024, .f32⟩
  | .hbm, ⟨6, _⟩ => ⟨S1x1024x2048, .f32⟩
  | .hbm, ⟨7, _⟩ => ⟨S2048x1024, .f32⟩
  | .hbm, ⟨8, _⟩ => ⟨S1x9x1024, .f32⟩
  | .hbm, ⟨9, _⟩ => ⟨S3x1024, .f32⟩
  | .hbm, ⟨10, _⟩ => ⟨S3x1024, .f32⟩
  | .hbm, ⟨11, _⟩ => ⟨S1024x5632, .f32⟩
  | .hbm, ⟨12, _⟩ => ⟨S1024x5632, .bf16⟩
  | .hbm, ⟨13, _⟩ => ⟨S2816x1024, .f32⟩
  | .hbm, ⟨14, _⟩ => ⟨S2816x1024, .bf16⟩
  | .hbm, ⟨15, _⟩ => ⟨S1024x2048, .f32⟩
  | .hbm, ⟨16, _⟩ => ⟨S1024x2048, .bf16⟩
  | .hbm, ⟨17, _⟩ => ⟨S2048x1024, .f32⟩
  | .hbm, ⟨18, _⟩ => ⟨S2048x1024, .bf16⟩
  | .hbm, ⟨19, _⟩ => ⟨S8x512x256, .bf16⟩
  | .hbm, ⟨20, _⟩ => ⟨S32x128x256, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S3x1024, .f32⟩
  | .local _ .vmem, ⟨4, _⟩ => ⟨S3x1024, .f32⟩
  | .local _ .vmem, ⟨5, _⟩ => ⟨S1024x5632, .bf16⟩
  | .local _ .vmem, ⟨6, _⟩ => ⟨S2816x1024, .bf16⟩
  | .local _ .vmem, ⟨7, _⟩ => ⟨S1024x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S2x512x256, .bf16⟩
  | .local _ .vmem, ⟨13, _⟩ => ⟨S2x512x256, .bf16⟩
  | .local _ .vmem, ⟨14, _⟩ => ⟨S32x32x256, .f32⟩
  | .local _ .vmem, ⟨15, _⟩ => ⟨S32x32x256, .f32⟩
  | .local _ .vmem, ⟨16, _⟩ => ⟨S512x2816, .bf16⟩
  | .local _ .vmem, ⟨17, _⟩ => ⟨S4x512x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InReferenceCtxIdeal.lean ====
abbrev S8x256x1024 : Shape := ⟨3, ![8, 256, 1024]⟩
abbrev S16x9x1024 : Shape := ⟨3, ![16, 9, 1024]⟩
abbrev S1x3x1024 : Shape := ⟨3, ![1, 3, 1024]⟩
abbrev S1x1024x5632 : Shape := ⟨3, ![1, 1024, 5632]⟩
abbrev S1x2816x1024 : Shape := ⟨3, ![1, 2816, 1024]⟩
abbrev S1x1024x2048 : Shape := ⟨3, ![1, 1024, 2048]⟩
abbrev S1x9x1024 : Shape := ⟨3, ![1, 9, 1024]⟩
abbrev S9x1024 : Shape := ⟨2, ![9, 1024]⟩
abbrev S9216 : Shape := ⟨1, ![9216]⟩
abbrev S1024 : Shape := ⟨1, ![1024]⟩
abbrev S_ : Shape := ⟨0, ![]⟩
abbrev S1x1x1024 : Shape := ⟨3, ![1, 1, 1024]⟩
abbrev S1024x5632 : Shape := ⟨2, ![1024, 5632]⟩
abbrev S8x256x5632 : Shape := ⟨3, ![8, 256, 5632]⟩
abbrev S8x256x2816 : Shape := ⟨3, ![8, 256, 2816]⟩
abbrev S2816x1024 : Shape := ⟨2, ![2816, 1024]⟩
abbrev S8x256 : Shape := ⟨2, ![8, 256]⟩
abbrev S8x256x1 : Shape := ⟨3, ![8, 256, 1]⟩
abbrev S1024x2048 : Shape := ⟨2, ![1024, 2048]⟩
abbrev S8x256x2048 : Shape := ⟨3, ![8, 256, 2048]⟩
abbrev S8x256x512 : Shape := ⟨3, ![8, 256, 512]⟩
abbrev S8x512x256 : Shape := ⟨3, ![8, 512, 256]⟩
abbrev S128x16x32x16 : Shape := ⟨4, ![128, 16, 32, 16]⟩
abbrev S32x128x16x16 : Shape := ⟨4, ![32, 128, 16, 16]⟩
abbrev S2048x1024 : Shape := ⟨2, ![2048, 1024]⟩
abbrev S32x128x256 : Shape := ⟨3, ![32, 128, 256]⟩

abbrev nBuf : Space → Nat
  | .hbm => 114
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x9x1024, .f32⟩
  | .hbm, ⟨2, _⟩ => ⟨S1x3x1024, .f32⟩
  | .hbm, ⟨3, _⟩ => ⟨S1x3x1024, .f32⟩
  | .hbm, ⟨4, _⟩ => ⟨S1x1024x5632, .f32⟩
  | .hbm, ⟨5, _⟩ => ⟨S1x2816x1024, .f32⟩
  | .hbm, ⟨6, _⟩ => ⟨S1x1024x2048, .f32⟩
  | .hbm, ⟨7, _⟩ => ⟨S1x9x1024, .f32⟩
  | .hbm, ⟨8, _⟩ => ⟨S9x1024, .f32⟩
  | .hbm, ⟨9, _⟩ => ⟨S9216, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1x1024, .f32⟩
  | .hbm, ⟨23, _⟩ => ⟨S8x256x1024, .f32⟩
  | .hbm, ⟨24, _⟩ => ⟨S8x256x1024, .f32⟩
  | .hbm, ⟨25, _⟩ => ⟨S1x1x1024, .f32⟩
  | .hbm, ⟨26, _⟩ => ⟨S8x256x1024, .f32⟩
  | .hbm, ⟨27, _⟩ => ⟨S8x256x1024, .f32⟩
  | .hbm, ⟨28, _⟩ => ⟨S1024x5632, .f32⟩
  | .hbm, ⟨29, _⟩ => ⟨S8x256x5632, .f32⟩
  | .hbm, ⟨30, _⟩ => ⟨S8x256x2816, .f32⟩
  | .hbm, ⟨31, _⟩ => ⟨S8x256x2816, .f32⟩
  | .hbm, ⟨32, _⟩ => ⟨S8x256x2816, .f32⟩
  | .hbm, ⟨33, _⟩ => ⟨S8x256x2816, .f32⟩
  | .hbm, ⟨34, _⟩ => ⟨S_, .f32⟩
  | .hbm, ⟨35, _⟩ => ⟨S8x256x2816, .f32⟩
  | .hbm, ⟨36, _⟩ => ⟨S8x256x2816, .f32⟩
  | .hbm, ⟨37, _⟩ => ⟨S_, .f32⟩
  | .hbm, ⟨38, _⟩ => ⟨S8x256x2816, .f32⟩
  | .hbm, ⟨39, _⟩ => ⟨S8x256x2816, .f32⟩
  | .hbm, ⟨40, _⟩ => ⟨S8x256x2816, .f32⟩
  | .hbm, ⟨41, _⟩ => ⟨S8x256x2816, .f32⟩
  | .hbm, ⟨42, _⟩ => ⟨S2816x1024, .f32⟩
  | .hbm, ⟨43, _⟩ => ⟨S8x256x1024, .f32⟩
  | .hbm, ⟨44, _⟩ => ⟨S_, .f32⟩
  | .hbm, ⟨45, _⟩ => ⟨S8x256x1024, .f32⟩
  | .hbm, ⟨46, _⟩ => ⟨S8x256x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1x1024, .f32⟩
  | .hbm, ⟨51, _⟩ => ⟨S8x256x1024, .f32⟩
  | .hbm, ⟨52, _⟩ => ⟨S8x256x1024, .f32⟩
  | .hbm, ⟨53, _⟩ => ⟨S8x256x1024, .f32⟩
  | .hbm, ⟨54, _⟩ => ⟨S1x1x1024, .f32⟩
  | .hbm, ⟨55, _⟩ => ⟨S1024, .f32⟩
  | .hbm, ⟨56, _⟩ => ⟨S1x1x1024, .f32⟩
  | .hbm, ⟨57, _⟩ => ⟨S1024, .f32⟩
  | .hbm, ⟨58, _⟩ => ⟨S_, .f32⟩
  | .hbm, ⟨59, _⟩ => ⟨S8x256, .f32⟩
  | .hbm, ⟨60, _⟩ => ⟨S8x256x1, .f32⟩
  | .hbm, ⟨61, _⟩ => ⟨S_, .f32⟩
  | .hbm, ⟨62, _⟩ => ⟨S8x256x1, .f32⟩
  | .hbm, ⟨63, _⟩ => ⟨S8x256x1, .f32⟩
  | .hbm, ⟨64, _⟩ => ⟨S8x256x1024, .f32⟩
  | .hbm, ⟨65, _⟩ => ⟨S8x256x1024, .f32⟩
  | .hbm, ⟨66, _⟩ => ⟨S8x256x1024, .f32⟩
  | .hbm, ⟨67, _⟩ => ⟨S_, .f32⟩
  | .hbm, ⟨68, _⟩ => ⟨S8x256, .f32⟩
  | .hbm, ⟨69, _⟩ => ⟨S8x256x1, .f32⟩
  | .hbm, ⟨70, _⟩ => ⟨S_, .f32⟩
  | .hbm, ⟨71, _⟩ => ⟨S8x256x1, .f32⟩
  | .hbm, ⟨72, _⟩ => ⟨S8x256x1, .f32⟩
  | .hbm, ⟨73, _⟩ => ⟨S8x256x1024, .f32⟩
  | .hbm, ⟨74, _⟩ => ⟨S8x256x1024, .f32⟩
  | .hbm, ⟨75, _⟩ => ⟨S_, .f32⟩
  | .hbm, ⟨76, _⟩ => ⟨S8x256x1, .f32⟩
  | .hbm, ⟨77, _⟩ => ⟨S8x256x1, .f32⟩
  | .hbm, ⟨78, _⟩ => ⟨S8x256x1, .f32⟩
  | .hbm, ⟨79, _⟩ => ⟨S8x256x1024, .f32⟩
  | .hbm, ⟨80, _⟩ => ⟨S8x256x1024, .f32⟩
  | .hbm, ⟨81, _⟩ => ⟨S1x1x1024, .f32⟩
  | .hbm, ⟨82, _⟩ => ⟨S8x256x1024, .f32⟩
  | .hbm, ⟨83, _⟩ => ⟨S8x256x1024, .f32⟩
  | .hbm, ⟨84, _⟩ => ⟨S1x1x1024, .f32⟩
  | .hbm, ⟨85, _⟩ => ⟨S8x256x1024, .f32⟩
  | .hbm, ⟨86, _⟩ => ⟨S8x256x1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1x1x1024, .f32⟩
  | .hbm, ⟨91, _⟩ => ⟨S8x256x1024, .f32⟩
  | .hbm, ⟨92, _⟩ => ⟨S8x256x1024, .f32⟩
  | .hbm, ⟨93, _⟩ => ⟨S1x1x1024, .f32⟩
  | .hbm, ⟨94, _⟩ => ⟨S8x256x1024, .f32⟩
  | .hbm, ⟨95, _⟩ => ⟨S8x256x1024, .f32⟩
  | .hbm, ⟨96, _⟩ => ⟨S1024x2048, .f32⟩
  | .hbm, ⟨97, _⟩ => ⟨S8x256x2048, .f32⟩
  | .hbm, ⟨98, _⟩ => ⟨S8x256x512, .f32⟩
  | .hbm, ⟨99, _⟩ => ⟨S8x256x512, .f32⟩
  | .hbm, ⟨100, _⟩ => ⟨S8x256x512, .f32⟩
  | .hbm, ⟨101, _⟩ => ⟨S8x256x512, .f32⟩
  | .hbm, ⟨102, _⟩ => ⟨S_, .f32⟩
  | .hbm, ⟨103, _⟩ => ⟨S8x256x512, .f32⟩
  | .hbm, ⟨104, _⟩ => ⟨S8x256x512, .f32⟩
  | .hbm, ⟨105, _⟩ => ⟨S8x256x1024, .f32⟩
  | .hbm, ⟨106, _⟩ => ⟨S8x512x256, .f32⟩
  | .hbm, ⟨107, _⟩ => ⟨S128x16x32x16, .f32⟩
  | .hbm, ⟨108, _⟩ => ⟨S32x128x16x16, .f32⟩
  | .hbm, ⟨109, _⟩ => ⟨S2048x1024, .f32⟩
  | .hbm, ⟨110, _⟩ => ⟨S8x256x1024, .bf16⟩
  | .hbm, ⟨111, _⟩ => ⟨S2048x1024, .bf16⟩
  | .hbm, ⟨112, _⟩ => ⟨S8x512x256, .bf16⟩
  | .hbm, ⟨113, _⟩ => ⟨S32x128x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_0 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_2 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_8 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]
-- ==== Proof.Response.lean ====
/-
  THE RESPONSE OF THE S5 LAYER OVER 16 TOKENS, in real numbers. `Params` holds a layer's parameters; `kernelAt` is the
  layer's convolution kernel, Re (C · A^m · B) per direction, group, input channel, output channel and distance m;
  `response` puts the two directions together. `stateRe`, `stateIm` are the states of the two scans run one token at a
  time on a unit input, and `stateRe_eq`, `stateIm_eq` say what they are after n tokens: a power of A times B from the
  token of the input on, zero before it.
-/
module

public import Mathlib.Analysis.SpecialFunctions.Trigonometric.Basic
public import Mathlib.Algebra.BigOperators.Fin

@[expose] public section

noncomputable section

namespace Cert.S5

/-- The parameters of an S5 layer of two directions, 32 groups of 16 channels and 64 poles per group. -/
structure Params where
  aRe : Fin 2 → Fin 32 → Fin 64 → ℝ
  aIm : Fin 2 → Fin 32 → Fin 64 → ℝ
  logDt : Fin 2 → Fin 32 → ℝ
  bRe : Fin 2 → Fin 32 → Fin 64 → Fin 16 → ℝ
  bIm : Fin 2 → Fin 32 → Fin 64 → Fin 16 → ℝ
  cRe : Fin 2 → Fin 32 → Fin 16 → Fin 64 → ℝ
  cIm : Fin 2 → Fin 32 → Fin 16 → Fin 64 → ℝ

variable (q : Params) (d : Fin 2) (g : Fin 32) (p : Fin 64)

/-- The real and the imaginary part of a pole times its step. -/
def Params.lr : ℝ := q.aRe d g p * Real.exp (q.logDt d g)
def Params.li : ℝ := q.aIm d g p * Real.exp (q.logDt d g)

/-- The squared modulus of a pole. -/
def Params.den : ℝ := q.aRe d g p * q.aRe d g p + q.aIm d g p * q.aIm d g p

/-- The discrete pole. -/
def Params.abarRe : ℝ := Real.exp (q.lr d g p) * Real.cos (q.li d g p)
def Params.abarIm : ℝ := Real.exp (q.lr d g p) * Real.sin (q.li d g p)

/-- (discrete pole − 1) / pole. -/
def Params.holdRe : ℝ :=
  ((q.abarRe d g p - 1) * q.aRe d g p + q.abarIm d g p * q.aIm d g p) / q.den d g p
def Params.holdIm : ℝ :=
  (q.abarIm d g p * q.aRe d g p - (q.abarRe d g p - 1) * q.aIm d g p) / q.den d g p

/-- The discrete input matrix. -/
def Params.bbarRe (k : Fin 16) : ℝ := q.holdRe d g p * q.bRe d g p k - q.holdIm d g p * q.bIm d g p k
def Params.bbarIm (k : Fin 16) : ℝ := q.holdRe d g p * q.bIm d g p k + q.holdIm d g p * q.bRe d g p k

/-- The m-th power of the discrete pole. -/
def Params.powRe (m : ℕ) : ℝ := Real.exp (m * q.lr d g p) * Real.cos (m * q.li d g p)
def Params.powIm (m : ℕ) : ℝ := Real.exp (m * q.lr d g p) * Real.sin (m * q.li d g p)

@[simp] theorem powRe_zero : q.powRe d g p 0 = 1 := by simp [Params.powRe]
@[simp] theorem powIm_zero : q.powIm d g p 0 = 0 := by simp [Params.powIm]

/-- The power goes on by one complex product. -/
theorem powRe_succ (m : ℕ) :
    q.powRe d g p (m + 1) = q.abarRe d g p * q.powRe d g p m - q.abarIm d g p * q.powIm d g p m := by
  unfold Params.powRe Params.powIm Params.abarRe Params.abarIm
  push_cast
  rw [add_mul, add_mul, one_mul, one_mul, Real.exp_add, Real.cos_add]
  ring

theorem powIm_succ (m : ℕ) :
    q.powIm d g p (m + 1) = q.abarRe d g p * q.powIm d g p m + q.abarIm d g p * q.powRe d g p m := by
  unfold Params.powRe Params.powIm Params.abarRe Params.abarIm
  push_cast
  rw [add_mul, add_mul, one_mul, one_mul, Real.exp_add, Real.sin_add]
  ring

/-- A^m · B. -/
def Params.hitRe (k : Fin 16) (m : ℕ) : ℝ := q.powRe d g p m * q.bbarRe d g p k - q.powIm d g p m * q.bbarIm d g p k
def Params.hitIm (k : Fin 16) (m : ℕ) : ℝ := q.powRe d g p m * q.bbarIm d g p k + q.powIm d g p m * q.bbarRe d g p k

/-- The convolution kernel: Re (C · A^m · B), input channel k, output channel c. -/
def Params.kernelAt (k c : Fin 16) (m : ℕ) : ℝ :=
  (∑ p : Fin 64, q.hitRe d g p k m * q.cRe d g c p) - ∑ p : Fin 64, q.hitIm d g p k m * q.cIm d g c p

/-- What the layer makes, at token j and channel c, of a one in channel k of token i. -/
def Params.response (i k j c : Fin 16) : ℝ :=
  (if i ≤ j then q.kernelAt 0 g k c (j - i) else 0) + (if j ≤ i then q.kernelAt 1 g k c (i - j) else 0)

/-- The step at which direction d meets token i: the backward direction starts at the last token. -/
def meets (d : Fin 2) (i : Fin 16) : ℕ := if d = 0 then i else 15 - i

/-- One where step n of direction d meets token i, else zero. -/
def unitAt (n : ℕ) (d : Fin 2) (i : Fin 16) : ℝ := if meets d i = n then 1 else 0

/-- The states of the two scans after n tokens of the input that is one in channel k of token i. -/
def Params.state (i k : Fin 16) : ℕ → ℝ × ℝ
  | 0 => (0, 0)
  | n + 1 =>
    let s := Params.state i k n
    (q.abarRe d g p * s.1 - q.abarIm d g p * s.2 + q.bbarRe d g p k * unitAt n d i,
     q.abarRe d g p * s.2 + q.abarIm d g p * s.1 + q.bbarIm d g p k * unitAt n d i)

/-- After n tokens the state is A^(n−1−t) · B from the step t that meets the input on, and zero before it. -/
theorem state_eq (i k : Fin 16) (n : ℕ) :
    q.state d g p i k n =
      if meets d i < n then (q.hitRe d g p k (n - 1 - meets d i), q.hitIm d g p k (n - 1 - meets d i)) else (0, 0) := by
  induction n with
  | zero => simp [Params.state]
  | succ n ih =>
    simp only [Params.state, ih, unitAt]
    rcases lt_trichotomy (meets d i) n with h | h | h
    · have e : n + 1 - 1 - meets d i = (n - 1 - meets d i) + 1 := by omega
      have h2 : meets d i < n + 1 := by omega
      have h3 : ¬ meets d i = n := by omega
      rw [if_pos h, if_pos h2, if_neg h3, e]
      simp only [Params.hitRe, Params.hitIm, powRe_succ, powIm_succ]
      refine Prod.ext ?_ ?_ <;> simp only <;> ring
    · subst h
      simp [Params.hitRe, Params.hitIm]
    · have h1 : ¬ meets d i < n := by omega
      have h2 : ¬ meets d i < n + 1 := by omega
      have h3 : ¬ meets d i = n := by omega
      simp [h1, h2, h3]

/-- What direction d's scan reads out of its state after step n. -/
def Params.readAt (i k c : Fin 16) (n : ℕ) : ℝ :=
  (∑ p : Fin 64, (q.state d g p i k (n + 1)).1 * q.cRe d g c p)
    - ∑ p : Fin 64, (q.state d g p i k (n + 1)).2 * q.cIm d g c p

/-- The readout after step n is the convolution kernel at the distance gone since the input, or zero before it. -/
theorem readAt_eq (i k c : Fin 16) (n : ℕ) :
    q.readAt d g i k c n = if meets d i ≤ n then q.kernelAt d g k c (n - meets d i) else 0 := by
  unfold Params.readAt Params.kernelAt
  simp only [state_eq]
  by_cases h : meets d i ≤ n
  · have h' : meets d i < n + 1 := by omega
    simp [h, h']
  · have h' : ¬ meets d i < n + 1 := by omega
    simp [h, h']

/-- The two scans together make the response. -/
theorem readAt_add (i k j c : Fin 16) :
    q.readAt 0 g i k c j + q.readAt 1 g i k c (15 - j) = q.response g i k j c := by
  rw [readAt_eq, readAt_eq, Params.response]
  have hi := i.isLt
  have hj := j.isLt
  have e0 : meets 0 i = i := by simp [meets]
  have e1 : meets 1 i = 15 - i := by simp [meets]
  rw [e0, e1]
  have l0 : ∀ x : ℝ, (if (i : ℕ) ≤ j then x else 0) = if i ≤ j then x else 0 := fun x => by
    by_cases h : i ≤ j
    · rw [if_pos h, if_pos (by simpa using h)]
    · rw [if_neg h, if_neg (by simpa using h)]
  have l1 : (if 15 - (i : ℕ) ≤ 15 - (j : ℕ) then q.kernelAt 1 g k c (15 - (j : ℕ) - (15 - (i : ℕ))) else 0)
      = if j ≤ i then q.kernelAt 1 g k c ((i : ℕ) - j) else 0 := by
    by_cases h : j ≤ i
    · have h' : (j : ℕ) ≤ i := h
      have e : 15 - (j : ℕ) - (15 - (i : ℕ)) = (i : ℕ) - j := by omega
      rw [if_pos h, if_pos (by omega), e]
    · have h' : ¬ (j : ℕ) ≤ i := h
      rw [if_neg h, if_neg (by omega)]
  rw [l0, l1]

end Cert.S5

end
-- ==== Proof.Coe.lean ====
/-
  Real numbers read as extended reals: a finite sum, and a quotient by a number that is not zero.
-/
module

public import Idealize.ShloMosaic.Lib.Pointwise
public import Mathlib.Algebra.BigOperators.Fin

@[expose] public section

noncomputable section

namespace Cert.S5

open Idealize.ShloMosaic

/-- A finite sum of reals, read as an extended real, is the sum of its terms. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A quotient of reals is the real quotient where the divisor is not zero. -/
theorem coe_div {x y : ℝ} (h : y ≠ 0) : Ideal.div (x : EReal) (y : EReal) = ((x / y : ℝ) : EReal) := by
  rw [Ideal.div_coe h, ← EReal.coe_mul, one_div, div_eq_mul_inv]

end Cert.S5

end
-- ==== Proof.RefState.lean ====
/-
  THE REFERENCE, token by token: what its loop's state holds after n trips (`Inv`), from the constants it computes before
  the loop (`init_inv`) and one trip (`step_inv`), and what its result holds (`result_at`): the layer's response.
-/
module

public import proofs.«01_k».proof.Proof.Response
public import proofs.«01_k».proof.Proof.Coe
public import proofs.«01_k».proof.Proof.Gen.ReferenceIdeal.Step
public import Idealize.ShloMosaic.Lib.Pointwise

@[expose] public section

noncomputable section

namespace Cert.S5.Ref

open Cert.ReferenceIdeal Cert.ReferenceIdeal.Step Idealize.ShloMosaic

/-- The seven argument arrays hold the parameters. -/
structure Holds (q : Params) (a0 a1 : FVec Ideal S1x2x32x64 .f32) (a2 : FVec Ideal S1x2x32 .f32)
    (a3 a4 : FVec Ideal S1x2x32x64x16 .f32) (a5 a6 : FVec Ideal S1x2x32x16x64 .f32) : Prop where
  aRe : ∀ d g p, a0 (ix4 0 d g p) = (q.aRe d g p : EReal)
  aIm : ∀ d g p, a1 (ix4 0 d g p) = (q.aIm d g p : EReal)
  logDt : ∀ d g, a2 (ix3 0 d g) = (q.logDt d g : EReal)
  bRe : ∀ d g p k, a3 (ix5 0 d g p k) = (q.bRe d g p k : EReal)
  bIm : ∀ d g p k, a4 (ix5 0 d g p k) = (q.bIm d g p k : EReal)
  cRe : ∀ d g c p, a5 (ix5 0 d g c p) = (q.cRe d g c p : EReal)
  cIm : ∀ d g c p, a6 (ix5 0 d g c p) = (q.cIm d g c p : EReal)

/-- What the loop's state holds after n trips. -/
structure Inv (q : Params) (n : ℕ) (s : State Ideal) : Prop where
  hRe : ∀ d g i k p, s.main_v58_9 (ix5 d g i k p) = ((q.state d g p i k n).1 : EReal)
  hIm : ∀ d g i k p, s.main_v58_10 (ix5 d g i k p) = ((q.state d g p i k n).2 : EReal)
  yF : ∀ j g i k c, s.main_v58_11 (ix5 j g i k c) = ((if (j : ℕ) < n then q.readAt 0 g i k c j else 0 : ℝ) : EReal)
  yB : ∀ j g i k c,
    s.main_v58_12 (ix5 j g i k c) = ((if 15 - (j : ℕ) < n then q.readAt 1 g i k c (15 - (j : ℕ)) else 0 : ℝ) : EReal)
  aRe : ∀ d g p, s.main_v58_0 (ix5 d g 0 0 p) = (q.abarRe d g p : EReal)
  aIm : ∀ d g p, s.main_v58_1 (ix5 d g 0 0 p) = (q.abarIm d g p : EReal)
  bRe : ∀ d g k p, s.main_v58_2 (ix5 d g 0 k p) = (q.bbarRe d g p k : EReal)
  bIm : ∀ d g k p, s.main_v58_3 (ix5 d g 0 k p) = (q.bbarIm d g p k : EReal)
  cRe : ∀ d g c p, s.main_v58_4 (ix4 d g c p) = (q.cRe d g c p : EReal)
  cIm : ∀ d g c p, s.main_v58_5 (ix4 d g c p) = (q.cIm d g c p : EReal)

section Entry

variable {q : Params} {a0 a1 : FVec Ideal S1x2x32x64 .f32} {a2 : FVec Ideal S1x2x32 .f32}
  {a3 a4 : FVec Ideal S1x2x32x64x16 .f32} {a5 a6 : FVec Ideal S1x2x32x16x64 .f32}

theorem abarRe_at (h : Holds q a0 a1 a2 a3 a4 a5 a6) (d : Fin 2) (g : Fin 32) (p : Fin 64) :
    A_main_v15 (F := Ideal) a0 a1 a2 a3 a4 a5 a6 (ix3 d g p) = (q.abarRe d g p : EReal) := by
  pointwise [A_main_v15, A_main_v14, A_main_v13, A_main_v12, A_main_v11, A_main_v10, A_main_v9, A_main_v8, A_main_v7,
    A_main_v2, A_main_v1, A_main_v0, h.aRe, h.aIm, h.logDt]
  simp only [Ideal.exp_coe, Ideal.cos_coe, ← EReal.coe_mul]
  rfl

theorem abarIm_at (h : Holds q a0 a1 a2 a3 a4 a5 a6) (d : Fin 2) (g : Fin 32) (p : Fin 64) :
    A_main_v19 (F := Ideal) a0 a1 a2 a3 a4 a5 a6 (ix3 d g p) = (q.abarIm d g p : EReal) := by
  pointwise [A_main_v19, A_main_v18, A_main_v17, A_main_v16, A_main_v11, A_main_v10, A_main_v9, A_main_v8, A_main_v7,
    A_main_v2, A_main_v1, A_main_v0, h.aRe, h.aIm, h.logDt]
  simp only [Ideal.exp_coe, Ideal.sin_coe, ← EReal.coe_mul]
  rfl

theorem holdRe_at (h : Holds q a0 a1 a2 a3 a4 a5 a6) (hq : ∀ d g p, q.den d g p ≠ 0) (d : Fin 2) (g : Fin 32) (p : Fin 64) :
    A_main_v28 (F := Ideal) a0 a1 a2 a3 a4 a5 a6 (ix3 d g p) = (q.holdRe d g p : EReal) := by
  pointwise [A_main_v28, A_main_v27, A_main_v26, A_main_v25, A_main_v24, A_main_v22, A_main_v21, A_main_v20,
    K_main_v23, K_main_cst, A_main_v1, A_main_v0, abarRe_at h, abarIm_at h, h.aRe, h.aIm]
  simp only [← EReal.coe_one, ← EReal.coe_mul, ← EReal.coe_add, ← EReal.coe_sub]
  exact coe_div (hq d g p)

theorem holdIm_at (h : Holds q a0 a1 a2 a3 a4 a5 a6) (hq : ∀ d g p, q.den d g p ≠ 0) (d : Fin 2) (g : Fin 32) (p : Fin 64) :
    A_main_v34 (F := Ideal) a0 a1 a2 a3 a4 a5 a6 (ix3 d g p) = (q.holdIm d g p : EReal) := by
  pointwise [A_main_v34, A_main_v33, A_main_v32, A_main_v31, A_main_v29, A_main_v22, A_main_v21, A_main_v20,
    K_main_v30, K_main_cst_0, A_main_v1, A_main_v0, abarRe_at h, abarIm_at h, h.aRe, h.aIm]
  simp only [← EReal.coe_one, ← EReal.coe_mul, ← EReal.coe_add, ← EReal.coe_sub]
  exact coe_div (hq d g p)

/-- The state handed to the first trip. -/
theorem init_inv (h : Holds q a0 a1 a2 a3 a4 a5 a6) (hq : ∀ d g p, q.den d g p ≠ 0) :
    Inv q 0 (init (F := Ideal) a0 a1 a2 a3 a4 a5 a6) where
  hRe d g i k p := by pointwise [init, K_main_v56, K_main_cst_1]; rfl
  hIm d g i k p := by pointwise [init, K_main_v56, K_main_cst_1]; rfl
  yF j g i k c := by pointwise [init, K_main_v57, K_main_cst_2]; simp
  yB j g i k c := by pointwise [init, K_main_v57, K_main_cst_2]; simp
  aRe d g p := by pointwise [init, A_main_v49, abarRe_at h]
  aIm d g p := by pointwise [init, A_main_v50, abarIm_at h]
  bRe d g k p := by
    pointwise [init, A_main_v52, A_main_v51, A_main_v41, A_main_v40, A_main_v39, A_main_v38, A_main_v37, A_main_v36,
      A_main_v35, A_main_v4, A_main_v3, holdRe_at h hq, holdIm_at h hq, h.bRe, h.bIm]
    simp only [← EReal.coe_mul, ← EReal.coe_sub]
    rfl
  bIm d g k p := by
    pointwise [init, A_main_v54, A_main_v53, A_main_v48, A_main_v47, A_main_v46, A_main_v45, A_main_v44, A_main_v43,
      A_main_v42, A_main_v4, A_main_v3, holdRe_at h hq, holdIm_at h hq, h.bRe, h.bIm]
    simp only [← EReal.coe_mul, ← EReal.coe_add]
    rfl
  cRe d g c p := by pointwise [init, A_main_v5, h.cRe]
  cIm d g c p := by pointwise [init, A_main_v6, h.cIm]

end Entry

/-- The word test by which trip n of direction d finds its token. -/
theorem token_word {n : ℕ} (hn : n < 16) (d : Fin 2) (i : Fin 16) :
    IntOp.cmpi CmpIPredicate.eq (BitVec.ofNat 32 ↑i)
      (if h : (d : ℕ) < 1 then BitVec.ofNat 32 n else IntOp.subi (15#32) (BitVec.ofNat 32 n))
      = BitVec.ofBool (decide (meets d i = n)) := by
  have key : ∀ (n : Fin 16) (d : Fin 2) (i : Fin 16), IntOp.cmpi CmpIPredicate.eq (BitVec.ofNat 32 ↑i)
      (if h : (d : ℕ) < 1 then BitVec.ofNat 32 n else IntOp.subi (15#32) (BitVec.ofNat 32 n))
      = BitVec.ofBool (decide ((if d = 0 then (i : ℕ) else 15 - i) = n)) := by decide +kernel
  exact key ⟨n, hn⟩ d i

theorem forward_word {n : ℕ} (hn : n < 16) (j : Fin 16) :
    IntOp.cmpi CmpIPredicate.eq (BitVec.ofNat 32 ↑j) (BitVec.ofNat 32 n) = BitVec.ofBool (decide ((j : ℕ) = n)) := by
  have key : ∀ (n j : Fin 16), IntOp.cmpi CmpIPredicate.eq (BitVec.ofNat 32 ↑j) (BitVec.ofNat 32 n)
      = BitVec.ofBool (decide ((j : ℕ) = n)) := by decide +kernel
  exact key ⟨n, hn⟩ j

theorem backward_word {n : ℕ} (hn : n < 16) (j : Fin 16) :
    IntOp.cmpi CmpIPredicate.eq (BitVec.ofNat 32 ↑j) (IntOp.subi (15#32) (BitVec.ofNat 32 n))
      = BitVec.ofBool (decide (15 - (j : ℕ) = n)) := by
  have key : ∀ (n j : Fin 16), IntOp.cmpi CmpIPredicate.eq (BitVec.ofNat 32 ↑j) (IntOp.subi (15#32) (BitVec.ofNat 32 n))
      = BitVec.ofBool (decide (15 - (j : ℕ) = n)) := by decide +kernel
  exact key ⟨n, hn⟩ j

section Trip

variable {q : Params} {n : ℕ} {s : State Ideal}

/-- One trip's new state. -/
theorem hRe_next (h : Inv q n s) (hn : n < 16) (d : Fin 2) (g : Fin 32) (i k : Fin 16) (p : Fin 64) :
    b27 n s (ix5 d g i k p) = ((q.state d g p i k (n + 1)).1 : EReal) := by
  pointwise [b27, b26, b25, b24, b23, b22, b21, b20, b19, b18, b17, b16, b15, b14, b13, b12, b11, b10, b9, b8, b7, b6,
    b5, b4, b3, b2, h.hRe, h.hIm, h.aRe, h.aIm, h.bRe, h.bIm, token_word hn]
  have e : (if meets d i = n then (1 : EReal) else 0) = (unitAt n d i : EReal) := by
    by_cases hm : meets d i = n <;> simp [hm, unitAt]
  rw [e]
  simp only [← EReal.coe_mul, ← EReal.coe_add, ← EReal.coe_sub]
  rfl

theorem hIm_next (h : Inv q n s) (hn : n < 16) (d : Fin 2) (g : Fin 32) (i k : Fin 16) (p : Fin 64) :
    b37 n s (ix5 d g i k p) = ((q.state d g p i k (n + 1)).2 : EReal) := by
  pointwise [b37, b36, b35, b34, b33, b32, b31, b30, b29, b28, b17, b16, b15, b14, b13, b12, b11, b10, b9, b8, b7, b6,
    b5, b4, b3, b2, h.hRe, h.hIm, h.aRe, h.aIm, h.bRe, h.bIm, token_word hn]
  have e : (if meets d i = n then (1 : EReal) else 0) = (unitAt n d i : EReal) := by
    by_cases hm : meets d i = n <;> simp [hm, unitAt]
  rw [e]
  simp only [← EReal.coe_mul, ← EReal.coe_add]
  rfl

/-- What a trip reads out of the new state. -/
theorem read_next (h : Inv q n s) (hn : n < 16) (d : Fin 2) (g : Fin 32) (i k c : Fin 16) :
    b40 n s (ix5 d g i k c) = (q.readAt d g i k c n : EReal) := by
  pointwise [b40, b39, b38, hRe_next h hn, hIm_next h hn, h.cRe, h.cIm]
  simp only [← EReal.coe_mul, ← coe_sum, ← EReal.coe_sub]
  rfl

theorem yF_next (h : Inv q n s) (hn : n < 16) (j : Fin 16) (g : Fin 32) (i k c : Fin 16) :
    b48 n s (ix5 j g i k c) = ((if (j : ℕ) < n + 1 then q.readAt 0 g i k c j else 0 : ℝ) : EReal) := by
  pointwise [b48, b47, b46, b45, b44, b43, b42, b41, K_main_v55, id, read_next h hn, h.yF, forward_word hn]
  by_cases hj : (j : ℕ) = n
  · subst hj; simp
  · have e : ((j : ℕ) < n + 1) = ((j : ℕ) < n) := propext ⟨fun _ => by omega, fun _ => by omega⟩
    simp [hj, e]

theorem yB_next (h : Inv q n s) (hn : n < 16) (j : Fin 16) (g : Fin 32) (i k c : Fin 16) :
    b58 n s (ix5 j g i k c) = ((if 15 - (j : ℕ) < n + 1 then q.readAt 1 g i k c (15 - (j : ℕ)) else 0 : ℝ) : EReal) := by
  pointwise [b58, b57, b56, b55, b54, b53, b52, b51, b50, b49, K_main_v55, read_next h hn, h.yB, backward_word hn]
  by_cases hj : 15 - (j : ℕ) = n
  · subst hj; simp
  · have e : (15 - (j : ℕ) < n + 1) = (15 - (j : ℕ) < n) := propext ⟨fun _ => by omega, fun _ => by omega⟩
    simp only [hj, e, decide_false, Bool.false_eq_true, if_false]

/-- One trip. -/
theorem step_inv (h : Inv q n s) (hn : n < 16) : Inv q (n + 1) (step n s) where
  hRe := hRe_next h hn
  hIm := hIm_next h hn
  yF := yF_next h hn
  yB := yB_next h hn
  aRe := h.aRe
  aIm := h.aIm
  bRe := h.bRe
  bIm := h.bIm
  cRe := h.cRe
  cIm := h.cIm

/-- The result, from the state after 16 trips: the layer's response, rows (i, k), columns (j, c). -/
theorem result_at (h : Inv q 16 s) (g : Fin 32) (r l : Fin 256) :
    R_main_v62 s (ix3 g r l)
      = (q.response g ⟨r / 16, by omega⟩ ⟨r % 16, by omega⟩ ⟨l / 16, by omega⟩ ⟨l % 16, by omega⟩ : EReal) := by
  pointwise [R_main_v62, h.yF, h.yB]
  rw [if_pos (by omega), if_pos (by omega), ← EReal.coe_add]
  exact congrArg _ (readAt_add q g ⟨r / 16, by omega⟩ ⟨r % 16, by omega⟩ ⟨l / 16, by omega⟩ ⟨l % 16, by omega⟩)

end Trip

/-- The state after n trips from the first, for any sequence of states that goes on by `step`. -/
theorem iter_inv {q : Params} (it : ℕ → State Ideal) (h0 : Inv q 0 (it 0)) (hs : ∀ n, it (n + 1) = step n (it n)) :
    ∀ n, n ≤ 16 → Inv q n (it n)
  | 0, _ => h0
  | n + 1, hn => by
    rw [hs n]
    exact step_inv (iter_inv it h0 hs n (by omega)) (by omega)

end Cert.S5.Ref

end
-- ==== Proof.Tables.lean ====
/-
  THE KERNEL'S TWO OPERANDS: what the operations before the call leave in the left array (the zero-order-hold input
  columns, real parts beside negated imaginary parts) and in the right array (the output rows times the powers of the
  pole, spread over 256 lanes), at every entry.
-/
module

public import proofs.«01_k».proof.Proof.RefState
public import proofs.«01_k».proof.Proof.Gen.KernelIdeal.Frame
public import Idealize.ShloMosaic.Lib.StableHlo.ReadAt

@[expose] public section

noncomputable section

namespace Cert.S5

open Cert.KernelIdeal Cert.KernelIdeal.Gen Idealize.ShloMosaic Idealize.ShloMosaic.TcCoe

/-! ## The constants -/

/-- The f32 words of 0, 1, …, 15. -/
def smallWord : Fin 16 → BitVec 32 :=
  ![0x00000000#32, 0x3F800000#32, 0x40000000#32, 0x40400000#32, 0x40800000#32, 0x40A00000#32, 0x40C00000#32,
    0x40E00000#32, 0x41000000#32, 0x41100000#32, 0x41200000#32, 0x41300000#32, 0x41400000#32, 0x41500000#32,
    0x41600000#32, 0x41700000#32]

theorem smallWord_val (e : Fin 16) : Ideal.ofBits .f32 (smallWord e) = (((e : ℕ) : ℝ) : EReal) := by
  fin_cases e <;> simp [smallWord, Ideal.ofBits, Ideal.ieee, -EReal.coe_mul] <;> norm_num

/-- The power of the pole that lane group m of direction d carries: m forward, 15 − m backward. -/
def lagOf (d : Fin 2) (m : Fin 16) : Fin 16 := if d = 0 then m else ⟨15 - m, by omega⟩

theorem lag_word : ∀ (d : Fin 2) (m : Fin 16), lit1 (S2x1x1x16.rowMajor (ix4 d 0 0 m)) = smallWord (lagOf d m) := by
  decide +kernel

theorem tile_word : ∀ (x : Fin 16) (l : Fin 256), lit0 (S16x256.rowMajor (ix2 x l))
    = if x = ⟨l % 16, Nat.mod_lt _ (by decide)⟩ then 0x3F800000#32 else 0x00000000#32 := by
  decide +kernel

theorem tile_val (x : Fin 16) (l : Fin 256) : Ideal.ofBits .f32 (lit0 (S16x256.rowMajor (ix2 x l)))
    = if x = ⟨l % 16, Nat.mod_lt _ (by decide)⟩ then (1 : EReal) else 0 := by
  rw [tile_word, apply_ite (Ideal.ofBits .f32), Ideal.ofBits_one_f32, Ideal.ofBits_zero_f32]

theorem tile_sum (f : Fin 16 → ℝ) (l : Fin 256) :
    ∑ x, (f x : EReal) * Ideal.ofBits .f32 (lit0 (S16x256.rowMajor (ix2 x l)))
      = (f ⟨l % 16, Nat.mod_lt _ (by decide)⟩ : EReal) := by
  rw [Finset.sum_congr rfl fun x _ => by rw [tile_val x l, mul_ite, mul_one, mul_zero], Finset.sum_ite_eq',
    if_pos (Finset.mem_univ _)]

/-! ## The entries of the right array -/

variable (q : Params)

/-- Output row times power, real part, at lane l: channel l % 16, lane group l / 16. -/
def Params.outRe (d : Fin 2) (g : Fin 32) (p : Fin 64) (l : Fin 256) : ℝ :=
  q.cRe d g ⟨l % 16, by omega⟩ p * q.powRe d g p (lagOf d ⟨l / 16, by omega⟩)
    - q.cIm d g ⟨l % 16, by omega⟩ p * q.powIm d g p (lagOf d ⟨l / 16, by omega⟩)

/-- The same, imaginary part. -/
def Params.outIm (d : Fin 2) (g : Fin 32) (p : Fin 64) (l : Fin 256) : ℝ :=
  q.cRe d g ⟨l % 16, by omega⟩ p * q.powIm d g p (lagOf d ⟨l / 16, by omega⟩)
    + q.cIm d g ⟨l % 16, by omega⟩ p * q.powRe d g p (lagOf d ⟨l / 16, by omega⟩)

section Read

variable {q} {m : (ℓ : Loc nD τ sig) → Buf (Elt Ideal) ℓ} {c : Dev nD}

/-- The arguments of one device hold the parameters, and the spreading matrix repeats each column over its 16 lanes. -/
structure Given (q : Params) (m : (ℓ : Loc nD τ sig) → Buf (Elt Ideal) ℓ) (c : Dev nD) : Prop where
  holds : Ref.Holds q (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6))
  pole : ∀ d g p, q.den d g p ≠ 0
  spread : ∀ (x : Fin 16) (l : Fin 256),
    m (c, Proc.tc.devRef main_arg7) (ix2 x l) = if x = ⟨l / 16, by omega⟩ then (1 : EReal) else 0

variable (h : Given q m c)
include h

theorem inRe_read (d : Fin 2) (g : Fin 32) (k : Fin 16) (p : Fin 64) :
    V m c main_v40 (ix4 d g k p) = (q.bbarRe d g p k : EReal) := by
  have hd : q.aRe d g p * q.aRe d g p + q.aIm d g p * q.aIm d g p ≠ 0 := h.pole d g p
  unfold V
  after_reads_at
  simp only [h.holds.aRe, h.holds.aIm, h.holds.logDt, h.holds.bRe, h.holds.bIm, ← EReal.coe_one,
    Ideal.exp_coe, Ideal.cos_coe, Ideal.sin_coe, ← EReal.coe_mul, ← EReal.coe_add, ← EReal.coe_sub, coe_div hd]
  rfl

theorem inIm_read (d : Fin 2) (g : Fin 32) (k : Fin 16) (p : Fin 64) :
    V m c main_v45 (ix4 d g k p) = (q.bbarIm d g p k : EReal) := by
  have hd : q.aRe d g p * q.aRe d g p + q.aIm d g p * q.aIm d g p ≠ 0 := h.pole d g p
  unfold V
  after_reads_at
  simp only [h.holds.aRe, h.holds.aIm, h.holds.logDt, h.holds.bRe, h.holds.bIm, ← EReal.coe_one,
    Ideal.exp_coe, Ideal.cos_coe, Ideal.sin_coe, ← EReal.coe_mul, ← EReal.coe_add, ← EReal.coe_sub, coe_div hd]
  rfl

theorem outRe_read (d : Fin 2) (g : Fin 32) (p : Fin 64) (l : Fin 256) :
    V m c main_v68 (ix4 d g p l) = (q.outRe d g p l : EReal) := by
  unfold V
  after_reads_at
  simp only [h.holds.aRe, h.holds.aIm, h.holds.logDt, h.holds.cRe, h.holds.cIm, h.spread, lag_word,
    smallWord_val, mul_ite, mul_one, mul_zero, Finset.sum_ite_eq', Finset.mem_univ, if_true,
    Ideal.exp_coe, Ideal.cos_coe, Ideal.sin_coe, ← EReal.coe_mul]
  rw [tile_sum (fun x => q.cRe d g x p), tile_sum (fun x => q.cIm d g x p)]
  simp only [← EReal.coe_mul, ← EReal.coe_sub]
  rfl

theorem outIm_read (d : Fin 2) (g : Fin 32) (p : Fin 64) (l : Fin 256) :
    V m c main_v71 (ix4 d g p l) = (q.outIm d g p l : EReal) := by
  unfold V
  after_reads_at
  simp only [h.holds.aRe, h.holds.aIm, h.holds.logDt, h.holds.cRe, h.holds.cIm, h.spread, lag_word,
    smallWord_val, mul_ite, mul_one, mul_zero, Finset.sum_ite_eq', Finset.mem_univ, if_true,
    Ideal.exp_coe, Ideal.cos_coe, Ideal.sin_coe, ← EReal.coe_mul]
  rw [tile_sum (fun x => q.cRe d g x p), tile_sum (fun x => q.cIm d g x p)]
  simp only [← EReal.coe_mul, ← EReal.coe_add]
  rfl

omit h in
theorem left_eq : V m c main_v74 = concatenate S2x32x16x128 3 [⟨S2x32x16x64, V m c main_v40⟩,
    ⟨S2x32x16x64, Host.negf (F := Ideal) (φ := .f32) (V m c main_v45)⟩] concatenates_S2x32x16x64_S2x32x16x64_S2x32x16x128_d3 := by
  unfold V
  after_reads_simp
  have e1 : StableHlo.upto hostOps0 (fun b => m (c, b)) 77 (Proc.tc.devRef main_v40)
      = StableHlo.after hostOps0 (fun b => m (c, b)) (Proc.tc.devRef main_v40) := by
    after_reads_simp
  have e2 : StableHlo.upto hostOps0 (fun b => m (c, b)) 77 (Proc.tc.devRef main_v73)
      = Host.negf (F := Ideal) (φ := .f32) (StableHlo.after hostOps0 (fun b => m (c, b)) (Proc.tc.devRef main_v45)) := by
    after_reads_simp
  rw [e1, e2]

omit h in
theorem right_eq : V m c main_v72 = concatenate S2x32x128x256 2 [⟨S2x32x64x256, V m c main_v68⟩,
    ⟨S2x32x64x256, V m c main_v71⟩] concatenates_S2x32x64x256_S2x32x64x256_S2x32x128x256_d2 := by
  unfold V
  after_reads_simp
  have e1 : StableHlo.upto hostOps0 (fun b => m (c, b)) 75 (Proc.tc.devRef main_v68)
      = StableHlo.after hostOps0 (fun b => m (c, b)) (Proc.tc.devRef main_v68) := by
    after_reads_simp
  have e2 : StableHlo.upto hostOps0 (fun b => m (c, b)) 75 (Proc.tc.devRef main_v71)
      = StableHlo.after hostOps0 (fun b => m (c, b)) (Proc.tc.devRef main_v71) := by
    after_reads_simp
  rw [e1, e2]

/-- The left array. -/
theorem left_read (d : Fin 2) (g : Fin 32) (k : Fin 16) (x : Fin 128) : V m c main_v74 (ix4 d g k x)
    = if hx : (x : ℕ) < 64 then (q.bbarRe d g ⟨x, hx⟩ k : EReal)
      else ((-q.bbarIm d g ⟨x - 64, by omega⟩ k : ℝ) : EReal) := by
  rw [left_eq]
  pointwise [inRe_read h, inIm_read h]
  simp only [EReal.coe_neg]

/-- The right array. -/
theorem right_read (d : Fin 2) (g : Fin 32) (x : Fin 128) (l : Fin 256) : V m c main_v72 (ix4 d g x l)
    = if hx : (x : ℕ) < 64 then (q.outRe d g ⟨x, hx⟩ l : EReal) else (q.outIm d g ⟨x - 64, by omega⟩ l : EReal) := by
  rw [right_eq]
  pointwise [outRe_read h, outIm_read h]

end Read

end Cert.S5

end
-- ==== Proof.Body.lean ====
/-
  ONE BLOCK of the kernel: from the blocks of the two operands, what the body's 128 stores leave in the result's block
  (`block_at`). Each store writes one 16-row strip of one group: the forward product turned right by 16 i lanes and cut
  below lane 16 i, plus the backward product turned right by 16 (i + 1) lanes and cut from there on.
-/
module

public import proofs.«01_k».proof.Proof.Gen.KernelIdeal.Frame
public import Idealize.ShloMosaic.Lib.Pointwise

@[expose] public section

set_option maxRecDepth 16384

noncomputable section

namespace Cert.S5

open Cert.KernelIdeal Cert.KernelIdeal.Gen Idealize.ShloMosaic

/-- The product of direction d's operands for the group in slot s. -/
def prodVec (x0 : Vec Ideal S2x8x16x128 .f32) (x1 : Vec Ideal S2x8x128x256 .f32) (d : Fin 2) (s : Fin 8) :
    FVec Ideal S16x256 .f32 :=
  fun y => ∑ k : Fin 128, (x0 (ix4 d s (y 0) k) : EReal) * x1 (ix4 d s k (y 1))

/-- Row r, lane l of the block of a group with products a (forward) and b (backward). -/
def strip (a b : FVec Ideal S16x256 .f32) (r l : Fin 256) : EReal :=
  (if 16 * ((r : ℕ) / 16) ≤ l then
      (a (ix2 ⟨r % 16, by omega⟩ ⟨((l : ℕ) + 256 - 16 * ((r : ℕ) / 16)) % 256, by omega⟩) : EReal) else 0)
    + (if (l : ℕ) < 16 * ((r : ℕ) / 16) + 16 then
      (b (ix2 ⟨r % 16, by omega⟩ ⟨((l : ℕ) + 256 - (16 * ((r : ℕ) / 16) + 16)) % 256, by omega⟩) : EReal) else 0)

theorem from_word (l : Fin 256) (n : Fin 257) :
    IntOp.cmpi CmpIPredicate.sge (BitVec.ofNat 32 ↑l) (BitVec.ofNat 32 n) = BitVec.ofBool (decide ((n : ℕ) ≤ l)) := by
  have hl := l.isLt
  have hn := n.isLt
  exact WordCmp.cmpi_sge_ofNat (by omega) (by omega)

theorem upto_word (l : Fin 256) (n : Fin 257) :
    IntOp.cmpi CmpIPredicate.slt (BitVec.ofNat 32 ↑l) (BitVec.ofNat 32 n) = BitVec.ofBool (decide ((l : ℕ) < n)) := by
  have hl := l.isLt
  have hn := n.isLt
  exact WordCmp.cmpi_slt_ofNat (by omega) (by omega)

variable (x0 : Vec Ideal S2x8x16x128 .f32) (x1 : Vec Ideal S2x8x128x256 .f32)

/-- The block as one function of its index. -/
def blockFn (y : S8x256x256.Idx) : EReal := strip (prodVec x0 x1 0 (y 0)) (prodVec x0 x1 1 (y 0)) (y 1) (y 2)

/-- A strip that is not the first or the last of its group. -/
theorem middle (s : Fin 8) (i : Fin 16) (r : Fin 16) (l : Fin 256) (y : S8x256x256.Idx) (h0 : y 0 = s)
    (h1 : (y 1).val = 16 * (i : ℕ) + r) (h2 : y 2 = l) :
    Scalar.select (IntOp.cmpi CmpIPredicate.sge (BitVec.ofNat 32 ↑l) (BitVec.ofNat 32 (16 * (i : ℕ))))
        (prodVec x0 x1 0 s (ix2 r ⟨(↑l + 256 - 16 * (i : ℕ)) % 256, Nat.mod_lt _ (by decide)⟩)) (0 : EReal)
      + Scalar.select (IntOp.cmpi CmpIPredicate.slt (BitVec.ofNat 32 ↑l) (BitVec.ofNat 32 (16 * (i : ℕ) + 16)))
        (prodVec x0 x1 1 s (ix2 r ⟨(↑l + 256 - (16 * (i : ℕ) + 16)) % 256, Nat.mod_lt _ (by decide)⟩)) (0 : EReal)
      = blockFn x0 x1 y := by
  have hi := i.isLt
  have hr := r.isLt
  have e1 := from_word l ⟨16 * (i : ℕ), by omega⟩
  have e2 := upto_word l ⟨16 * (i : ℕ) + 16, by omega⟩
  simp only at e1 e2
  have q1 : (y 1).val / 16 = i := by omega
  have q2 : (y 1).val % 16 = r := by omega
  subst h0 h2
  rw [e1, e2, WordCmp.select_ofBool, WordCmp.select_ofBool]
  simp only [blockFn, strip, q1, q2, decide_eq_true_eq]

/-- The first strip of a group: its forward part is the product itself. -/
theorem first (s : Fin 8) (r : Fin 16) (l : Fin 256) (y : S8x256x256.Idx) (h0 : y 0 = s)
    (h1 : (y 1).val = 16 * ((0 : Fin 16) : ℕ) + r) (h2 : y 2 = l) :
    (prodVec x0 x1 0 s (ix2 r l) : EReal)
      + Scalar.select (IntOp.cmpi CmpIPredicate.slt (BitVec.ofNat 32 ↑l) 16#32)
        (prodVec x0 x1 1 s (ix2 r ⟨(↑l + 256 - 16) % 256, Nat.mod_lt _ (by decide)⟩)) (0 : EReal)
      = blockFn x0 x1 y := by
  refine Eq.trans ?_ (middle x0 x1 s 0 r l y h0 h1 h2)
  have e1 := from_word l ⟨16 * ((0 : Fin 16) : ℕ), by decide⟩
  have e3 : (⟨(↑l + 256 - 16 * ((0 : Fin 16) : ℕ)) % 256, Nat.mod_lt _ (by decide)⟩ : Fin 256) = l :=
    Fin.ext (by have := l.isLt; simp only [Fin.coe_ofNat_eq_mod]; omega)
  simp only at e1
  rw [e1, WordCmp.select_ofBool, if_pos (by simp), e3]
  rfl

/-- The last strip of a group: its backward part is the product itself. -/
theorem last (s : Fin 8) (r : Fin 16) (l : Fin 256) (y : S8x256x256.Idx) (h0 : y 0 = s)
    (h1 : (y 1).val = 16 * ((15 : Fin 16) : ℕ) + r) (h2 : y 2 = l) :
    Scalar.select (IntOp.cmpi CmpIPredicate.sge (BitVec.ofNat 32 ↑l) 240#32)
        (prodVec x0 x1 0 s (ix2 r ⟨(↑l + 256 - 240) % 256, Nat.mod_lt _ (by decide)⟩)) (0 : EReal)
      + (prodVec x0 x1 1 s (ix2 r l) : EReal)
      = blockFn x0 x1 y := by
  refine Eq.trans ?_ (middle x0 x1 s 15 r l y h0 h1 h2)
  have e1 := upto_word l ⟨16 * ((15 : Fin 16) : ℕ) + 16, by decide⟩
  have e3 : (⟨(↑l + 256 - (16 * ((15 : Fin 16) : ℕ) + 16)) % 256, Nat.mod_lt _ (by decide)⟩ : Fin 256) = l :=
    Fin.ext (by have := l.isLt; simp only [Fin.coe_ofNat_eq_mod]; omega)
  simp only at e1
  rw [e1, WordCmp.select_ofBool, if_pos (by have := l.isLt; simp only [Fin.coe_ofNat_eq_mod]; exact decide_eq_true (by omega)), e3]
  rfl

/-- Where a strip's store puts its entries. -/
theorem emb_coords (s n : ℕ) (hs : s < 8) (inb : ∀ a, (![s, n, 0] : Fin 3 → ℕ) a + S1x16x256.size a ≤ S8x256x256.size a)
    (u : Fin 1) (r : Fin 16) (l : Fin 256) :
    (Rect.unit (s := S8x256x256) ![s, n, 0] S1x16x256.size inb).emb (ix3 u r l) 0 = (⟨s, hs⟩ : Fin 8)
    ∧ ((Rect.unit (s := S8x256x256) ![s, n, 0] S1x16x256.size inb).emb (ix3 u r l) 1).val = n + r
    ∧ (Rect.unit (s := S8x256x256) ![s, n, 0] S1x16x256.size inb).emb (ix3 u r l) 2 = l := by
  refine ⟨Fin.ext ((Rect.emb_apply _ _ _).trans ?_), (Rect.emb_apply _ _ _).trans ?_, Fin.ext ((Rect.emb_apply _ _ _).trans ?_)⟩
    <;> simp [Rect.unit]

/-! ## The sixteen products -/

theorem dot_0_0 : k0_pay244 x0 x1 = prodVec x0 x1 0 0 := by
  funext y
  obtain ⟨r, l, rfl⟩ : ∃ r l, y = ix2 r l := ⟨y 0, y 1, by funext a; fin_cases a <;> rfl⟩
  unfold_payloads
  pointwise [prodVec]

theorem dot_1_0 : k0_pay245 x0 x1 = prodVec x0 x1 1 0 := by
  funext y
  obtain ⟨r, l, rfl⟩ : ∃ r l, y = ix2 r l := ⟨y 0, y 1, by funext a; fin_cases a <;> rfl⟩
  unfold_payloads
  pointwise [prodVec]

theorem dot_0_1 : k0_pay247 x0 x1 = prodVec x0 x1 0 1 := by
  funext y
  obtain ⟨r, l, rfl⟩ : ∃ r l, y = ix2 r l := ⟨y 0, y 1, by funext a; fin_cases a <;> rfl⟩
  unfold_payloads
  pointwise [prodVec]

theorem dot_1_1 : k0_pay248 x0 x1 = prodVec x0 x1 1 1 := by
  funext y
  obtain ⟨r, l, rfl⟩ : ∃ r l, y = ix2 r l := ⟨y 0, y 1, by funext a; fin_cases a <;> rfl⟩
  unfold_payloads
  pointwise [prodVec]

theorem dot_0_2 : k0_pay249 x0 x1 = prodVec x0 x1 0 2 := by
  funext y
  obtain ⟨r, l, rfl⟩ : ∃ r l, y = ix2 r l := ⟨y 0, y 1, by funext a; fin_cases a <;> rfl⟩
  unfold_payloads
  pointwise [prodVec]

theorem dot_1_2 : k0_pay250 x0 x1 = prodVec x0 x1 1 2 := by
  funext y
  obtain ⟨r, l, rfl⟩ : ∃ r l, y = ix2 r l := ⟨y 0, y 1, by funext a; fin_cases a <;> rfl⟩
  unfold_payloads
  pointwise [prodVec]

theorem dot_0_3 : k0_pay251 x0 x1 = prodVec x0 x1 0 3 := by
  funext y
  obtain ⟨r, l, rfl⟩ : ∃ r l, y = ix2 r l := ⟨y 0, y 1, by funext a; fin_cases a <;> rfl⟩
  unfold_payloads
  pointwise [prodVec]

theorem dot_1_3 : k0_pay253 x0 x1 = prodVec x0 x1 1 3 := by
  funext y
  obtain ⟨r, l, rfl⟩ : ∃ r l, y = ix2 r l := ⟨y 0, y 1, by funext a; fin_cases a <;> rfl⟩
  unfold_payloads
  pointwise [prodVec]

theorem dot_0_4 : k0_pay254 x0 x1 = prodVec x0 x1 0 4 := by
  funext y
  obtain ⟨r, l, rfl⟩ : ∃ r l, y = ix2 r l := ⟨y 0, y 1, by funext a; fin_cases a <;> rfl⟩
  unfold_payloads
  pointwise [prodVec]

theorem dot_1_4 : k0_pay255 x0 x1 = prodVec x0 x1 1 4 := by
  funext y
  obtain ⟨r, l, rfl⟩ : ∃ r l, y = ix2 r l := ⟨y 0, y 1, by funext a; fin_cases a <;> rfl⟩
  unfold_payloads
  pointwise [prodVec]

theorem dot_0_5 : k0_pay256 x0 x1 = prodVec x0 x1 0 5 := by
  funext y
  obtain ⟨r, l, rfl⟩ : ∃ r l, y = ix2 r l := ⟨y 0, y 1, by funext a; fin_cases a <;> rfl⟩
  unfold_payloads
  pointwise [prodVec]

theorem dot_1_5 : k0_pay257 x0 x1 = prodVec x0 x1 1 5 := by
  funext y
  obtain ⟨r, l, rfl⟩ : ∃ r l, y = ix2 r l := ⟨y 0, y 1, by funext a; fin_cases a <;> rfl⟩
  unfold_payloads
  pointwise [prodVec]

theorem dot_0_6 : k0_pay258 x0 x1 = prodVec x0 x1 0 6 := by
  funext y
  obtain ⟨r, l, rfl⟩ : ∃ r l, y = ix2 r l := ⟨y 0, y 1, by funext a; fin_cases a <;> rfl⟩
  unfold_payloads
  pointwise [prodVec]

theorem dot_1_6 : k0_pay259 x0 x1 = prodVec x0 x1 1 6 := by
  funext y
  obtain ⟨r, l, rfl⟩ : ∃ r l, y = ix2 r l := ⟨y 0, y 1, by funext a; fin_cases a <;> rfl⟩
  unfold_payloads
  pointwise [prodVec]

theorem dot_0_7 : k0_pay260 x0 x1 = prodVec x0 x1 0 7 := by
  funext y
  obtain ⟨r, l, rfl⟩ : ∃ r l, y = ix2 r l := ⟨y 0, y 1, by funext a; fin_cases a <;> rfl⟩
  unfold_payloads
  pointwise [prodVec]

theorem dot_1_7 : k0_pay261 x0 x1 = prodVec x0 x1 1 7 := by
  funext y
  obtain ⟨r, l, rfl⟩ : ∃ r l, y = ix2 r l := ⟨y 0, y 1, by funext a; fin_cases a <;> rfl⟩
  unfold_payloads
  pointwise [prodVec]

/-! ## The strips, group by group -/

/-- The stores of the group in slot 0. -/
theorem group_0 : ∀ p ∈ ([
    ⟨r0_19, k0_pay33 (k0_pay243 x0 x1) (k0_pay244 x0 x1) (k0_pay245 x0 x1)⟩,
    ⟨r0_18, k0_pay32 (k0_pay243 x0 x1) (k0_pay244 x0 x1) (k0_pay245 x0 x1)⟩,
    ⟨r0_17, k0_pay31 (k0_pay30 (k0_pay243 x0 x1) (k0_pay244 x0 x1) (k0_pay245 x0 x1))⟩,
    ⟨r0_16, k0_pay29 (k0_pay243 x0 x1) (k0_pay244 x0 x1) (k0_pay245 x0 x1)⟩,
    ⟨r0_15, k0_pay28 (k0_pay27 (k0_pay243 x0 x1) (k0_pay244 x0 x1) (k0_pay245 x0 x1))⟩,
    ⟨r0_14, k0_pay26 (k0_pay243 x0 x1) (k0_pay244 x0 x1) (k0_pay245 x0 x1)⟩,
    ⟨r0_13, k0_pay25 (k0_pay21 (k0_pay243 x0 x1) (k0_pay244 x0 x1)) (k0_pay22 (k0_pay245 x0 x1)) (k0_pay23 (k0_pay243 x0 x1)) (k0_pay24 (F := Ideal))⟩,
    ⟨r0_12, k0_pay20 (k0_pay243 x0 x1) (k0_pay244 x0 x1) (k0_pay245 x0 x1)⟩,
    ⟨r0_11, k0_pay19 (k0_pay16 (k0_pay243 x0 x1) (k0_pay244 x0 x1)) (k0_pay17 (k0_pay245 x0 x1)) (Scalar.ofBits .f32 0x00000000#32) (k0_pay18 (k0_pay243 x0 x1))⟩,
    ⟨r0_10, k0_pay15 (k0_pay243 x0 x1) (k0_pay244 x0 x1) (k0_pay245 x0 x1)⟩,
    ⟨r0_9, k0_pay14 (k0_pay11 (k0_pay243 x0 x1) (k0_pay244 x0 x1)) (k0_pay12 (k0_pay243 x0 x1)) (k0_pay13 (k0_pay245 x0 x1))⟩,
    ⟨r0_8, k0_pay10 (k0_pay243 x0 x1) (k0_pay244 x0 x1) (k0_pay245 x0 x1)⟩,
    ⟨r0_7, k0_pay9 (k0_pay245 x0 x1) (k0_pay7 (k0_pay243 x0 x1) (k0_pay244 x0 x1)) (k0_pay8 (k0_pay243 x0 x1))⟩,
    ⟨r0_6, k0_pay6 (k0_pay243 x0 x1) (k0_pay244 x0 x1) (k0_pay245 x0 x1)⟩,
    ⟨r0_5, k0_pay5 (k0_pay243 x0 x1) (k0_pay245 x0 x1) (k0_pay4 (View.ld x0 r0_0) (View.ld x1 r0_1)) 32#32⟩,
    ⟨r0_4, k0_pay3 (View.ld x0 r0_0) (View.ld x1 r0_1) (View.ld x0 r0_2) (View.ld x1 r0_3)⟩] : List (View.Piece (Elt Ideal) S8x256x256 .bf16)),
    ∀ x : p.1.shape.Idx, p.2 x = blockFn x0 x1 (p.1.emb x) := by
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 240 (by decide) inb_S8x256x256_S1x16x256_0_240_0 u r l
    exact last x0 x1 0 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 224 (by decide) inb_S8x256x256_S1x16x256_0_224_0 u r l
    exact middle x0 x1 0 14 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 208 (by decide) inb_S8x256x256_S1x16x256_0_208_0 u r l
    exact middle x0 x1 0 13 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 192 (by decide) inb_S8x256x256_S1x16x256_0_192_0 u r l
    exact middle x0 x1 0 12 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 176 (by decide) inb_S8x256x256_S1x16x256_0_176_0 u r l
    exact middle x0 x1 0 11 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 160 (by decide) inb_S8x256x256_S1x16x256_0_160_0 u r l
    exact middle x0 x1 0 10 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 144 (by decide) inb_S8x256x256_S1x16x256_0_144_0 u r l
    exact middle x0 x1 0 9 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 128 (by decide) inb_S8x256x256_S1x16x256_0_128_0 u r l
    exact middle x0 x1 0 8 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 112 (by decide) inb_S8x256x256_S1x16x256_0_112_0 u r l
    exact middle x0 x1 0 7 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 96 (by decide) inb_S8x256x256_S1x16x256_0_96_0 u r l
    exact middle x0 x1 0 6 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 80 (by decide) inb_S8x256x256_S1x16x256_0_80_0 u r l
    exact middle x0 x1 0 5 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 64 (by decide) inb_S8x256x256_S1x16x256_0_64_0 u r l
    exact middle x0 x1 0 4 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 48 (by decide) inb_S8x256x256_S1x16x256_0_48_0 u r l
    exact middle x0 x1 0 3 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_0, dot_1_0]
    unfold_payloads
    pointwise
    obtain ⟨h0, h1, h2⟩ := emb_coords 0 32 (by decide) inb_S8x256x256_S1x16x256_0_32_0 u r l
    exact middle x0 x1 0 2 r l _ h0 h1 h2
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 0 16 (by decide) inb_S8x256x256_S1x16x256_0_16_0 u r l
    refine Eq.trans ?_ (middle x0 x1 0 1 r l _ h0 h1 h2)
    unfold_payloads
    pointwise [prodVec]
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 0 0 (by decide) inb_S8x256x256_S1x16x256_0_0_0 u r l
    refine Eq.trans ?_ (first x0 x1 0 r l _ h0 h1 h2)
    unfold_payloads
    pointwise [prodVec]

/-- The stores of the group in slot 1. -/
theorem group_1 : ∀ p ∈ ([
    ⟨r0_39, k0_pay61 (k0_pay243 x0 x1) (k0_pay247 x0 x1) (k0_pay248 x0 x1)⟩,
    ⟨r0_38, k0_pay60 (k0_pay243 x0 x1) (k0_pay247 x0 x1) (k0_pay248 x0 x1) k0_pay59⟩,
    ⟨r0_37, k0_pay58 (k0_pay243 x0 x1) (k0_pay247 x0 x1) (k0_pay248 x0 x1)⟩,
    ⟨r0_36, k0_pay57 (k0_pay243 x0 x1) (k0_pay247 x0 x1) (k0_pay248 x0 x1)⟩,
    ⟨r0_35, k0_pay56 (k0_pay243 x0 x1) (k0_pay247 x0 x1) (k0_pay248 x0 x1)⟩,
    ⟨r0_34, k0_pay55 (k0_pay243 x0 x1) (k0_pay247 x0 x1) (k0_pay248 x0 x1)⟩,
    ⟨r0_33, k0_pay54 (k0_pay53 (k0_pay243 x0 x1) (k0_pay247 x0 x1) (k0_pay248 x0 x1))⟩,
    ⟨r0_32, k0_pay52 (k0_pay243 x0 x1) (k0_pay247 x0 x1) (k0_pay248 x0 x1)⟩,
    ⟨r0_31, k0_pay51 (k0_pay50 (k0_pay243 x0 x1) (k0_pay247 x0 x1) (k0_pay248 x0 x1))⟩,
    ⟨r0_30, k0_pay49 (k0_pay243 x0 x1) (k0_pay247 x0 x1) (k0_pay248 x0 x1)⟩,
    ⟨r0_29, k0_pay48 (k0_pay47 (k0_pay243 x0 x1) (k0_pay247 x0 x1) (k0_pay248 x0 x1))⟩,
    ⟨r0_28, k0_pay46 (k0_pay243 x0 x1) (k0_pay247 x0 x1) (k0_pay248 x0 x1)⟩,
    ⟨r0_27, k0_pay45 (k0_pay44 (k0_pay243 x0 x1) (k0_pay247 x0 x1) (k0_pay248 x0 x1))⟩,
    ⟨r0_26, k0_pay43 (k0_pay243 x0 x1) (k0_pay247 x0 x1) (k0_pay248 x0 x1)⟩,
    ⟨r0_25, k0_pay42 (k0_pay38 (k0_pay243 x0 x1) (k0_pay246 x0 x1) (View.ld x1 r0_21)) (k0_pay39 (View.ld x0 r0_22) (View.ld x1 r0_23)) (k0_pay40 (k0_pay243 x0 x1)) (k0_pay41 (F := Ideal))⟩,
    ⟨r0_24, k0_pay37 (k0_pay243 x0 x1) (k0_pay246 x0 x1) (View.ld x1 r0_21) (View.ld x0 r0_22) (View.ld x1 r0_23)⟩] : List (View.Piece (Elt Ideal) S8x256x256 .bf16)),
    ∀ x : p.1.shape.Idx, p.2 x = blockFn x0 x1 (p.1.emb x) := by
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 240 (by decide) inb_S8x256x256_S1x16x256_1_240_0 u r l
    exact last x0 x1 1 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 224 (by decide) inb_S8x256x256_S1x16x256_1_224_0 u r l
    exact middle x0 x1 1 14 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 208 (by decide) inb_S8x256x256_S1x16x256_1_208_0 u r l
    exact middle x0 x1 1 13 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 192 (by decide) inb_S8x256x256_S1x16x256_1_192_0 u r l
    exact middle x0 x1 1 12 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 176 (by decide) inb_S8x256x256_S1x16x256_1_176_0 u r l
    exact middle x0 x1 1 11 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 160 (by decide) inb_S8x256x256_S1x16x256_1_160_0 u r l
    exact middle x0 x1 1 10 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 144 (by decide) inb_S8x256x256_S1x16x256_1_144_0 u r l
    exact middle x0 x1 1 9 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 128 (by decide) inb_S8x256x256_S1x16x256_1_128_0 u r l
    exact middle x0 x1 1 8 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 112 (by decide) inb_S8x256x256_S1x16x256_1_112_0 u r l
    exact middle x0 x1 1 7 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 96 (by decide) inb_S8x256x256_S1x16x256_1_96_0 u r l
    exact middle x0 x1 1 6 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 80 (by decide) inb_S8x256x256_S1x16x256_1_80_0 u r l
    exact middle x0 x1 1 5 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 64 (by decide) inb_S8x256x256_S1x16x256_1_64_0 u r l
    exact middle x0 x1 1 4 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 48 (by decide) inb_S8x256x256_S1x16x256_1_48_0 u r l
    exact middle x0 x1 1 3 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_1, dot_1_1]
    unfold_payloads
    pointwise
    obtain ⟨h0, h1, h2⟩ := emb_coords 1 32 (by decide) inb_S8x256x256_S1x16x256_1_32_0 u r l
    exact middle x0 x1 1 2 r l _ h0 h1 h2
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 1 16 (by decide) inb_S8x256x256_S1x16x256_1_16_0 u r l
    refine Eq.trans ?_ (middle x0 x1 1 1 r l _ h0 h1 h2)
    unfold_payloads
    pointwise [prodVec]
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 1 0 (by decide) inb_S8x256x256_S1x16x256_1_0_0 u r l
    refine Eq.trans ?_ (first x0 x1 1 r l _ h0 h1 h2)
    unfold_payloads
    pointwise [prodVec]

/-- The stores of the group in slot 2. -/
theorem group_2 : ∀ p ∈ ([
    ⟨r0_59, k0_pay87 (k0_pay243 x0 x1) (k0_pay249 x0 x1) (k0_pay250 x0 x1)⟩,
    ⟨r0_58, k0_pay86 (k0_pay243 x0 x1) (k0_pay250 x0 x1) (k0_pay85 (k0_pay243 x0 x1) (k0_pay249 x0 x1))⟩,
    ⟨r0_57, k0_pay84 (k0_pay243 x0 x1) (k0_pay249 x0 x1) (k0_pay250 x0 x1)⟩,
    ⟨r0_56, k0_pay83 (k0_pay243 x0 x1) (k0_pay250 x0 x1) (k0_pay81 (k0_pay249 x0 x1)) (Scalar.ofBits .f32 0x00000000#32) (k0_pay82 (k0_pay243 x0 x1))⟩,
    ⟨r0_55, k0_pay80 (k0_pay243 x0 x1) (k0_pay249 x0 x1) (k0_pay250 x0 x1)⟩,
    ⟨r0_54, k0_pay79 (k0_pay243 x0 x1) (k0_pay250 x0 x1) (k0_pay77 (k0_pay243 x0 x1)) (k0_pay78 (k0_pay249 x0 x1)) (Scalar.ofBits .f32 0x00000000#32)⟩,
    ⟨r0_53, k0_pay76 (k0_pay243 x0 x1) (k0_pay249 x0 x1) (k0_pay250 x0 x1)⟩,
    ⟨r0_52, k0_pay75 (k0_pay243 x0 x1) (k0_pay249 x0 x1) (k0_pay250 x0 x1) (k0_pay74 (k0_pay243 x0 x1)) 128#32⟩,
    ⟨r0_51, k0_pay73 (k0_pay243 x0 x1) (k0_pay249 x0 x1) (k0_pay250 x0 x1)⟩,
    ⟨r0_50, k0_pay72 (k0_pay243 x0 x1) (k0_pay249 x0 x1) (k0_pay250 x0 x1) k0_pay71⟩,
    ⟨r0_49, k0_pay70 (k0_pay243 x0 x1) (k0_pay249 x0 x1) (k0_pay250 x0 x1)⟩,
    ⟨r0_48, k0_pay69 (k0_pay243 x0 x1) (k0_pay249 x0 x1) (k0_pay250 x0 x1)⟩,
    ⟨r0_47, k0_pay68 (k0_pay243 x0 x1) (k0_pay249 x0 x1) (k0_pay250 x0 x1)⟩,
    ⟨r0_46, k0_pay67 (k0_pay243 x0 x1) (k0_pay249 x0 x1) (k0_pay250 x0 x1)⟩,
    ⟨r0_45, k0_pay66 (k0_pay65 (k0_pay243 x0 x1) (k0_pay249 x0 x1) (View.ld x0 r0_42) (View.ld x1 r0_43))⟩,
    ⟨r0_44, k0_pay64 (k0_pay243 x0 x1) (k0_pay249 x0 x1) (View.ld x0 r0_42) (View.ld x1 r0_43)⟩] : List (View.Piece (Elt Ideal) S8x256x256 .bf16)),
    ∀ x : p.1.shape.Idx, p.2 x = blockFn x0 x1 (p.1.emb x) := by
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 240 (by decide) inb_S8x256x256_S1x16x256_2_240_0 u r l
    exact last x0 x1 2 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 224 (by decide) inb_S8x256x256_S1x16x256_2_224_0 u r l
    exact middle x0 x1 2 14 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 208 (by decide) inb_S8x256x256_S1x16x256_2_208_0 u r l
    exact middle x0 x1 2 13 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 192 (by decide) inb_S8x256x256_S1x16x256_2_192_0 u r l
    exact middle x0 x1 2 12 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 176 (by decide) inb_S8x256x256_S1x16x256_2_176_0 u r l
    exact middle x0 x1 2 11 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 160 (by decide) inb_S8x256x256_S1x16x256_2_160_0 u r l
    exact middle x0 x1 2 10 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 144 (by decide) inb_S8x256x256_S1x16x256_2_144_0 u r l
    exact middle x0 x1 2 9 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 128 (by decide) inb_S8x256x256_S1x16x256_2_128_0 u r l
    exact middle x0 x1 2 8 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 112 (by decide) inb_S8x256x256_S1x16x256_2_112_0 u r l
    exact middle x0 x1 2 7 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 96 (by decide) inb_S8x256x256_S1x16x256_2_96_0 u r l
    exact middle x0 x1 2 6 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 80 (by decide) inb_S8x256x256_S1x16x256_2_80_0 u r l
    exact middle x0 x1 2 5 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 64 (by decide) inb_S8x256x256_S1x16x256_2_64_0 u r l
    exact middle x0 x1 2 4 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 48 (by decide) inb_S8x256x256_S1x16x256_2_48_0 u r l
    exact middle x0 x1 2 3 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_2, dot_1_2]
    unfold_payloads
    pointwise
    obtain ⟨h0, h1, h2⟩ := emb_coords 2 32 (by decide) inb_S8x256x256_S1x16x256_2_32_0 u r l
    exact middle x0 x1 2 2 r l _ h0 h1 h2
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 2 16 (by decide) inb_S8x256x256_S1x16x256_2_16_0 u r l
    refine Eq.trans ?_ (middle x0 x1 2 1 r l _ h0 h1 h2)
    unfold_payloads
    pointwise [prodVec]
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 2 0 (by decide) inb_S8x256x256_S1x16x256_2_0_0 u r l
    refine Eq.trans ?_ (first x0 x1 2 r l _ h0 h1 h2)
    unfold_payloads
    pointwise [prodVec]

/-- The stores of the group in slot 3. -/
theorem group_3 : ∀ p ∈ ([
    ⟨r0_79, k0_pay121 (k0_pay243 x0 x1) (k0_pay251 x0 x1) (k0_pay253 x0 x1)⟩,
    ⟨r0_78, k0_pay120 (k0_pay117 (k0_pay243 x0 x1) (k0_pay251 x0 x1)) (k0_pay118 (k0_pay253 x0 x1)) (Scalar.ofBits .f32 0x00000000#32) (k0_pay119 (k0_pay243 x0 x1))⟩,
    ⟨r0_77, k0_pay116 (k0_pay243 x0 x1) (k0_pay251 x0 x1) (k0_pay253 x0 x1)⟩,
    ⟨r0_76, k0_pay115 (k0_pay112 (k0_pay243 x0 x1) (k0_pay251 x0 x1)) (k0_pay113 (k0_pay243 x0 x1)) (k0_pay114 (k0_pay253 x0 x1)) (Scalar.ofBits .f32 0x00000000#32)⟩,
    ⟨r0_75, k0_pay111 (k0_pay243 x0 x1) (k0_pay251 x0 x1) (k0_pay253 x0 x1)⟩,
    ⟨r0_74, k0_pay110 (k0_pay253 x0 x1) (k0_pay108 (k0_pay243 x0 x1) (k0_pay251 x0 x1)) (k0_pay109 (k0_pay243 x0 x1)) 176#32⟩,
    ⟨r0_73, k0_pay107 (k0_pay243 x0 x1) (k0_pay251 x0 x1) (k0_pay253 x0 x1)⟩,
    ⟨r0_72, k0_pay106 (k0_pay243 x0 x1) (k0_pay253 x0 x1) (k0_pay104 (k0_pay243 x0 x1) (k0_pay251 x0 x1)) k0_pay105⟩,
    ⟨r0_71, k0_pay103 (k0_pay243 x0 x1) (k0_pay251 x0 x1) (k0_pay253 x0 x1)⟩,
    ⟨r0_70, k0_pay102 (k0_pay243 x0 x1) (k0_pay253 x0 x1) (k0_pay101 (k0_pay243 x0 x1) (k0_pay251 x0 x1))⟩,
    ⟨r0_69, k0_pay100 (k0_pay243 x0 x1) (k0_pay251 x0 x1) (k0_pay253 x0 x1)⟩,
    ⟨r0_68, k0_pay99 (k0_pay243 x0 x1) (k0_pay253 x0 x1) (k0_pay97 (k0_pay251 x0 x1)) (Scalar.ofBits .f32 0x00000000#32) (k0_pay98 (k0_pay243 x0 x1))⟩,
    ⟨r0_67, k0_pay96 (k0_pay243 x0 x1) (k0_pay251 x0 x1) (k0_pay253 x0 x1)⟩,
    ⟨r0_66, k0_pay95 (k0_pay243 x0 x1) (k0_pay253 x0 x1) (k0_pay93 (k0_pay243 x0 x1)) (k0_pay94 (k0_pay251 x0 x1)) (Scalar.ofBits .f32 0x00000000#32)⟩,
    ⟨r0_65, k0_pay92 (k0_pay243 x0 x1) (k0_pay251 x0 x1) (k0_pay252 x0 x1) (View.ld x1 r0_63)⟩,
    ⟨r0_64, k0_pay91 (k0_pay243 x0 x1) (k0_pay251 x0 x1) (k0_pay252 x0 x1) (View.ld x1 r0_63)⟩] : List (View.Piece (Elt Ideal) S8x256x256 .bf16)),
    ∀ x : p.1.shape.Idx, p.2 x = blockFn x0 x1 (p.1.emb x) := by
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 240 (by decide) inb_S8x256x256_S1x16x256_3_240_0 u r l
    exact last x0 x1 3 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 224 (by decide) inb_S8x256x256_S1x16x256_3_224_0 u r l
    exact middle x0 x1 3 14 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 208 (by decide) inb_S8x256x256_S1x16x256_3_208_0 u r l
    exact middle x0 x1 3 13 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 192 (by decide) inb_S8x256x256_S1x16x256_3_192_0 u r l
    exact middle x0 x1 3 12 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 176 (by decide) inb_S8x256x256_S1x16x256_3_176_0 u r l
    exact middle x0 x1 3 11 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 160 (by decide) inb_S8x256x256_S1x16x256_3_160_0 u r l
    exact middle x0 x1 3 10 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 144 (by decide) inb_S8x256x256_S1x16x256_3_144_0 u r l
    exact middle x0 x1 3 9 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 128 (by decide) inb_S8x256x256_S1x16x256_3_128_0 u r l
    exact middle x0 x1 3 8 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 112 (by decide) inb_S8x256x256_S1x16x256_3_112_0 u r l
    exact middle x0 x1 3 7 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 96 (by decide) inb_S8x256x256_S1x16x256_3_96_0 u r l
    exact middle x0 x1 3 6 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 80 (by decide) inb_S8x256x256_S1x16x256_3_80_0 u r l
    exact middle x0 x1 3 5 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 64 (by decide) inb_S8x256x256_S1x16x256_3_64_0 u r l
    exact middle x0 x1 3 4 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 48 (by decide) inb_S8x256x256_S1x16x256_3_48_0 u r l
    exact middle x0 x1 3 3 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_3, dot_1_3]
    unfold_payloads
    pointwise
    obtain ⟨h0, h1, h2⟩ := emb_coords 3 32 (by decide) inb_S8x256x256_S1x16x256_3_32_0 u r l
    exact middle x0 x1 3 2 r l _ h0 h1 h2
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 3 16 (by decide) inb_S8x256x256_S1x16x256_3_16_0 u r l
    refine Eq.trans ?_ (middle x0 x1 3 1 r l _ h0 h1 h2)
    unfold_payloads
    pointwise [prodVec]
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 3 0 (by decide) inb_S8x256x256_S1x16x256_3_0_0 u r l
    refine Eq.trans ?_ (first x0 x1 3 r l _ h0 h1 h2)
    unfold_payloads
    pointwise [prodVec]

/-- The stores of the group in slot 4. -/
theorem group_4 : ∀ p ∈ ([
    ⟨r0_99, k0_pay153 (k0_pay243 x0 x1) (k0_pay254 x0 x1) (k0_pay255 x0 x1)⟩,
    ⟨r0_98, k0_pay152 (k0_pay151 (k0_pay243 x0 x1) (k0_pay254 x0 x1) (k0_pay255 x0 x1))⟩,
    ⟨r0_97, k0_pay150 (k0_pay243 x0 x1) (k0_pay254 x0 x1) (k0_pay255 x0 x1)⟩,
    ⟨r0_96, k0_pay149 (k0_pay148 (k0_pay243 x0 x1) (k0_pay254 x0 x1) (k0_pay255 x0 x1))⟩,
    ⟨r0_95, k0_pay147 (k0_pay243 x0 x1) (k0_pay254 x0 x1) (k0_pay255 x0 x1)⟩,
    ⟨r0_94, k0_pay146 (k0_pay145 (k0_pay243 x0 x1) (k0_pay254 x0 x1) (k0_pay255 x0 x1))⟩,
    ⟨r0_93, k0_pay144 (k0_pay243 x0 x1) (k0_pay254 x0 x1) (k0_pay255 x0 x1)⟩,
    ⟨r0_92, k0_pay143 (k0_pay141 (k0_pay243 x0 x1) (k0_pay254 x0 x1)) (k0_pay142 (k0_pay243 x0 x1) (k0_pay255 x0 x1))⟩,
    ⟨r0_91, k0_pay140 (k0_pay243 x0 x1) (k0_pay254 x0 x1) (k0_pay255 x0 x1)⟩,
    ⟨r0_90, k0_pay139 (k0_pay136 (k0_pay243 x0 x1) (k0_pay254 x0 x1)) (k0_pay137 (k0_pay255 x0 x1)) (Scalar.ofBits .f32 0x00000000#32) (k0_pay138 (k0_pay243 x0 x1))⟩,
    ⟨r0_89, k0_pay135 (k0_pay243 x0 x1) (k0_pay254 x0 x1) (k0_pay255 x0 x1)⟩,
    ⟨r0_88, k0_pay134 (k0_pay131 (k0_pay243 x0 x1) (k0_pay254 x0 x1)) (k0_pay132 (k0_pay243 x0 x1)) (k0_pay133 (k0_pay255 x0 x1)) (Scalar.ofBits .f32 0x00000000#32)⟩,
    ⟨r0_87, k0_pay130 (k0_pay243 x0 x1) (k0_pay254 x0 x1) (k0_pay255 x0 x1)⟩,
    ⟨r0_86, k0_pay129 (k0_pay255 x0 x1) (k0_pay127 (k0_pay243 x0 x1) (k0_pay254 x0 x1)) (k0_pay128 (k0_pay243 x0 x1)) 48#32⟩,
    ⟨r0_85, k0_pay126 (k0_pay243 x0 x1) (k0_pay254 x0 x1) (k0_pay255 x0 x1)⟩,
    ⟨r0_84, k0_pay125 (k0_pay243 x0 x1) (k0_pay254 x0 x1) (k0_pay255 x0 x1) k0_pay124⟩] : List (View.Piece (Elt Ideal) S8x256x256 .bf16)),
    ∀ x : p.1.shape.Idx, p.2 x = blockFn x0 x1 (p.1.emb x) := by
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 240 (by decide) inb_S8x256x256_S1x16x256_4_240_0 u r l
    exact last x0 x1 4 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 224 (by decide) inb_S8x256x256_S1x16x256_4_224_0 u r l
    exact middle x0 x1 4 14 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 208 (by decide) inb_S8x256x256_S1x16x256_4_208_0 u r l
    exact middle x0 x1 4 13 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 192 (by decide) inb_S8x256x256_S1x16x256_4_192_0 u r l
    exact middle x0 x1 4 12 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 176 (by decide) inb_S8x256x256_S1x16x256_4_176_0 u r l
    exact middle x0 x1 4 11 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 160 (by decide) inb_S8x256x256_S1x16x256_4_160_0 u r l
    exact middle x0 x1 4 10 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 144 (by decide) inb_S8x256x256_S1x16x256_4_144_0 u r l
    exact middle x0 x1 4 9 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 128 (by decide) inb_S8x256x256_S1x16x256_4_128_0 u r l
    exact middle x0 x1 4 8 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 112 (by decide) inb_S8x256x256_S1x16x256_4_112_0 u r l
    exact middle x0 x1 4 7 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 96 (by decide) inb_S8x256x256_S1x16x256_4_96_0 u r l
    exact middle x0 x1 4 6 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 80 (by decide) inb_S8x256x256_S1x16x256_4_80_0 u r l
    exact middle x0 x1 4 5 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 64 (by decide) inb_S8x256x256_S1x16x256_4_64_0 u r l
    exact middle x0 x1 4 4 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 48 (by decide) inb_S8x256x256_S1x16x256_4_48_0 u r l
    exact middle x0 x1 4 3 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 32 (by decide) inb_S8x256x256_S1x16x256_4_32_0 u r l
    exact middle x0 x1 4 2 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 16 (by decide) inb_S8x256x256_S1x16x256_4_16_0 u r l
    exact middle x0 x1 4 1 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_4, dot_1_4]
    unfold_payloads
    pointwise
    obtain ⟨h0, h1, h2⟩ := emb_coords 4 0 (by decide) inb_S8x256x256_S1x16x256_4_0_0 u r l
    exact first x0 x1 4 r l _ h0 h1 h2

/-- The stores of the group in slot 5. -/
theorem group_5 : ∀ p ∈ ([
    ⟨r0_119, k0_pay178 (k0_pay257 x0 x1) (k0_pay176 (k0_pay243 x0 x1)) (k0_pay177 (k0_pay256 x0 x1))⟩,
    ⟨r0_118, k0_pay175 (k0_pay243 x0 x1) (k0_pay256 x0 x1) (k0_pay257 x0 x1)⟩,
    ⟨r0_117, k0_pay174 (k0_pay243 x0 x1) (k0_pay256 x0 x1) (k0_pay257 x0 x1) (k0_pay173 (k0_pay243 x0 x1))⟩,
    ⟨r0_116, k0_pay172 (k0_pay243 x0 x1) (k0_pay256 x0 x1) (k0_pay257 x0 x1)⟩,
    ⟨r0_115, k0_pay171 (k0_pay243 x0 x1) (k0_pay256 x0 x1) (k0_pay257 x0 x1) 176#32⟩,
    ⟨r0_114, k0_pay170 (k0_pay243 x0 x1) (k0_pay256 x0 x1) (k0_pay257 x0 x1)⟩,
    ⟨r0_113, k0_pay169 (k0_pay243 x0 x1) (k0_pay256 x0 x1) (k0_pay257 x0 x1)⟩,
    ⟨r0_112, k0_pay168 (k0_pay243 x0 x1) (k0_pay256 x0 x1) (k0_pay257 x0 x1)⟩,
    ⟨r0_111, k0_pay167 (k0_pay243 x0 x1) (k0_pay256 x0 x1) (k0_pay257 x0 x1)⟩,
    ⟨r0_110, k0_pay166 (k0_pay165 (k0_pay243 x0 x1) (k0_pay256 x0 x1) (k0_pay257 x0 x1))⟩,
    ⟨r0_109, k0_pay164 (k0_pay243 x0 x1) (k0_pay256 x0 x1) (k0_pay257 x0 x1)⟩,
    ⟨r0_108, k0_pay163 (k0_pay162 (k0_pay243 x0 x1) (k0_pay256 x0 x1) (k0_pay257 x0 x1))⟩,
    ⟨r0_107, k0_pay161 (k0_pay243 x0 x1) (k0_pay256 x0 x1) (k0_pay257 x0 x1)⟩,
    ⟨r0_106, k0_pay160 (k0_pay159 (k0_pay243 x0 x1) (k0_pay256 x0 x1) (k0_pay257 x0 x1))⟩,
    ⟨r0_105, k0_pay158 (k0_pay243 x0 x1) (k0_pay256 x0 x1) (k0_pay257 x0 x1)⟩,
    ⟨r0_104, k0_pay157 (k0_pay256 x0 x1) (k0_pay156 (k0_pay243 x0 x1) (View.ld x0 r0_102) (View.ld x1 r0_103))⟩] : List (View.Piece (Elt Ideal) S8x256x256 .bf16)),
    ∀ x : p.1.shape.Idx, p.2 x = blockFn x0 x1 (p.1.emb x) := by
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 240 (by decide) inb_S8x256x256_S1x16x256_5_240_0 u r l
    exact last x0 x1 5 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 224 (by decide) inb_S8x256x256_S1x16x256_5_224_0 u r l
    exact middle x0 x1 5 14 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 208 (by decide) inb_S8x256x256_S1x16x256_5_208_0 u r l
    exact middle x0 x1 5 13 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 192 (by decide) inb_S8x256x256_S1x16x256_5_192_0 u r l
    exact middle x0 x1 5 12 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 176 (by decide) inb_S8x256x256_S1x16x256_5_176_0 u r l
    exact middle x0 x1 5 11 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 160 (by decide) inb_S8x256x256_S1x16x256_5_160_0 u r l
    exact middle x0 x1 5 10 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 144 (by decide) inb_S8x256x256_S1x16x256_5_144_0 u r l
    exact middle x0 x1 5 9 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 128 (by decide) inb_S8x256x256_S1x16x256_5_128_0 u r l
    exact middle x0 x1 5 8 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 112 (by decide) inb_S8x256x256_S1x16x256_5_112_0 u r l
    exact middle x0 x1 5 7 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 96 (by decide) inb_S8x256x256_S1x16x256_5_96_0 u r l
    exact middle x0 x1 5 6 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 80 (by decide) inb_S8x256x256_S1x16x256_5_80_0 u r l
    exact middle x0 x1 5 5 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 64 (by decide) inb_S8x256x256_S1x16x256_5_64_0 u r l
    exact middle x0 x1 5 4 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 48 (by decide) inb_S8x256x256_S1x16x256_5_48_0 u r l
    exact middle x0 x1 5 3 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 32 (by decide) inb_S8x256x256_S1x16x256_5_32_0 u r l
    exact middle x0 x1 5 2 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_5, dot_1_5]
    unfold_payloads
    pointwise
    obtain ⟨h0, h1, h2⟩ := emb_coords 5 16 (by decide) inb_S8x256x256_S1x16x256_5_16_0 u r l
    exact middle x0 x1 5 1 r l _ h0 h1 h2
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 5 0 (by decide) inb_S8x256x256_S1x16x256_5_0_0 u r l
    refine Eq.trans ?_ (first x0 x1 5 r l _ h0 h1 h2)
    unfold_payloads
    pointwise [prodVec]

/-- The stores of the group in slot 6. -/
theorem group_6 : ∀ p ∈ ([
    ⟨r0_139, k0_pay206 (k0_pay205 (k0_pay243 x0 x1) (k0_pay258 x0 x1) (k0_pay259 x0 x1))⟩,
    ⟨r0_138, k0_pay204 (k0_pay243 x0 x1) (k0_pay258 x0 x1) (k0_pay259 x0 x1)⟩,
    ⟨r0_137, k0_pay203 (k0_pay243 x0 x1) (k0_pay259 x0 x1) (k0_pay202 (k0_pay243 x0 x1) (k0_pay258 x0 x1)) 224#32⟩,
    ⟨r0_136, k0_pay201 (k0_pay243 x0 x1) (k0_pay258 x0 x1) (k0_pay259 x0 x1)⟩,
    ⟨r0_135, k0_pay200 (k0_pay243 x0 x1) (k0_pay259 x0 x1) (k0_pay197 (k0_pay258 x0 x1)) (k0_pay198 (k0_pay243 x0 x1)) (k0_pay199 (F := Ideal))⟩,
    ⟨r0_134, k0_pay196 (k0_pay243 x0 x1) (k0_pay258 x0 x1) (k0_pay259 x0 x1)⟩,
    ⟨r0_133, k0_pay195 (k0_pay243 x0 x1) (k0_pay259 x0 x1) (k0_pay193 (k0_pay258 x0 x1)) (Scalar.ofBits .f32 0x00000000#32) (k0_pay194 (k0_pay243 x0 x1))⟩,
    ⟨r0_132, k0_pay192 (k0_pay243 x0 x1) (k0_pay258 x0 x1) (k0_pay259 x0 x1)⟩,
    ⟨r0_131, k0_pay191 (k0_pay243 x0 x1) (k0_pay259 x0 x1) (k0_pay189 (k0_pay243 x0 x1)) (k0_pay190 (k0_pay258 x0 x1))⟩,
    ⟨r0_130, k0_pay188 (k0_pay243 x0 x1) (k0_pay258 x0 x1) (k0_pay259 x0 x1)⟩,
    ⟨r0_129, k0_pay187 (k0_pay243 x0 x1) (k0_pay258 x0 x1) (k0_pay259 x0 x1) (k0_pay186 (k0_pay243 x0 x1))⟩,
    ⟨r0_128, k0_pay185 (k0_pay243 x0 x1) (k0_pay258 x0 x1) (k0_pay259 x0 x1)⟩,
    ⟨r0_127, k0_pay184 (k0_pay243 x0 x1) (k0_pay258 x0 x1) (k0_pay259 x0 x1) 48#32⟩,
    ⟨r0_126, k0_pay183 (k0_pay243 x0 x1) (k0_pay258 x0 x1) (k0_pay259 x0 x1)⟩,
    ⟨r0_125, k0_pay182 (k0_pay243 x0 x1) (k0_pay258 x0 x1) (k0_pay259 x0 x1)⟩,
    ⟨r0_124, k0_pay181 (k0_pay243 x0 x1) (View.ld x0 r0_120) (View.ld x1 r0_121) (View.ld x0 r0_122) (View.ld x1 r0_123)⟩] : List (View.Piece (Elt Ideal) S8x256x256 .bf16)),
    ∀ x : p.1.shape.Idx, p.2 x = blockFn x0 x1 (p.1.emb x) := by
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 240 (by decide) inb_S8x256x256_S1x16x256_6_240_0 u r l
    exact last x0 x1 6 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 224 (by decide) inb_S8x256x256_S1x16x256_6_224_0 u r l
    exact middle x0 x1 6 14 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 208 (by decide) inb_S8x256x256_S1x16x256_6_208_0 u r l
    exact middle x0 x1 6 13 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 192 (by decide) inb_S8x256x256_S1x16x256_6_192_0 u r l
    exact middle x0 x1 6 12 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 176 (by decide) inb_S8x256x256_S1x16x256_6_176_0 u r l
    exact middle x0 x1 6 11 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 160 (by decide) inb_S8x256x256_S1x16x256_6_160_0 u r l
    exact middle x0 x1 6 10 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 144 (by decide) inb_S8x256x256_S1x16x256_6_144_0 u r l
    exact middle x0 x1 6 9 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 128 (by decide) inb_S8x256x256_S1x16x256_6_128_0 u r l
    exact middle x0 x1 6 8 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 112 (by decide) inb_S8x256x256_S1x16x256_6_112_0 u r l
    exact middle x0 x1 6 7 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 96 (by decide) inb_S8x256x256_S1x16x256_6_96_0 u r l
    exact middle x0 x1 6 6 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 80 (by decide) inb_S8x256x256_S1x16x256_6_80_0 u r l
    exact middle x0 x1 6 5 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 64 (by decide) inb_S8x256x256_S1x16x256_6_64_0 u r l
    exact middle x0 x1 6 4 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 48 (by decide) inb_S8x256x256_S1x16x256_6_48_0 u r l
    exact middle x0 x1 6 3 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 32 (by decide) inb_S8x256x256_S1x16x256_6_32_0 u r l
    exact middle x0 x1 6 2 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_6, dot_1_6]
    unfold_payloads
    pointwise
    obtain ⟨h0, h1, h2⟩ := emb_coords 6 16 (by decide) inb_S8x256x256_S1x16x256_6_16_0 u r l
    exact middle x0 x1 6 1 r l _ h0 h1 h2
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 6 0 (by decide) inb_S8x256x256_S1x16x256_6_0_0 u r l
    refine Eq.trans ?_ (first x0 x1 6 r l _ h0 h1 h2)
    unfold_payloads
    pointwise [prodVec]

/-- The stores of the group in slot 7. -/
theorem group_7 : ∀ p ∈ ([
    ⟨r0_159, k0_pay242 (k0_pay243 x0 x1) (k0_pay260 x0 x1) (k0_pay261 x0 x1)⟩,
    ⟨r0_158, k0_pay241 (k0_pay243 x0 x1) (k0_pay260 x0 x1) (k0_pay261 x0 x1)⟩,
    ⟨r0_157, k0_pay240 (k0_pay236 (k0_pay243 x0 x1) (k0_pay260 x0 x1)) (k0_pay237 (k0_pay261 x0 x1)) (k0_pay238 (k0_pay243 x0 x1)) (k0_pay239 (F := Ideal))⟩,
    ⟨r0_156, k0_pay235 (k0_pay243 x0 x1) (k0_pay260 x0 x1) (k0_pay261 x0 x1)⟩,
    ⟨r0_155, k0_pay234 (k0_pay231 (k0_pay243 x0 x1) (k0_pay260 x0 x1)) (k0_pay232 (k0_pay261 x0 x1)) (Scalar.ofBits .f32 0x00000000#32) (k0_pay233 (k0_pay243 x0 x1))⟩,
    ⟨r0_154, k0_pay230 (k0_pay243 x0 x1) (k0_pay260 x0 x1) (k0_pay261 x0 x1)⟩,
    ⟨r0_153, k0_pay229 (k0_pay226 (k0_pay243 x0 x1) (k0_pay260 x0 x1)) (k0_pay227 (k0_pay243 x0 x1)) (k0_pay228 (k0_pay261 x0 x1))⟩,
    ⟨r0_152, k0_pay225 (k0_pay243 x0 x1) (k0_pay260 x0 x1) (k0_pay261 x0 x1)⟩,
    ⟨r0_151, k0_pay224 (k0_pay261 x0 x1) (k0_pay222 (k0_pay243 x0 x1) (k0_pay260 x0 x1)) (k0_pay223 (k0_pay243 x0 x1))⟩,
    ⟨r0_150, k0_pay221 (k0_pay243 x0 x1) (k0_pay260 x0 x1) (k0_pay261 x0 x1)⟩,
    ⟨r0_149, k0_pay220 (k0_pay243 x0 x1) (k0_pay261 x0 x1) (k0_pay219 (k0_pay243 x0 x1) (k0_pay260 x0 x1)) 96#32⟩,
    ⟨r0_148, k0_pay218 (k0_pay243 x0 x1) (k0_pay260 x0 x1) (k0_pay261 x0 x1)⟩,
    ⟨r0_147, k0_pay217 (k0_pay243 x0 x1) (k0_pay261 x0 x1) (k0_pay214 (k0_pay260 x0 x1)) (k0_pay215 (k0_pay243 x0 x1)) (k0_pay216 (F := Ideal))⟩,
    ⟨r0_146, k0_pay213 (k0_pay243 x0 x1) (k0_pay260 x0 x1) (k0_pay261 x0 x1)⟩,
    ⟨r0_145, k0_pay212 (k0_pay243 x0 x1) (k0_pay261 x0 x1) (k0_pay210 (View.ld x0 r0_140) (View.ld x1 r0_141)) (Scalar.ofBits .f32 0x00000000#32) (k0_pay211 (k0_pay243 x0 x1))⟩,
    ⟨r0_144, k0_pay209 (k0_pay243 x0 x1) (View.ld x0 r0_140) (View.ld x1 r0_141) (View.ld x0 r0_142) (View.ld x1 r0_143)⟩] : List (View.Piece (Elt Ideal) S8x256x256 .bf16)),
    ∀ x : p.1.shape.Idx, p.2 x = blockFn x0 x1 (p.1.emb x) := by
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 240 (by decide) inb_S8x256x256_S1x16x256_7_240_0 u r l
    exact last x0 x1 7 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 224 (by decide) inb_S8x256x256_S1x16x256_7_224_0 u r l
    exact middle x0 x1 7 14 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 208 (by decide) inb_S8x256x256_S1x16x256_7_208_0 u r l
    exact middle x0 x1 7 13 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 192 (by decide) inb_S8x256x256_S1x16x256_7_192_0 u r l
    exact middle x0 x1 7 12 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 176 (by decide) inb_S8x256x256_S1x16x256_7_176_0 u r l
    exact middle x0 x1 7 11 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 160 (by decide) inb_S8x256x256_S1x16x256_7_160_0 u r l
    exact middle x0 x1 7 10 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 144 (by decide) inb_S8x256x256_S1x16x256_7_144_0 u r l
    exact middle x0 x1 7 9 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 128 (by decide) inb_S8x256x256_S1x16x256_7_128_0 u r l
    exact middle x0 x1 7 8 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 112 (by decide) inb_S8x256x256_S1x16x256_7_112_0 u r l
    exact middle x0 x1 7 7 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 96 (by decide) inb_S8x256x256_S1x16x256_7_96_0 u r l
    exact middle x0 x1 7 6 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 80 (by decide) inb_S8x256x256_S1x16x256_7_80_0 u r l
    exact middle x0 x1 7 5 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 64 (by decide) inb_S8x256x256_S1x16x256_7_64_0 u r l
    exact middle x0 x1 7 4 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 48 (by decide) inb_S8x256x256_S1x16x256_7_48_0 u r l
    exact middle x0 x1 7 3 r l _ h0 h1 h2
  · intro x
    obtain ⟨u, r, l, rfl⟩ : ∃ (u : Fin 1) (r : Fin 16) (l : Fin 256), x = ix3 u r l := ⟨x 0, x 1, x 2, by funext a; fin_cases a <;> rfl⟩
    simp only [dot_0_7, dot_1_7]
    unfold_payloads
    pointwise
    obtain ⟨h0, h1, h2⟩ := emb_coords 7 32 (by decide) inb_S8x256x256_S1x16x256_7_32_0 u r l
    exact middle x0 x1 7 2 r l _ h0 h1 h2
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 7 16 (by decide) inb_S8x256x256_S1x16x256_7_16_0 u r l
    refine Eq.trans ?_ (middle x0 x1 7 1 r l _ h0 h1 h2)
    unfold_payloads
    pointwise [prodVec]
  · intro x
    obtain ⟨u, r, l, rfl⟩ : ∃ (u : Fin 1) (r : Fin 16) (l : Fin 256), x = ix3 u r l := ⟨x 0, x 1, x 2, by funext a; fin_cases a <;> rfl⟩
    obtain ⟨h0, h1, h2⟩ := emb_coords 7 0 (by decide) inb_S8x256x256_S1x16x256_7_0_0 u r l
    refine Eq.trans ?_ (first x0 x1 7 r l _ h0 h1 h2)
    unfold_payloads
    pointwise [prodVec]

/-- The block, at every entry. -/
theorem block_at (y : S8x256x256.Idx) : out0_2 x0 x1 y = blockFn x0 x1 y := by
  unfold out0_2
  have h := List.forall_mem_append.2 ⟨group_7 x0 x1, List.forall_mem_append.2 ⟨group_6 x0 x1, List.forall_mem_append.2 ⟨group_5 x0 x1, List.forall_mem_append.2 ⟨group_4 x0 x1, List.forall_mem_append.2 ⟨group_3 x0 x1, List.forall_mem_append.2 ⟨group_2 x0 x1, List.forall_mem_append.2 ⟨group_1 x0 x1, group_0 x0 x1⟩⟩⟩⟩⟩⟩⟩
  exact View.canon_apply_of_pieces (Val := Elt Ideal) (blockFn x0 x1) _ h y (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)

end Cert.S5

end
-- ==== Proof.Value.lean ====
/-
  THE KERNEL'S RESULT: the sums of the body are the layer's impulse responses (`prod_at`), so each block (`block_value`)
  and the array the blocks fill (`final`) hold the layer's response.
-/
module

public import proofs.«01_k».proof.Proof.Tables
public import proofs.«01_k».proof.Proof.Body
public import Idealize.ShloMosaic.Lib.Pipeline.ValueKit

@[expose] public section

set_option maxRecDepth 16384

noncomputable section

namespace Cert.S5

open Cert.KernelIdeal Cert.KernelIdeal.Gen Idealize.ShloMosaic Idealize.ShloMosaic.TcCoe

/-- A pole's input column times its output row is its part of the response at that lag. -/
theorem sum_out (q : Params) (d : Fin 2) (g : Fin 32) (k : Fin 16) (l : Fin 256) :
    ∑ p, (q.bbarRe d g p k * q.outRe d g p l + -q.bbarIm d g p k * q.outIm d g p l)
      = q.kernelAt d g k ⟨l % 16, by omega⟩ (lagOf d ⟨l / 16, by omega⟩) := by
  unfold Params.kernelAt
  rw [← Finset.sum_sub_distrib]
  refine Finset.sum_congr rfl fun p _ => ?_
  simp only [Params.outRe, Params.outIm, Params.hitRe, Params.hitIm]
  ring

/-- 128 terms, 64 for the real parts and 64 for the imaginary parts. -/
theorem sum_halves (f : Fin 128 → EReal) :
    ∑ x, f x = ∑ p : Fin 64, (f ⟨p, by omega⟩ + f ⟨64 + p, by omega⟩) := by
  rw [Finset.sum_add_distrib]
  exact Fin.sum_univ_add (M := EReal) (a := 64) (b := 64) f

section

variable {q : Params} {m : (ℓ : Loc nD τ sig) → Buf (Elt Ideal) ℓ} {c : Dev nD}

theorem left_block (t : Fin cfg0.N) (d : Fin 2) (s : Fin 8) (k : Fin 16) (x : Fin 128) (g : Fin 32)
    (hg : (g : ℕ) = 8 * t.val + s) : iblk m c 0 t (ix4 d s k x) = V m c main_v74 (ix4 d g k x) := by
  have idx : ∀ t : Fin cfg0.N, win0_0.index t = ![0, t.val, 0, 0] := (by decide +kernel : ∀ t : Fin grid0.N, _)
  blk_ext [iblk, idx t]

theorem right_block (t : Fin cfg0.N) (d : Fin 2) (s : Fin 8) (x : Fin 128) (l : Fin 256) (g : Fin 32)
    (hg : (g : ℕ) = 8 * t.val + s) : iblk m c 1 t (ix4 d s x l) = V m c main_v72 (ix4 d g x l) := by
  have idx : ∀ t : Fin cfg0.N, win0_1.index t = ![0, t.val, 0, 0] := (by decide +kernel : ∀ t : Fin grid0.N, _)
  blk_ext [iblk, idx t]

variable (h : Given q m c)
include h

/-- What one product of the body holds. -/
theorem prod_at (t : Fin cfg0.N) (d : Fin 2) (s : Fin 8) (k : Fin 16) (l : Fin 256) (g : Fin 32)
    (hg : (g : ℕ) = 8 * t.val + s) : prodVec (iblk m c 0 t) (iblk m c 1 t) d s (ix2 k l)
      = (q.kernelAt d g k ⟨l % 16, by omega⟩ (lagOf d ⟨l / 16, by omega⟩) : EReal) := by
  have e : prodVec (iblk m c 0 t) (iblk m c 1 t) d s (ix2 k l)
      = ∑ x : Fin 128, (if hx : (x : ℕ) < 64 then (q.bbarRe d g ⟨x, hx⟩ k : EReal)
          else ((-q.bbarIm d g ⟨x - 64, by omega⟩ k : ℝ) : EReal))
        * (if hx : (x : ℕ) < 64 then (q.outRe d g ⟨x, hx⟩ l : EReal) else (q.outIm d g ⟨x - 64, by omega⟩ l : EReal)) :=
    Finset.sum_congr rfl fun x _ => congrArg₂ (fun a b : EReal => a * b)
      ((left_block t d s k x g hg).trans (left_read h d g k x)) ((right_block t d s x l g hg).trans (right_read h d g x l))
  rw [e, sum_halves, ← sum_out q, coe_sum]
  refine Finset.sum_congr rfl fun p _ => ?_
  have hp : ¬ (64 + (p : ℕ) < 64) := by omega
  have ep : (⟨64 + (p : ℕ) - 64, by omega⟩ : Fin 64) = p := Fin.ext (by simp)
  rw [dif_pos p.isLt, dif_pos p.isLt, dif_neg hp, dif_neg hp, EReal.coe_add, EReal.coe_mul, EReal.coe_mul]
  simp only [ep]

/-- A block's entry is the layer's response. -/
theorem block_value (t : Fin cfg0.N) (s : Fin 8) (r l : Fin 256) (g : Fin 32) (hg : (g : ℕ) = 8 * t.val + s) :
    blockFn (iblk m c 0 t) (iblk m c 1 t) (ix3 s r l)
      = (q.response g ⟨r / 16, by omega⟩ ⟨r % 16, by omega⟩ ⟨l / 16, by omega⟩ ⟨l % 16, by omega⟩ : EReal) := by
  have hr := r.isLt
  have hl := l.isLt
  show strip (prodVec (iblk m c 0 t) (iblk m c 1 t) 0 s) (prodVec (iblk m c 0 t) (iblk m c 1 t) 1 s) r l = _
  unfold strip Params.response
  rw [prod_at h t 0 s _ _ g hg, prod_at h t 1 s _ _ g hg, EReal.coe_add]
  have c0 : (16 * ((r : ℕ) / 16) ≤ (l : ℕ)) = ((⟨(r : ℕ) / 16, by omega⟩ : Fin 16) ≤ ⟨(l : ℕ) / 16, by omega⟩) :=
    propext (by rw [Fin.mk_le_mk]; omega)
  have c1 : ((l : ℕ) < 16 * ((r : ℕ) / 16) + 16) = ((⟨(l : ℕ) / 16, by omega⟩ : Fin 16) ≤ ⟨(r : ℕ) / 16, by omega⟩) :=
    propext (by rw [Fin.mk_le_mk]; omega)
  congr 1
  · by_cases hc : 16 * ((r : ℕ) / 16) ≤ (l : ℕ)
    · rw [if_pos hc, if_pos (c0 ▸ hc)]
      congr 2
      · exact Fin.ext (by simp only; omega)
      · simp only [lagOf, if_true]; omega
    · rw [if_neg hc, if_neg (c0 ▸ hc), EReal.coe_zero]
  · by_cases hc : (l : ℕ) < 16 * ((r : ℕ) / 16) + 16
    · rw [if_pos hc, if_pos (c1 ▸ hc)]
      congr 2
      · exact Fin.ext (by simp only; omega)
      · simp only [lagOf, one_ne_zero, if_false]; omega
    · rw [if_neg hc, if_neg (c1 ▸ hc), EReal.coe_zero]

omit h in
/-- The layer's response with its token and channel axes joined. -/
def Params.responseAt (q : Params) (g : Fin 32) (r l : Fin 256) : ℝ :=
  q.response g ⟨r / 16, by omega⟩ ⟨r % 16, by omega⟩ ⟨l / 16, by omega⟩ ⟨l % 16, by omega⟩

omit h in
/-- The same as an array. -/
def responseArr (q : Params) : FVec Ideal S32x256x256 .bf16 := fun y => (q.responseAt (y 0) (y 1) (y 2) : EReal)

/-- THE KERNEL'S RESULT after the run. -/
theorem final : (dats m 0 c).arrAt 2 cfg0.N = responseArr q := by
  have idx : ∀ t : Fin cfg0.N, win0_2.index t = ![t.val, 0, 0] := (by decide +kernel : ∀ t : Fin grid0.N, _)
  refine (dats m 0 c).arrAt_eq_of_covers 2 _ (by decide +kernel) fun t _ y => ?_
  blk_simp
  rw [after0_2]
  rw [block_at]
  obtain ⟨s, r, l, rfl⟩ : ∃ (s : Fin 8) (r l : Fin 256), y = ix3 s r l := ⟨y 0, y 1, y 2, by funext a; fin_cases a <;> rfl⟩
  have ht : t.val < 4 := t.isLt
  have hs := s.isLt
  refine (block_value h t s r l ⟨8 * t.val + s, by omega⟩ rfl).trans ?_
  show ((q.responseAt ⟨8 * t.val + s, by omega⟩ r l : ℝ) : EReal) = responseArr q _
  have e : (win0_2.blk t).view.emb (ix3 s r l) = (ix3 (⟨8 * t.val + s, by omega⟩ : Fin 32) r l : S32x256x256.Idx) := by
    blk_ext [idx t]
  rw [e]
  rfl

end

end Cert.S5

end
-- ==== Proof.Pre.lean ====
/- What the precondition says of the arguments: the seven parameter arrays hold real numbers, no pole is zero, and the
   last argument is the 16 by 256 matrix that repeats each column over its 16 lanes. -/
module

public import proofs.«01_k».proof.Pre_well_posed
public import proofs.«01_k».proof.Proof.Tables
public import proofs.«01_k».proof.Proof.Gen.Pre_well_posed
public import Idealize.ShloMosaic.Lib.ReduceAll
public import Idealize.ShloMosaic.Lib.StableHlo.Predicate

@[expose] public section

noncomputable section

namespace Cert.S5.Pre

open Idealize.ShloMosaic Cert.Pre_well_posed

attribute [local instance] Cert.Pre_well_posed.Gen.facts

instance : Subsingleton S_.Idx := ⟨fun a b => by funext i; exact i.elim0⟩

/-- Both factors of a conjunction that is 1 are 1. -/
theorem and_one {a b : BitVec 1} (h : IntOp.andi a b = 1#1) : a = 1#1 ∧ b = 1#1 := by
  revert a b; decide

/-- The word of infinity is infinity. -/
theorem inf_word : (FloatOps.ofBits .f32 0x7F800000#32 : Ideal .f32) = (⊤ : EReal) := by
  simp [FloatOps.ofBits, Ideal.ofBits, Ideal.ieee]

/-- A number whose magnitude is below infinity is the real number that it names. -/
theorem eq_coe_toReal {x : EReal} (h : max x (-x) < ⊤) : x = ((x.toReal : ℝ) : EReal) := by
  refine (EReal.coe_toReal ?_ ?_).symm
  · rintro rfl; simp at h
  · rintro rfl; simp at h

/-- An array of which every magnitude is below infinity holds real numbers. -/
theorem finite_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
      (cmpf .olt (Host.absf x) (broadcastInDim s ![] hb (constant (F := Ideal) S_ .f32 0x7F800000#32)))
      (constantI S_ 1 1#1) hr hu j = 1#1) (i : s.Idx) : x i = (((x i : EReal).toReal : ℝ) : EReal) := by
  have h := Host.reduce_andi_all _ _ hr hu j e i
  refine eq_coe_toReal ?_
  have h' : BitVec.ofBool (decide (max (x i : EReal) (-(x i : EReal)) < FloatOps.ofBits (F := Ideal) .f32 0x7F800000#32)) = 1#1 := h
  rw [StableHlo.Predicate.ofBool_eq_one_iff, decide_eq_true_iff, inf_word] at h'
  exact h'

variable {a0 a1 : FVec Ideal S1x2x32x64 .f32} {a2 : FVec Ideal S1x2x32 .f32} {a3 a4 : FVec Ideal S1x2x32x64x16 .f32}
  {a5 a6 : FVec Ideal S1x2x32x16x64 .f32} {a7 : FVec Ideal S16x256 .f32}

/-- The real numbers that seven arrays name. -/
def params (a0 a1 : FVec Ideal S1x2x32x64 .f32) (a2 : FVec Ideal S1x2x32 .f32) (a3 a4 : FVec Ideal S1x2x32x64x16 .f32)
    (a5 a6 : FVec Ideal S1x2x32x16x64 .f32) : Params where
  aRe d g p := (a0 (ix4 0 d g p) : EReal).toReal
  aIm d g p := (a1 (ix4 0 d g p) : EReal).toReal
  logDt d g := (a2 (ix3 0 d g) : EReal).toReal
  bRe d g p k := (a3 (ix5 0 d g p k) : EReal).toReal
  bIm d g p k := (a4 (ix5 0 d g p k) : EReal).toReal
  cRe d g c p := (a5 (ix5 0 d g c p) : EReal).toReal
  cIm d g c p := (a6 (ix5 0 d g c p) : EReal).toReal

/-- The squared modulus of every pole is positive. -/
theorem pole_pos (hb : S_.BroadcastsInDim S1x2x32x64 (![] : Fin 0 → Fin S1x2x32x64.rank))
    {axes : List (Fin S1x2x32x64.rank)} (hr : S1x2x32x64.ReducesTo axes S_) (hu : 0 < S_.numel) (j : S_.Idx)
    (e : Host.reduce IntOp.andi
      (cmpf .ogt (addf (mulf a0 a0) (mulf a1 a1)) (broadcastInDim S1x2x32x64 ![] hb (constant (F := Ideal) S_ .f32 0x00000000#32)))
      (constantI S_ 1 1#1) hr hu j = 1#1) (i : S1x2x32x64.Idx) :
    (0 : EReal) < (a0 i : EReal) * (a0 i : EReal) + (a1 i : EReal) * (a1 i : EReal) := by
  have h := Host.reduce_andi_all _ _ hr hu j e i
  have h' : BitVec.ofBool (decide (FloatOps.ofBits (F := Ideal) .f32 0x00000000#32
      < (a0 i : EReal) * (a0 i : EReal) + (a1 i : EReal) * (a1 i : EReal))) = 1#1 := h
  rw [StableHlo.Predicate.ofBool_eq_one_iff, decide_eq_true_iff] at h'
  have hz : (FloatOps.ofBits .f32 0x00000000#32 : Ideal .f32) = (0 : EReal) := by
    simp [FloatOps.ofBits, Ideal.ofBits, Ideal.ieee]
  rwa [hz] at h'

/-- Lane l lies among the 16 lanes of column x exactly when l / 16 is x. -/
theorem own_lane : ∀ (x : Fin 16) (l : Fin 256),
    IntOp.andi (IntOp.cmpi .sle (IntOp.muli 16#32 (BitVec.ofNat 32 x)) (BitVec.ofNat 32 l))
      (IntOp.cmpi .slt (BitVec.ofNat 32 l) (IntOp.addi (IntOp.muli 16#32 (BitVec.ofNat 32 x)) 16#32))
      = if x = ⟨l / 16, by omega⟩ then 1#1 else 0#1 := by
  decide +kernel

/-- The last array is the one-hot matrix. -/
theorem spread_at {axes : List (Fin S16x256.rank)} (hb : S_.BroadcastsInDim S16x256 (![] : Fin 0 → Fin S16x256.rank))
    (hr : S16x256.ReducesTo axes S_) (hu : 0 < S_.numel) (j : S_.Idx)
    (e : Host.reduce IntOp.andi (cmpf .oeq a7 (select
        (andi (cmpi .sle (muli (broadcastInDim S16x256 ![] hb (constantI S_ 32 16#32)) (iotaInDim S16x256 32 0)) (iotaInDim S16x256 32 1))
          (cmpi .slt (iotaInDim S16x256 32 1) (addi (muli (broadcastInDim S16x256 ![] hb (constantI S_ 32 16#32)) (iotaInDim S16x256 32 0))
            (broadcastInDim S16x256 ![] hb (constantI S_ 32 16#32)))))
        (broadcastInDim S16x256 ![] hb (constant (F := Ideal) S_ .f32 0x3F800000#32))
        (broadcastInDim S16x256 ![] hb (constant (F := Ideal) S_ .f32 0x00000000#32))))
      (constantI S_ 1 1#1) hr hu j = 1#1) (x : Fin 16) (l : Fin 256) :
    a7 (ix2 x l) = if x = ⟨l / 16, by omega⟩ then (1 : EReal) else 0 := by
  have h := Host.reduce_andi_all _ _ hr hu j e (ix2 x l)
  have h' : BitVec.ofBool (decide ((a7 (ix2 x l) : EReal) = Scalar.select
      (IntOp.andi (IntOp.cmpi .sle (IntOp.muli 16#32 (BitVec.ofNat 32 x)) (BitVec.ofNat 32 l))
        (IntOp.cmpi .slt (BitVec.ofNat 32 l) (IntOp.addi (IntOp.muli 16#32 (BitVec.ofNat 32 x)) 16#32)))
      (FloatOps.ofBits (F := Ideal) .f32 0x3F800000#32) (FloatOps.ofBits (F := Ideal) .f32 0x00000000#32))) = 1#1 := h
  rw [StableHlo.Predicate.ofBool_eq_one_iff, decide_eq_true_iff, own_lane] at h'
  have h1 : (FloatOps.ofBits .f32 0x3F800000#32 : Ideal .f32) = (1 : EReal) := by
    simp [FloatOps.ofBits, Ideal.ofBits, Ideal.ieee, -EReal.coe_mul]; norm_num
  have hz : (FloatOps.ofBits .f32 0x00000000#32 : Ideal .f32) = (0 : EReal) := by
    simp [FloatOps.ofBits, Ideal.ofBits, Ideal.ieee]
  rw [h1, hz] at h'
  refine h'.trans ?_
  by_cases hx : x = ⟨l / 16, by omega⟩
  · rw [if_pos hx, if_pos hx]; rfl
  · rw [if_neg hx, if_neg hx]; rfl

/-- The precondition, read. -/
theorem read (h : fn (F := Ideal) a0 a1 a2 a3 a4 a5 a6 a7 = fun _ => 1#1) :
    Ref.Holds (params a0 a1 a2 a3 a4 a5 a6) a0 a1 a2 a3 a4 a5 a6
      ∧ (∀ d g p, (params a0 a1 a2 a3 a4 a5 a6).den d g p ≠ 0)
      ∧ ∀ (x : Fin 16) (l : Fin 256), a7 (ix2 x l) = if x = ⟨l / 16, by omega⟩ then (1 : EReal) else 0 := by
  have h0 := congrFun h (Shape.Idx.first Facts.h_S_)
  obtain ⟨hp, h7⟩ := and_one h0
  obtain ⟨hp, hpole⟩ := and_one hp
  obtain ⟨hp, h6⟩ := and_one hp
  obtain ⟨hp, h5⟩ := and_one hp
  obtain ⟨hp, h4⟩ := and_one hp
  obtain ⟨hp, h3⟩ := and_one hp
  obtain ⟨hp, h2⟩ := and_one hp
  obtain ⟨hp, h1⟩ := and_one hp
  obtain ⟨-, h0⟩ := and_one hp
  have f0 := finite_of_all a0 _ _ _ _ h0
  have f1 := finite_of_all a1 _ _ _ _ h1
  have hold : Ref.Holds (params a0 a1 a2 a3 a4 a5 a6) a0 a1 a2 a3 a4 a5 a6 :=
    { aRe := fun d g p => f0 _
      aIm := fun d g p => f1 _
      logDt := fun d g => finite_of_all a2 _ _ _ _ h2 _
      bRe := fun d g p k => finite_of_all a3 _ _ _ _ h3 _
      bIm := fun d g p k => finite_of_all a4 _ _ _ _ h4 _
      cRe := fun d g c p => finite_of_all a5 _ _ _ _ h5 _
      cIm := fun d g c p => finite_of_all a6 _ _ _ _ h6 _ }
  refine ⟨hold, fun d g p hd => ?_, spread_at _ _ _ _ h7⟩
  have hpos := pole_pos _ _ _ _ hpole (ix4 0 d g p)
  rw [hold.aRe d g p, hold.aIm d g p, ← EReal.coe_mul, ← EReal.coe_mul, ← EReal.coe_add, ← EReal.coe_zero,
    EReal.coe_lt_coe_iff] at hpos
  exact hpos.ne' hd

end Cert.S5.Pre

end
-- ==== Proof.OutRow.lean ====
/-
  THE END OF THE LAYER, one token at a time, over the extended reals: from a token's row of the residual stream, of the
  attention's output and of the S5 output, with the batch entry's modulation, the row that the layer returns.
-/
module

public import Idealize.ShloMosaic.Lib.Pointwise

@[expose] public section

noncomputable section

namespace Cert.Out

open Idealize.ShloMosaic

/-- The number that an f32 word denotes. -/
abbrev num (w : BitVec 32) : EReal := Ideal.ofBits .f32 w

/-- The weights and the norms' gains and offsets. -/
structure Weights where
  wglu : Fin 512 → Fin 512 → EReal
  bglu : Fin 512 → EReal
  wout : Fin 1024 → Fin 1024 → EReal
  wup : Fin 1024 → Fin 5632 → EReal
  wdn : Fin 2816 → Fin 1024 → EReal
  gain : Fin 3 → Fin 1024 → EReal
  offset : Fin 3 → Fin 1024 → EReal

/-- What one token brings: its row of the residual stream, of the attention's output and of the S5 output. -/
structure Token where
  x1 : Fin 1024 → EReal
  yna : Fin 512 → EReal
  ys5 : Fin 512 → EReal

/-- GELU, in the tanh form. -/
def gelu (x : EReal) : EReal :=
  x * (num 0x3F000000#32 * (1 + Ideal.tanh (num 0x3F4C422A#32 * (x + num 0x3D372713#32 * (x * x * x)))))

/-- The mean of a row of 1024. -/
def mean (r : Fin 1024 → EReal) : EReal := Ideal.div (∑ k, r k) (num 0x44800000#32)

/-- Layer norm of a row, with gain g and offset b. -/
def layerNorm (r g b : Fin 1024 → EReal) (j : Fin 1024) : EReal :=
  (r j - mean r) * Ideal.rsqrt (mean (fun k => (r k - mean r) * (r k - mean r)) + num 0x358637BD#32) * g j + b j

namespace Weights

variable (w : Weights)

/-- The S5 output behind its GELU and its gate. -/
def glu (s : Fin 512 → EReal) (k : Fin 512) : EReal :=
  gelu (s k) * Ideal.logistic ((∑ i : Fin 512, gelu (s i) * w.wglu i k) + w.bglu k)

/-- The output projection of the attention's row beside the gated S5 row. -/
def mixed (t : Token) (j : Fin 1024) : EReal :=
  (∑ k : Fin 512, t.yna k * w.wout ⟨k, by omega⟩ j) + ∑ k : Fin 512, w.glu t.ys5 k * w.wout ⟨512 + k, by omega⟩ j

/-- The residual stream after the mixers. -/
def mid (t : Token) (mod : Fin 9 → Fin 1024 → EReal) : Fin 1024 → EReal :=
  layerNorm (fun j => num 0x3F9837F0#32 * t.x1 j + mod 5 j * w.mixed t j) (w.gain 1) (w.offset 1)

/-- A row modulated for the feed-forward part. -/
def modulated (x : Fin 1024 → EReal) (mod : Fin 9 → Fin 1024 → EReal) (j : Fin 1024) : EReal :=
  x j * (1 + mod 7 j) + mod 6 j

/-- The first feed-forward product. -/
def up (h : Fin 1024 → EReal) (k : Fin 5632) : EReal := ∑ j : Fin 1024, h j * w.wup j k

/-- The gated hidden row. -/
def hidden (h : Fin 1024 → EReal) (k : Fin 2816) : EReal :=
  w.up h ⟨2816 + k, by omega⟩ * Ideal.logistic (w.up h ⟨2816 + k, by omega⟩) * w.up h ⟨k, by omega⟩

/-- The second feed-forward product. -/
def down (h : Fin 1024 → EReal) (j : Fin 1024) : EReal := ∑ k : Fin 2816, w.hidden h k * w.wdn k j

/-- The layer's row from the residual stream x after the mixers and the modulated row h. -/
def last (x h : Fin 1024 → EReal) (mod : Fin 9 → Fin 1024 → EReal) : Fin 1024 → EReal :=
  layerNorm (fun j => num 0x3F9837F0#32 * x j + num 0x3F000000#32 * mod 8 j * w.down h j) (w.gain 2) (w.offset 2)

/-- The layer's row. -/
def row (t : Token) (mod : Fin 9 → Fin 1024 → EReal) : Fin 1024 → EReal :=
  w.last (w.mid t mod) (modulated (w.mid t mod) mod) mod

end Weights

end Cert.Out

end
-- ==== Proof.OutBody.lean ====
module
public import proofs.«01_k».proof.Proof.Gen.OutFfnIdeal.Value
public import proofs.«01_k».proof.Proof.OutRow
public import Idealize.ShloMosaic.Lib.Pipeline.ValueKit
/-! What a point of the call writes, from the rows the point before it kept. -/
@[expose] public section
set_option maxRecDepth 65536
noncomputable section
namespace Cert.Out
open Cert.OutFfnIdeal Cert.OutFfnIdeal.Gen Idealize.ShloMosaic
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S32x32x256 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S3x1024 .f32) (harg6 : arg6.IsWhole) (arg7 : Memref sig .tc .vmem S3x1024 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S4x512x128 .f32) (harg15 : arg15.IsWhole) (arg16 : Memref sig .tc .vmem S512x1024 .bf16) (harg16 : arg16.IsWhole) (arg17 : Memref sig .tc .vmem S512x1024 .f32) (harg17 : arg17.IsWhole)
    (x0 : Vec Ideal S512x1024 .f32) (x1 : Vec Ideal S512x512 .bf16) (x2 : Vec Ideal S32x32x256 .f32) (x3 : Vec Ideal S1x9x1024 .f32) (x4 : Vec Ideal S1x9x1024 .f32) (x5 : Vec Ideal S3x1024 .f32) (x6 : Vec Ideal S3x1024 .f32) (x7 : Vec Ideal S512x512 .bf16) (x8 : Vec Ideal S1x512 .f32) (x9 : Vec Ideal S1024x1024 .bf16) (x10 : Vec Ideal S1024x5632 .bf16) (x11 : Vec Ideal S2816x1024 .bf16) (xs2 : Vec Ideal S512x1024 .bf16) (xs3 : Vec Ideal S512x1024 .f32)

/-- The weights as the blocks hold them. -/
def bw : Weights where
  wglu i k := x7 (ix2 i k)
  bglu k := x8 (ix2 0 k)
  wout k j := x9 (ix2 k j)
  wup j k := x10 (ix2 j k)
  wdn k j := x11 (ix2 k j)
  gain i j := x5 (ix2 i j)
  offset i j := x6 (ix2 i j)

/-- The modulation as its block holds it. -/
def bmod (x : Vec Ideal S1x9x1024 .f32) (i : Fin 9) (j : Fin 1024) : EReal := x (ix3 0 i j)

def hid (y : S512x2816.Idx) : Elt Ideal .bf16 := (bw x5 x6 x7 x8 x9 x10 x11).hidden (fun j => xs2 (ix2 (y 0) j)) (y 1)

theorem readCov_ld {S : Shape} {e : EltTy} (v : View sig .tc .vmem S e) (L : List (View.Piece (Elt Ideal) S e)) (r : Rect S) :
    v.readCov L r.toLoadRect = View.ld (View.canon L) r := View.readCov_eq_canon' v L _

/-- One entry of a chunk of the hidden rows. -/
theorem chunk (r : Fin 512) (k kg : Fin 5632) (z : S512x2816.Idx) (h0 : (z 0 : ℕ) = r) (h1 : (k : ℕ) = z 1)
    (hg : (kg : ℕ) = 2816 + k) :
    (∑ x : Fin 1024, (xs2 (ix2 r x) : EReal) * x10 (ix2 x kg))
        * Ideal.logistic (∑ x : Fin 1024, (xs2 (ix2 r x) : EReal) * x10 (ix2 x kg))
        * ∑ x : Fin 1024, (xs2 (ix2 r x) : EReal) * x10 (ix2 x k)
      = hid x5 x6 x7 x8 x9 x10 x11 xs2 z := by
  have hz : (z 1 : ℕ) < 2816 := (z 1).isLt
  obtain rfl : k = ⟨z 1, Nat.lt_trans hz (by decide)⟩ := Fin.ext h1
  obtain rfl : kg = ⟨2816 + z 1, Nat.add_lt_add_left hz 2816⟩ := Fin.ext hg
  obtain rfl : z 0 = r := Fin.ext h0
  rfl

/-- The block of the layer's rows that a point writes, from the carried rows. -/
def lastBlock (y : S512x1024.Idx) : Elt Ideal .f32 :=
  (bw x5 x6 x7 x8 x9 x10 x11).last (fun j => xs3 (ix2 (y 0) j)) (fun j => xs2 (ix2 (y 0) j)) (bmod x4) (y 1)

theorem last_at (n : Fin 512) (l : Fin 1024) (z : S512x1024.Idx) (h0 : (z 0 : ℕ) = n) (h1 : (z 1 : ℕ) = l) :
    (bw x5 x6 x7 x8 x9 x10 x11).last (fun j => xs3 (ix2 n j)) (fun j => xs2 (ix2 n j)) (bmod x4) l
      = lastBlock x4 x5 x6 x7 x8 x9 x10 x11 xs2 xs3 z := by
  obtain rfl : z 0 = n := Fin.ext h0
  obtain rfl : z 1 = l := Fin.ext h1
  rfl

theorem canon_p (L : List (View.Piece (Elt Ideal) S512x2816 .bf16))
    (hL : ∀ p ∈ L, ∀ x : p.1.shape.Idx, p.2 x = hid x5 x6 x7 x8 x9 x10 x11 xs2 (p.1.emb x))
    (hc : ∀ y, ∃ p ∈ L, y ∈ p.1.set) : View.canon L = hid x5 x6 x7 x8 x9 x10 x11 xs2 :=
  funext fun y => View.canon_apply_of_pieces (Val := Elt Ideal) _ L hL y (hc y)

theorem out_B (hc0 : ¬cond0_0 i) (y) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs2 xs3 y = lastBlock x4 x5 x6 x7 x8 x9 x10 x11 xs2 xs3 y := by
  frame_out
  simp only [readCov_ld]
  rw [canon_p x5 x6 x7 x8 x9 x10 x11 xs2 _ ?hL ?hc]
  case hc => exact fun y => View.cover_of_tiledL (s := S512x2816) _ ![512, 256] (by sl_kernel_rfl) y
  case hL =>
    repeat' first | exact List.forall_mem_nil _ | refine List.forall_mem_cons.2 ⟨fun x => ?_, ?_⟩
    all_goals
      obtain ⟨r, l, rfl⟩ : ∃ (r : Fin 512) (l : Fin 256), x = ix2 r l := ⟨x 0, x 1, by funext a; fin_cases a <;> rfl⟩
      unfold_payloads
      pointwise
      refine chunk x5 x6 x7 x8 x9 x10 x11 xs2 r _ _ _ ?_ ?_ ?_
    all_goals first | (blk_simp; done) | (blk_simp; omega) | (dsimp only; omega)
  obtain ⟨r, l, rfl⟩ : ∃ (r : Fin 512) (l : Fin 1024), y = ix2 r l := ⟨y 0, y 1, by funext a; fin_cases a <;> rfl⟩
  refine View.canon_apply_of_pieces (Val := Elt Ideal) (lastBlock x4 x5 x6 x7 x8 x9 x10 x11 xs2 xs3) _ ?_ _ (View.cover_of_tiledL (s := S512x1024) _ ![256, 1024] (by sl_kernel_rfl) _)
  repeat' first | exact List.forall_mem_nil _ | refine List.forall_mem_cons.2 ⟨fun x => ?_, ?_⟩
  all_goals
    obtain ⟨r, l, rfl⟩ : ∃ (r : Fin 256) (l : Fin 1024), x = ix2 r l := ⟨x 0, x 1, by funext a; fin_cases a <;> rfl⟩
    unfold_payloads
    pointwise
    first
    | refine Eq.trans ?_ (last_at x4 x5 x6 x7 x8 x9 x10 x11 xs2 xs3 ⟨256 + r, by omega⟩ l _ ?_ ?_)
      · rfl
      · blk_simp
      · blk_simp
    | refine Eq.trans ?_ (last_at x4 x5 x6 x7 x8 x9 x10 x11 xs2 xs3 ⟨r, by omega⟩ l _ ?_ ?_)
      · rfl
      · blk_simp
      · blk_simp

end Cert.Out
end
-- ==== Proof.OutTokens.lean ====
module
public import proofs.«01_k».proof.Proof.OutBody
/-! The S5 output enters a point in channel-major tiles and is put into token order by rotations and selections along
the lanes. Here that reordering is described, and the block the stores leave is shown to be the tokens in order. -/
@[expose] public section
set_option maxRecDepth 65536
noncomputable section
namespace Cert.Out
open Cert.OutFfnIdeal Cert.OutFfnIdeal.Gen Idealize.ShloMosaic

/-- Each lane's group of sixteen, as a word. -/
def group : IVec S1x128 32 := k0_pay19 (iota .tc S1x128 32 [1] iota_S1x128_d1_w32) 16#32 k0_pay17 k0_pay18 (Scalar.extui (Scalar.cmpi .sgt 16#32 0#32))

/-- Whether the lane's group has the bit `d`. -/
def bit (d : BitVec 32) : IVec S1x128 1 := cmpi .ne (andi group (broadcast S1x128 d)) (broadcast S1x128 0#32)

def pick (d : BitVec 32) (a b : FVec Ideal S32x128 .f32) : FVec Ideal S32x128 .f32 :=
  select (broadcastTo S32x128 (shapeCast S1x128 (bit d) shapeCasts_S1x128_S1x128) broadcasts_S1x128_S32x128) a b

def roll (n : BitVec 32) (a : FVec Ideal S32x128 .f32) : FVec Ideal S32x128 .f32 :=
  dynamicRotate 1 n none a rotates_S32x128_d1

/-- One round: tiles whose numbers differ by `2^e` exchange the lanes whose groups differ by `2^e`. -/
def swap (e : Fin 3) (T : Fin 8 → FVec Ideal S32x128 .f32) (a : Fin 8) : FVec Ideal S32x128 .f32 :=
  bif a.val.testBit e then pick (![1#32, 2#32, 4#32] e) (T a) (roll (![112#32, 96#32, 64#32] e) (T (a - ![1, 2, 4] e)))
  else pick (![1#32, 2#32, 4#32] e) (roll (![16#32, 32#32, 64#32] e) (T (a + ![1, 2, 4] e))) (T a)

def bits : Fin 3 → Fin 128 → BitVec 1 := fun e l => bit (![1#32, 2#32, 4#32] e) (ix2 0 l)

theorem bits_eq : ∀ e l, bits e l = BitVec.ofBool ((l.val / 16).testBit e) := by decide +kernel

/-- The tile and the lane an entry comes from in a round. -/
def from' (e : Fin 3) (a : Fin 8) (l : Fin 128) : Fin 8 × Fin 128 :=
  if a.val.testBit e then
    if (l.val / 16).testBit e then (a, l) else (a - ![1, 2, 4] e, l + ![16, 32, 64] e)
  else if (l.val / 16).testBit e then (a + ![1, 2, 4] e, l - ![16, 32, 64] e) else (a, l)

theorem pick_at (d : BitVec 32) (a b : FVec Ideal S32x128 .f32) (h : Fin 32) (l : Fin 128) :
    pick d a b (ix2 h l) = Scalar.select (bit d (ix2 0 l)) (a (ix2 h l)) (b (ix2 h l)) := by
  unfold pick
  pointwise

theorem roll_up (e : Fin 3) (a : FVec Ideal S32x128 .f32) (h : Fin 32) (l : Fin 128) :
    roll (![112#32, 96#32, 64#32] e) a (ix2 h l) = a (ix2 h (l + ![16, 32, 64] e)) := by
  unfold roll
  fin_cases e
  all_goals pointwise
  all_goals exact congrArg (fun k => a (ix2 h k)) (Fin.ext (by simp [Fin.val_add]; try omega))

theorem roll_down (e : Fin 3) (a : FVec Ideal S32x128 .f32) (h : Fin 32) (l : Fin 128) :
    roll (![16#32, 32#32, 64#32] e) a (ix2 h l) = a (ix2 h (l - ![16, 32, 64] e)) := by
  unfold roll
  fin_cases e
  all_goals pointwise
  all_goals exact congrArg (fun k => a (ix2 h k)) (Fin.ext (by simp [Fin.sub_def]; try omega))

theorem swap_at (e : Fin 3) (T : Fin 8 → FVec Ideal S32x128 .f32) (a : Fin 8) (h : Fin 32) (l : Fin 128) :
    swap e T a (ix2 h l) = T (from' e a l).1 (ix2 h (from' e a l).2) := by
  have hb := bits_eq e l
  unfold bits at hb
  unfold swap from'
  cases a.val.testBit e <;> simp only [cond_true, cond_false, pick_at, roll_up, roll_down, hb] <;>
    cases (l.val / 16).testBit e <;> rfl

/-- Three rounds transpose tiles and lane groups. -/
def turned (T : Fin 8 → FVec Ideal S32x128 .f32) : Fin 8 → FVec Ideal S32x128 .f32 := swap 0 (swap 1 (swap 2 T))

theorem from_turned : ∀ (a : Fin 8) (l : Fin 128),
    let p := from' 0 a l
    let q := from' 1 p.1 p.2
    from' 2 q.1 q.2 = (⟨l / 16, by omega⟩, ⟨16 * a + l % 16, by omega⟩) := by decide +kernel

theorem turned_at (T : Fin 8 → FVec Ideal S32x128 .f32) (a : Fin 8) (h : Fin 32) (l : Fin 128) :
    turned T a (ix2 h l) = T ⟨l / 16, by omega⟩ (ix2 h ⟨16 * a + l % 16, by omega⟩) := by
  unfold turned
  have e := from_turned a l
  dsimp only at e
  rw [swap_at, swap_at, swap_at, e]

theorem inb_tile (v : Fin 4) (w : Fin 2) (g : Fin 8) (a : Fin 3) :
    (![8 * v + g, 0, 128 * w] : Fin 3 → ℕ) a + S1x32x128.size a ≤ S32x32x256.size a := by
  fin_cases a <;> simp <;> omega

/-- The eight tiles of the S5 output that make up one half of the phases of one slab. -/
def tiles (x2 : Vec Ideal S32x32x256 .f32) (v : Fin 4) (w : Fin 2) (g : Fin 8) : FVec Ideal S32x128 .f32 :=
  shapeCast S32x128 (View.ld x2 (Rect.unit (s := S32x32x256) ![8 * v + g, 0, 128 * w] S1x32x128.size (inb_tile v w g)))
    shapeCasts_S1x32x128_S32x128

/-- The rows of one phase in one slab. -/
def phase (v : Fin 4) (w : Fin 2) (a : Fin 8) : Rect S4x512x128 where
  off := ![v, 8 * w + a, 0]
  size := S1x32x128.size
  stride := ![1, 16, 1]
  inb b := by fin_cases b <;> simp <;> omega
  stride_pos := spos_1_16_1

def piece (x2 : Vec Ideal S32x32x256 .f32) (v : Fin 4) (w : Fin 2) (a : Fin 8) : View.Piece (Elt Ideal) S4x512x128 .f32 :=
  ⟨phase v w a, shapeCast S1x32x128 (turned (tiles x2 v w) a) shapeCasts_S32x128_S1x32x128⟩

/-- The stores of the sixty-four phases, the last first. -/
def pieces (x2 : Vec Ideal S32x32x256 .f32) : List (View.Piece (Elt Ideal) S4x512x128 .f32) :=
  [3, 2, 1, 0].flatMap fun v => [1, 0].flatMap fun w => [7, 6, 5, 4, 3, 2, 1, 0].map fun a => piece x2 v w a

/-- The S5 output in token order. -/
def tokens (x2 : Vec Ideal S32x32x256 .f32) (y : S4x512x128.Idx) : Elt Ideal .f32 :=
  x2 (ix3 ⟨8 * (y 0).val + (y 2).val / 16, by have h0 : (y 0).val < 4 := (y 0).isLt; have h2 : (y 2).val < 128 := (y 2).isLt; omega⟩ ⟨(y 1).val / 16, by have h1 : (y 1).val < 512 := (y 1).isLt; omega⟩
    ⟨16 * ((y 1).val % 16) + (y 2).val % 16, by omega⟩)

theorem drop_at (T : FVec Ideal S1x32x128 .f32) (h : Fin 32) (l : Fin 128) :
    shapeCast S32x128 T shapeCasts_S1x32x128_S32x128 (ix2 h l) = T (ix3 0 h l) := by
  pointwise

theorem tiles_at (x2 : Vec Ideal S32x32x256 .f32) (v : Fin 4) (w : Fin 2) (g : Fin 8) (h : Fin 32) (l : Fin 128) :
    tiles x2 v w g (ix2 h l) = x2 (ix3 ⟨8 * v + g, by omega⟩ h ⟨128 * w + l, by omega⟩) := by
  unfold tiles
  rw [drop_at]
  refine congrArg x2 ?_
  funext a
  match a with
  | ⟨0, _⟩ => exact Fin.ext (show 8 * v.val + g + 1 * 0 = 8 * v + g by omega)
  | ⟨1, _⟩ => exact Fin.ext (show 0 + 1 * h.val = h by omega)
  | ⟨2, _⟩ => exact Fin.ext (show 128 * w.val + 1 * l = 128 * w + l by omega)

theorem lift_at (T : FVec Ideal S32x128 .f32) (u : Fin 1) (h : Fin 32) (l : Fin 128) :
    shapeCast S1x32x128 T shapeCasts_S32x128_S1x32x128 (ix3 u h l) = T (ix2 h l) := by
  pointwise

theorem tokens_at (x2 : Vec Ideal S32x32x256 .f32) (a : Fin 32) (b : Fin 32) (d : Fin 256) (y : S4x512x128.Idx)
    (ha : 8 * (y 0).val + (y 2).val / 16 = a) (hb : (y 1).val / 16 = b) (hd : 16 * ((y 1).val % 16) + (y 2).val % 16 = d) :
    x2 (ix3 a b d) = tokens x2 y := by
  have h0 : (y 0).val < 4 := (y 0).isLt
  have h1 : (y 1).val < 512 := (y 1).isLt
  have h2 : (y 2).val < 128 := (y 2).isLt
  obtain rfl : a = ⟨8 * (y 0).val + (y 2).val / 16, by clear ha hb hd; omega⟩ := Fin.ext ha.symm
  obtain rfl : b = ⟨(y 1).val / 16, by clear ha hb hd; omega⟩ := Fin.ext hb.symm
  obtain rfl : d = ⟨16 * ((y 1).val % 16) + (y 2).val % 16, by clear ha hb hd; omega⟩ := Fin.ext hd.symm
  rfl

theorem piece_at (x2 : Vec Ideal S32x32x256 .f32) (v : Fin 4) (w : Fin 2) (a : Fin 8) (x : (phase v w a).shape.Idx) :
    (piece x2 v w a).2 x = tokens x2 ((phase v w a).emb x) := by
  obtain ⟨u, h, l, rfl⟩ : ∃ (u : Fin 1) (h : Fin 32) (l : Fin 128), x = ix3 u h l :=
    ⟨x 0, x 1, x 2, by funext a; fin_cases a <;> rfl⟩
  have e : (piece x2 v w a).2 (ix3 u h l) = shapeCast S1x32x128 (turned (tiles x2 v w) a) shapeCasts_S32x128_S1x32x128 (ix3 u h l) := rfl
  have e0 : ((phase v w a).emb (ix3 u h l) 0).val = v + 1 * u := rfl
  have e1 : ((phase v w a).emb (ix3 u h l) 1).val = 8 * w + a + 16 * h := rfl
  have e2 : ((phase v w a).emb (ix3 u h l) 2).val = 0 + 1 * l := rfl
  rw [e, lift_at, turned_at, tiles_at]
  refine tokens_at x2 _ _ _ _ ?_ ?_ ?_ <;> simp only [e0, e1, e2] <;> omega

theorem canon_tokens (x2 : Vec Ideal S32x32x256 .f32) (L : List (View.Piece (Elt Ideal) S4x512x128 .f32)) (hL : L = pieces x2) :
    View.canon L = tokens x2 := by
  subst hL
  funext y
  refine View.canon_apply_of_pieces (Val := Elt Ideal) _ _ ?_ y ?_
  · intro p hp
    simp only [pieces, List.mem_flatMap, List.mem_map] at hp
    obtain ⟨v, -, w, -, a, -, rfl⟩ := hp
    exact piece_at x2 v w a
  · have := (y 1).isLt
    refine ⟨piece x2 (y 0) ⟨(y 1).val % 16 / 8, by omega⟩ ⟨(y 1).val % 8, by omega⟩, ?_, ?_⟩
    · simp only [pieces, List.mem_flatMap, List.mem_map]
      exact ⟨_, (by decide : ∀ v : Fin 4, v ∈ [3, 2, 1, 0]) _, _, (by decide : ∀ w : Fin 2, w ∈ [1, 0]) _, _,
        (by decide : ∀ a : Fin 8, a ∈ [7, 6, 5, 4, 3, 2, 1, 0]) _, rfl⟩
    · have e : (piece x2 (y 0) ⟨(y 1).val % 16 / 8, by omega⟩ ⟨(y 1).val % 8, by omega⟩).1
          = phase (y 0) ⟨(y 1).val % 16 / 8, by omega⟩ ⟨(y 1).val % 8, by omega⟩ := rfl
      rw [e, LoadRect.mem_set]
      intro b
      match b with
      | ⟨0, _⟩ => exact ⟨0, Nat.one_pos, show (y 0).val = (y 0).val + 1 * 0 by omega⟩
      | ⟨1, _⟩ => exact ⟨(y 1).val / 16, show (y 1).val / 16 < 32 by have : (y 1).val < 512 := (y 1).isLt; omega,
          show (y 1).val = 8 * ((y 1).val % 16 / 8) + (y 1).val % 8 + 16 * ((y 1).val / 16) by omega⟩
      | ⟨2, _⟩ => exact ⟨(y 2).val, (y 2).isLt, show (y 2).val = 0 + 1 * (y 2).val by omega⟩

end Cert.Out
end
-- ==== Proof.OutMid.lean ====
module
public import proofs.«01_k».proof.Proof.OutTokens
/-! What a point of the call keeps for the next one: the rows behind the mixers and their modulated form. -/
@[expose] public section
set_option maxRecDepth 65536
noncomputable section
namespace Cert.Out
open Cert.OutFfnIdeal Cert.OutFfnIdeal.Gen Idealize.ShloMosaic
variable (x0 : Vec Ideal S512x1024 .f32) (x1 : Vec Ideal S512x512 .bf16) (x2 : Vec Ideal S32x32x256 .f32) (x3 : Vec Ideal S1x9x1024 .f32) (x5 : Vec Ideal S3x1024 .f32) (x6 : Vec Ideal S3x1024 .f32) (x7 : Vec Ideal S512x512 .bf16) (x8 : Vec Ideal S1x512 .f32) (x9 : Vec Ideal S1024x1024 .bf16) (x10 : Vec Ideal S1024x5632 .bf16) (x11 : Vec Ideal S2816x1024 .bf16)

/-- One slab of the S5 output in token order. -/
def slab (v : Fin 4) : Vec Ideal S1x512x128 .f32 := fun j => tokens x2 (ix3 v (j 1) (j 2))

/-- The token in a row of the blocks. -/
def btok (r : Fin 512) : Token where
  x1 j := x0 (ix2 r j)
  yna k := x1 (ix2 r k)
  ys5 k := tokens x2 (ix3 ⟨k / 128, by omega⟩ r ⟨k % 128, by omega⟩)

theorem slab_ld (v : Fin 4) (inb : ∀ a, (![v.val, 0, 0] : Fin 3 → ℕ) a + S1x512x128.size a ≤ S4x512x128.size a) :
    View.ld (tokens x2) (Rect.unit (s := S4x512x128) ![v, 0, 0] S1x512x128.size inb) = slab x2 v := by
  funext j
  refine congrArg (tokens x2) ?_
  have h0 : (j 0).val < 1 := (j 0).isLt
  funext a
  match a with
  | ⟨0, _⟩ => exact Fin.ext (show v.val + 1 * (j 0).val = v by omega)
  | ⟨1, _⟩ => exact Fin.ext (show 0 + 1 * (j 1).val = (j 1).val by omega)
  | ⟨2, _⟩ => exact Fin.ext (show 0 + 1 * (j 2).val = (j 2).val by omega)

theorem slab_0 : View.ld (tokens x2) (Rect.unit (s := S4x512x128) ![0, 0, 0] ![1, 512, 128] inb_S4x512x128_S1x512x128_0_0_0) = slab x2 0 := slab_ld x2 0 _
theorem slab_1 : View.ld (tokens x2) (Rect.unit (s := S4x512x128) ![1, 0, 0] ![1, 512, 128] inb_S4x512x128_S1x512x128_1_0_0) = slab x2 1 := slab_ld x2 1 _
theorem slab_2 : View.ld (tokens x2) (Rect.unit (s := S4x512x128) ![2, 0, 0] ![1, 512, 128] inb_S4x512x128_S1x512x128_2_0_0) = slab x2 2 := slab_ld x2 2 _
theorem slab_3 : View.ld (tokens x2) (Rect.unit (s := S4x512x128) ![3, 0, 0] ![1, 512, 128] inb_S4x512x128_S1x512x128_3_0_0) = slab x2 3 := slab_ld x2 3 _

theorem row_at (r k : Fin 512) : k0_pay376 (slab x2 0) (slab x2 1) (slab x2 2) (slab x2 3) (ix2 r k) = (btok x0 x1 x2 r).ys5 k := by
  unfold_payloads
  pointwise
  have e : ∀ (v : Fin 4) (l : Fin 128), 128 * v.val + l = k → slab x2 v (ix3 0 r l) = (btok x0 x1 x2 r).ys5 k := by
    rintro v l h
    have hv : v = ⟨k / 128, by clear h; omega⟩ := Fin.ext (show v.val = k.val / 128 by omega)
    have hl : l = ⟨k % 128, by clear h; omega⟩ := Fin.ext (show l.val = k.val % 128 by omega)
    rw [hv, hl]
    rfl
  split_ifs <;> refine e _ _ ?_ <;> simp <;> omega

theorem gelu_eq (x : EReal) : x * (num 0x3F000000#32 * (1 + Ideal.tanh (num 0x3F4C422A#32 * (x + num 0x3D372713#32 * (x * (x * x)))))) = gelu x := by
  unfold gelu
  rw [mul_comm x (x * x)]

/-- The S5 output's row as one vector. -/
def srow : FVec Ideal S512x512 .f32 := fun y => (btok x0 x1 x2 (y 0)).ys5 (y 1)

theorem row_eq : k0_pay376 (slab x2 0) (slab x2 1) (slab x2 2) (slab x2 3) = srow x0 x1 x2 := by
  funext y
  obtain ⟨r, k, rfl⟩ : ∃ (r : Fin 512) (k : Fin 512), y = ix2 r k := ⟨y 0, y 1, by funext a; fin_cases a <;> rfl⟩
  exact row_at x0 x1 x2 r k

theorem glu_at (r k : Fin 512) : k0_pay378 (k0_pay376 (slab x2 0) (slab x2 1) (slab x2 2) (slab x2 3)) (k0_pay377 (slab x2 0) (slab x2 1) (slab x2 2) (slab x2 3)) x7 x8 (ix2 r k)
    = (bw x5 x6 x7 x8 x9 x10 x11).glu (btok x0 x1 x2 r).ys5 k := by
  unfold k0_pay377
  rw [row_eq x0 x1 x2]
  unfold_payloads
  pointwise
  simp only [gelu_eq]
  rfl

/-- The vector of rows behind the mixers' norm, as a point computes it. -/
abbrev midVec : FVec Ideal S512x1024 .f32 :=
  k0_pay385 (k0_pay4 x3)
    (k0_pay383
      (k0_pay378 (k0_pay376 (slab x2 0) (slab x2 1) (slab x2 2) (slab x2 3)) (k0_pay377 (slab x2 0) (slab x2 1) (slab x2 2) (slab x2 3)) x7 x8)
      x1 (View.ld x9 (Rect.unit ![0, 0] ![512, 1024] inb_S1024x1024_S512x1024_0_0))
      (View.ld x9 (Rect.unit ![512, 0] ![512, 1024] inb_S1024x1024_S512x1024_512_0)))
    (k0_pay384 x0) (View.ld x5 (Rect.unit ![1, 0] ![1, 1024] inb_S3x1024_S1x1024_1_0))
    (View.ld x6 (Rect.unit ![1, 0] ![1, 1024] inb_S3x1024_S1x1024_1_0))

/-- The residual stream behind the mixers, as a block. -/
def midBlock (y : S512x1024.Idx) : Elt Ideal .f32 := (bw x5 x6 x7 x8 x9 x10 x11).mid (btok x0 x1 x2 (y 0)) (bmod x3) (y 1)

/-- The modulated rows, as a block. -/
def modBlock (y : S512x1024.Idx) : Elt Ideal .bf16 :=
  Weights.modulated (fun j => midBlock x0 x1 x2 x3 x5 x6 x7 x8 x9 x10 x11 (ix2 (y 0) j)) (bmod x3) (y 1)

theorem midVec_eq : midVec x0 x1 x2 x3 x5 x6 x7 x8 x9 = midBlock x0 x1 x2 x3 x5 x6 x7 x8 x9 x10 x11 := by
  funext y
  obtain ⟨r, l, rfl⟩ : ∃ (r : Fin 512) (l : Fin 1024), y = ix2 r l := ⟨y 0, y 1, by funext a; fin_cases a <;> rfl⟩
  unfold midVec
  generalize hG : k0_pay378 _ _ x7 x8 = G
  have hg : ∀ r k, G (ix2 r k) = (bw x5 x6 x7 x8 x9 x10 x11).glu (btok x0 x1 x2 r).ys5 k := by
    rintro r k
    rw [← hG]
    exact glu_at x0 x1 x2 x5 x6 x7 x8 x9 x10 x11 r k
  clear hG
  unfold_payloads
  pointwise
  simp only [hg]
  rfl

theorem modVec_eq : k0_pay386 (k0_pay4 x3)
    (k0_pay383
      (k0_pay378 (k0_pay376 (slab x2 0) (slab x2 1) (slab x2 2) (slab x2 3)) (k0_pay377 (slab x2 0) (slab x2 1) (slab x2 2) (slab x2 3)) x7 x8)
      x1 (View.ld x9 (Rect.unit ![0, 0] ![512, 1024] inb_S1024x1024_S512x1024_0_0))
      (View.ld x9 (Rect.unit ![512, 0] ![512, 1024] inb_S1024x1024_S512x1024_512_0)))
    (k0_pay384 x0) (View.ld x5 (Rect.unit ![1, 0] ![1, 1024] inb_S3x1024_S1x1024_1_0))
    (View.ld x6 (Rect.unit ![1, 0] ![1, 1024] inb_S3x1024_S1x1024_1_0)) = modBlock x0 x1 x2 x3 x5 x6 x7 x8 x9 x10 x11 := by
  funext y
  obtain ⟨r, l, rfl⟩ : ∃ (r : Fin 512) (l : Fin 1024), y = ix2 r l := ⟨y 0, y 1, by funext a; fin_cases a <;> rfl⟩
  unfold k0_pay386
  generalize hG : k0_pay385 (F := Ideal) _ _ _ _ _ = G
  have hg := hG.symm.trans (midVec_eq x0 x1 x2 x3 x5 x6 x7 x8 x9 x10 x11)
  subst hg
  clear hG
  unfold_payloads
  pointwise
  rfl

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S32x32x256 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S3x1024 .f32) (harg6 : arg6.IsWhole) (arg7 : Memref sig .tc .vmem S3x1024 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S4x512x128 .f32) (harg15 : arg15.IsWhole) (arg16 : Memref sig .tc .vmem S512x1024 .bf16) (harg16 : arg16.IsWhole) (arg17 : Memref sig .tc .vmem S512x1024 .f32) (harg17 : arg17.IsWhole) (x4 : Vec Ideal S1x9x1024 .f32) (xs2 : Vec Ideal S512x1024 .bf16) (xs3 : Vec Ideal S512x1024 .f32)

theorem stored_3 (v : FVec Ideal S512x1024 .f32) : k0_pay397 v = v := by
  funext y
  obtain ⟨r, l, rfl⟩ : ∃ (r : Fin 512) (l : Fin 1024), y = ix2 r l := ⟨y 0, y 1, by funext a; fin_cases a <;> rfl⟩
  unfold_payloads
  pointwise

theorem stored_2 (v : FVec Ideal S512x1024 .bf16) : k0_pay1 v = v := by
  funext y
  obtain ⟨r, l, rfl⟩ : ∃ (r : Fin 512) (l : Fin 1024), y = ix2 r l := ⟨y 0, y 1, by funext a; fin_cases a <;> rfl⟩
  unfold_payloads
  pointwise

theorem scratch_B3 (hc0 : ¬cond0_0 i) : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs2 xs3 = midBlock x0 x1 x2 x3 x5 x6 x7 x8 x9 x10 x11 := by
  funext y
  frame_out
  simp only [readCov_ld]
  rw [canon_tokens x2 _ (by sl_kernel_rfl)]
  refine Eq.trans ?_ (congrFun (midVec_eq x0 x1 x2 x3 x5 x6 x7 x8 x9 x10 x11) y)
  refine Eq.trans (congrFun (stored_3 _) y) ?_
  rw [slab_0, slab_1, slab_2, slab_3]

theorem scratch_B2 (hc0 : ¬cond0_0 i) : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs2 xs3 = modBlock x0 x1 x2 x3 x5 x6 x7 x8 x9 x10 x11 := by
  funext y
  frame_out
  simp only [readCov_ld]
  rw [canon_tokens x2 _ (by sl_kernel_rfl)]
  refine Eq.trans ?_ (congrFun (modVec_eq x0 x1 x2 x3 x5 x6 x7 x8 x9 x10 x11) y)
  refine Eq.trans (congrFun (stored_2 _) y) ?_
  rw [slab_0, slab_1, slab_2, slab_3]

theorem scratch_A3 (hc0 : cond0_0 i) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = midBlock x0 x1 x2 x3 x5 x6 x7 x8 x9 x10 x11 := by
  funext y
  frame_out
  simp only [readCov_ld]
  rw [canon_tokens x2 _ (by sl_kernel_rfl)]
  refine Eq.trans ?_ (congrFun (midVec_eq x0 x1 x2 x3 x5 x6 x7 x8 x9 x10 x11) y)
  refine Eq.trans (congrFun (stored_3 _) y) ?_
  rw [slab_0, slab_1, slab_2, slab_3]

theorem scratch_A2 (hc0 : cond0_0 i) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = modBlock x0 x1 x2 x3 x5 x6 x7 x8 x9 x10 x11 := by
  funext y
  frame_out
  simp only [readCov_ld]
  rw [canon_tokens x2 _ (by sl_kernel_rfl)]
  refine Eq.trans ?_ (congrFun (modVec_eq x0 x1 x2 x3 x5 x6 x7 x8 x9 x10 x11) y)
  refine Eq.trans (congrFun (stored_2 _) y) ?_
  rw [slab_0, slab_1, slab_2, slab_3]
end Cert.Out
end
-- ==== Proof.OutRef.lean ====
/-
  THE REFERENCE, at every entry: row n of its result is the layer's row of token n.
-/
module

public import proofs.«01_k».proof.Proof.OutRow
public import proofs.«01_k».proof.Proof.Gen.OutReferenceIdeal.Run
public import Idealize.ShloMosaic.Lib.Pipeline.ValueKit

@[expose] public section

noncomputable section

namespace Cert.Out.Ref

open Cert.OutReferenceIdeal Cert.OutReferenceIdeal.Gen Cert.OutReferenceIdeal.Value Idealize.ShloMosaic Idealize.ShloMosaic.TcCoe

variable (V : Valuation τ sig (Elt Ideal))

abbrev a0 : FVec Ideal S32768x1024 .f32 := V (Proc.devRef .tc main_arg0)
abbrev a1 : FVec Ideal S32768x512 .bf16 := V (Proc.devRef .tc main_arg1)
abbrev a2 : FVec Ideal S32x2048x256 .f32 := V (Proc.devRef .tc main_arg2)
abbrev a3 : FVec Ideal S16x9x1024 .f32 := V (Proc.devRef .tc main_arg3)
abbrev a4 : FVec Ideal S1x3x1024 .f32 := V (Proc.devRef .tc main_arg4)
abbrev a5 : FVec Ideal S1x3x1024 .f32 := V (Proc.devRef .tc main_arg5)
abbrev a6 : FVec Ideal S1x512x512 .f32 := V (Proc.devRef .tc main_arg6)
abbrev a7 : FVec Ideal S1x512 .f32 := V (Proc.devRef .tc main_arg7)
abbrev a8 : FVec Ideal S1x1024x1024 .f32 := V (Proc.devRef .tc main_arg8)
abbrev a9 : FVec Ideal S1x1024x5632 .f32 := V (Proc.devRef .tc main_arg9)
abbrev a10 : FVec Ideal S1x2816x1024 .f32 := V (Proc.devRef .tc main_arg10)

/-- The weights that the arguments hold. -/
def weights : Weights where
  wglu i k := a6 V (ix3 0 i k)
  bglu k := a7 V (ix2 0 k)
  wout k j := a8 V (ix3 0 k j)
  wup j k := a9 V (ix3 0 j k)
  wdn k j := a10 V (ix3 0 k j)
  gain i j := a4 V (ix3 0 i j)
  offset i j := a5 V (ix3 0 i j)

/-- Token n's rows. -/
def token (n : Fin 32768) : Token where
  x1 j := a0 V (ix2 n j)
  yna k := a1 V (ix2 n k)
  ys5 k := a2 V (ix3 ⟨(k : ℕ) / 16, by omega⟩ ⟨(n : ℕ) / 16, by omega⟩ ⟨(n : ℕ) % 16 * 16 + (k : ℕ) % 16, by omega⟩)

/-- The modulation of batch entry b. -/
def mods (b : Fin 8) (i : Fin 9) (j : Fin 1024) : EReal := a3 V (ix3 ⟨b, by omega⟩ i j)

/-- The token at place s of batch entry b. -/
def at' (b : Fin 8) (s : Fin 4096) : Fin 32768 := ⟨(b : ℕ) * 4096 + s, by omega⟩

theorem s5_at (b : Fin 8) (s : Fin 4096) (k : Fin 512) : res_main_v16 V (ix3 b s k) = (token V (at' b s)).ys5 k := by
  pointwise [res_main_v16]
  show a2 V _ = a2 V _
  refine congrArg (a2 V) ?_
  congr 1
  · exact Fin.ext (by show (b : ℕ) * 256 + (s : ℕ) / 16 = ((b : ℕ) * 4096 + s) / 16; omega)
  · exact Fin.ext (by show (s : ℕ) % 16 * 16 + (k : ℕ) % 16 = ((b : ℕ) * 4096 + s) % 16 * 16 + (k : ℕ) % 16; omega)

theorem gelu_at (b : Fin 8) (s : Fin 4096) (k : Fin 512) :
    res_main_v29 V (ix3 b s k) = gelu ((token V (at' b s)).ys5 k) := by
  pointwise [res_main_v29, s5_at]
  rfl

theorem pre_at (b : Fin 8) (s : Fin 4096) (j : Fin 1024) : res_main_v50 V (ix3 b s j)
    = num 0x3F9837F0#32 * (token V (at' b s)).x1 j + mods V b 5 j * (weights V).mixed (token V (at' b s)) j := by
  pointwise [res_main_v50, res_main_v2, gelu_at]
  have e : (⟨(5120 + (j : ℕ)) / 1024, by omega⟩ : Fin 9) = 5 := Fin.ext (by show (5120 + (j : ℕ)) / 1024 = 5; omega)
  rw [e]
  rfl

theorem mean_at (b : Fin 8) (s : Fin 4096) : res_main_v58 V (ix3 b s 0) = mean fun j => res_main_v50 V (ix3 b s j) := by
  pointwise [res_main_v58]
  rfl

theorem dev_at (b : Fin 8) (s : Fin 4096) (j : Fin 1024) :
    res_main_v60 V (ix3 b s j) = (show EReal from res_main_v50 V (ix3 b s j)) - mean fun k => res_main_v50 V (ix3 b s k) := by
  pointwise [res_main_v60, mean_at]

theorem mid_at (b : Fin 8) (s : Fin 4096) (j : Fin 1024) :
    res_main_v78 V (ix3 b s j) = (weights V).mid (token V (at' b s)) (mods V b) j := by
  have e : (fun j => res_main_v50 V (ix3 b s j)) = _ := funext (pre_at V b s)
  refine Eq.trans ?_ (congrArg (fun r => layerNorm r ((weights V).gain 1) ((weights V).offset 1) j) e)
  pointwise [res_main_v78, mean_at]
  simp only [dev_at]
  rfl

theorem up_at (b : Fin 8) (s : Fin 4096) (k : Fin 5632) : res_main_v86 V (ix3 b s k)
    = (weights V).up (Weights.modulated ((weights V).mid (token V (at' b s)) (mods V b)) (mods V b)) k := by
  pointwise [res_main_v86, res_main_v2, mid_at]
  refine Fin.sum_fin_congr fun j => ?_
  have e7 : (⟨(7168 + (j : ℕ)) / 1024, by omega⟩ : Fin 9) = 7 := Fin.ext (by show (7168 + (j : ℕ)) / 1024 = 7; omega)
  have e6 : (⟨(6144 + (j : ℕ)) / 1024, by omega⟩ : Fin 9) = 6 := Fin.ext (by show (6144 + (j : ℕ)) / 1024 = 6; omega)
  rw [e7, e6]
  rfl

theorem gate_at (b : Fin 8) (s : Fin 4096) (k : Fin 2816) : res_main_v88 V (ix3 b s k)
    = (weights V).up (Weights.modulated ((weights V).mid (token V (at' b s)) (mods V b)) (mods V b)) ⟨2816 + k, by omega⟩ := by
  pointwise [res_main_v88, up_at]

theorem pre2_at (b : Fin 8) (s : Fin 4096) (j : Fin 1024) : res_main_v99 V (ix3 b s j)
    = num 0x3F9837F0#32 * (weights V).mid (token V (at' b s)) (mods V b) j
      + num 0x3F000000#32 * mods V b 8 j
        * (weights V).down (Weights.modulated ((weights V).mid (token V (at' b s)) (mods V b)) (mods V b)) j := by
  pointwise [res_main_v99, res_main_v2, mid_at, gate_at, up_at]
  have e : (⟨(8192 + (j : ℕ)) / 1024, by omega⟩ : Fin 9) = 8 := Fin.ext (by show (8192 + (j : ℕ)) / 1024 = 8; omega)
  rw [e]
  rfl

theorem mean2_at (b : Fin 8) (s : Fin 4096) : res_main_v107 V (ix3 b s 0) = mean fun j => res_main_v99 V (ix3 b s j) := by
  pointwise [res_main_v107]
  rfl

theorem dev2_at (b : Fin 8) (s : Fin 4096) (j : Fin 1024) :
    res_main_v109 V (ix3 b s j) = (show EReal from res_main_v99 V (ix3 b s j)) - mean fun k => res_main_v99 V (ix3 b s k) := by
  pointwise [res_main_v109, mean2_at]

/-- The reference's result. -/
def result : FVec Ideal S32768x1024 .f32 := fun i =>
  (weights V).row (token V (i 0)) (mods V ⟨(i 0 : ℕ) / 4096, by have := (i 0).isLt; simp at this; omega⟩) (i 1)

theorem result_at (b : Fin 8) (s : Fin 4096) (j : Fin 1024) :
    addf (mulf (mulf (subf (res_main_v99 V) (broadcastInDim S8x4096x1024 ![0, 1, 2] bcast_S8x4096x1_S8x4096x1024_0_1_2 (res_main_v107 V))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v109 V) (res_main_v109 V)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1x1024 ![0, 2, 0] (a4 V) slices_S1x3x1024_S1x1x1024_0_2_0) shapeCasts_S1x1x1024_S1024)))) (broadcastInDim S8x4096x1024 ![0, 1, 2] bcast_S1x1x1024_S8x4096x1024_0_1_2 (broadcastInDim S1x1x1024 ![2] bcast_S1024_S1x1x1024_2 (shapeCast _ (extractStridedSlice S1x1x1024 ![0, 2, 0] (a5 V) slices_S1x3x1024_S1x1x1024_0_2_0) shapeCasts_S1x1x1024_S1024))) (ix3 b s j)
      = (weights V).row (token V (at' b s)) (mods V b) j := by
  have e : (fun j => res_main_v99 V (ix3 b s j)) = _ := funext (pre2_at V b s)
  refine Eq.trans ?_ (congrArg (fun r => layerNorm r ((weights V).gain 2) ((weights V).offset 2) j) e)
  pointwise [mean2_at]
  simp only [dev2_at]
  rfl

theorem split_at (X : FVec Ideal S8x4096x1024 .f32) (n : Fin 32768) (j : Fin 1024) :
    shapeCast S32768x1024 X shapeCasts_S8x4096x1024_S32768x1024 (ix2 n j)
      = X (ix3 ⟨(n : ℕ) / 4096, by omega⟩ ⟨(n : ℕ) % 4096, by omega⟩ j) := by
  pointwise
  blk_ext

/-- What the reference's run leaves in its result. -/
theorem result_eq : shapeCast _ (addf (mulf (mulf (subf (res_main_v99 V) (broadcastInDim S8x4096x1024 ![0, 1, 2] bcast_S8x4096x1_S8x4096x1024_0_1_2 (res_main_v107 V))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v109 V) (res_main_v109 V)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1x1024 ![0, 2, 0] (a4 V) slices_S1x3x1024_S1x1x1024_0_2_0) shapeCasts_S1x1x1024_S1024)))) (broadcastInDim S8x4096x1024 ![0, 1, 2] bcast_S1x1x1024_S8x4096x1024_0_1_2 (broadcastInDim S1x1x1024 ![2] bcast_S1024_S1x1x1024_2 (shapeCast _ (extractStridedSlice S1x1x1024 ![0, 2, 0] (a5 V) slices_S1x3x1024_S1x1x1024_0_2_0) shapeCasts_S1x1x1024_S1024)))) shapeCasts_S8x4096x1024_S32768x1024
    = result V := by
  funext i
  obtain ⟨n, j, rfl⟩ : ∃ n j, i = ix2 n j := ⟨i 0, i 1, by funext a; fin_cases a <;> rfl⟩
  have hn := n.isLt
  have en : at' ⟨(n : ℕ) / 4096, by omega⟩ ⟨(n : ℕ) % 4096, by omega⟩ = n :=
    Fin.ext (by show (n : ℕ) / 4096 * 4096 + (n : ℕ) % 4096 = n; omega)
  refine (split_at _ n j).trans ((result_at V _ _ j).trans ?_)
  rw [en]; rfl

end Cert.Out.Ref

end
-- ==== Proof.OutValue.lean ====
/-
  THE CALL'S RESULT: a point writes the rows of the block before its own, from what the point before it kept; together
  the points write the layer's row of every token.
-/
module

public import proofs.«01_k».proof.Proof.OutMid
public import proofs.«01_k».proof.Proof.OutRef
public import Idealize.ShloMosaic.Lib.StableHlo.ReadAt

@[expose] public section

set_option maxRecDepth 65536

noncomputable section

namespace Cert.Out

open Cert.OutFfnIdeal Cert.OutFfnIdeal.Gen Idealize.ShloMosaic Idealize.ShloMosaic.TcCoe

/-! ## The layer's rows, from the arguments -/

section Arrays

variable (a0 : FVec Ideal S32768x1024 .f32) (a1 : FVec Ideal S32768x512 .bf16) (a2 : FVec Ideal S32x2048x256 .f32)
  (a3 : FVec Ideal S16x9x1024 .f32) (a4 a5 : FVec Ideal S1x3x1024 .f32) (a6 : FVec Ideal S1x512x512 .f32)
  (a7 : FVec Ideal S1x512 .f32) (a8 : FVec Ideal S1x1024x1024 .f32) (a9 : FVec Ideal S1x1024x5632 .f32)
  (a10 : FVec Ideal S1x2816x1024 .f32)

/-- The weights that the arguments hold. -/
def weightsOf : Weights where
  wglu i k := a6 (ix3 0 i k)
  bglu k := a7 (ix2 0 k)
  wout k j := a8 (ix3 0 k j)
  wup j k := a9 (ix3 0 j k)
  wdn k j := a10 (ix3 0 k j)
  gain i j := a4 (ix3 0 i j)
  offset i j := a5 (ix3 0 i j)

/-- Token n's rows. -/
def tokenOf (n : Fin 32768) : Token where
  x1 j := a0 (ix2 n j)
  yna k := a1 (ix2 n k)
  ys5 k := a2 (ix3 ⟨(k : ℕ) / 16, by omega⟩ ⟨(n : ℕ) / 16, by omega⟩ ⟨(n : ℕ) % 16 * 16 + (k : ℕ) % 16, by omega⟩)

/-- The modulation of batch entry b. -/
def modsOf (b : Fin 8) (i : Fin 9) (j : Fin 1024) : EReal := a3 (ix3 ⟨b, by omega⟩ i j)

/-- The layer's row of token n. -/
def rowOf (n : Fin 32768) : Fin 1024 → EReal :=
  (weightsOf a4 a5 a6 a7 a8 a9 a10).row (tokenOf a0 a1 a2 n) (modsOf a3 ⟨n / 4096, by omega⟩)

/-- The layer's rows as an array. -/
def rows : FVec Ideal S32768x1024 .f32 := fun y => rowOf a0 a1 a2 a3 a4 a5 a6 a7 a8 a9 a10 (y 0) (y 1)

end Arrays

/-! ## The blocks of a point -/

variable (m : (ℓ : Loc nD τ sig) → Buf (Elt Ideal) ℓ) (c : Dev nD)

/-- The weights of one device. -/
def wts : Weights := weightsOf (m (c, Proc.tc.devRef main_arg4)) (m (c, Proc.tc.devRef main_arg5)) (m (c, Proc.tc.devRef main_arg6))
  (m (c, Proc.tc.devRef main_arg7)) (m (c, Proc.tc.devRef main_arg8)) (m (c, Proc.tc.devRef main_arg9)) (m (c, Proc.tc.devRef main_arg10))

/-- A token of one device. -/
def tok (n : Fin 32768) : Token :=
  tokenOf (m (c, Proc.tc.devRef main_arg0)) (m (c, Proc.tc.devRef main_arg1)) (m (c, Proc.tc.devRef main_arg2)) n

/-- The modulation of one device. -/
def mods (b : Fin 8) : Fin 9 → Fin 1024 → EReal := modsOf (m (c, Proc.tc.devRef main_arg3)) b

theorem gain_read (i : Fin 3) (j : Fin 1024) : V m c main_v0 (ix2 i j) = m (c, Proc.tc.devRef main_arg4) (ix3 0 i j) := by
  unfold V
  after_reads_at

theorem offset_read (i : Fin 3) (j : Fin 1024) : V m c main_v1 (ix2 i j) = m (c, Proc.tc.devRef main_arg5) (ix3 0 i j) := by
  unfold V
  after_reads_at

theorem wglu_read (i k : Fin 512) : V m c main_v3 (ix2 i k) = m (c, Proc.tc.devRef main_arg6) (ix3 0 i k) := by
  unfold V
  after_reads_at

theorem bglu_read (k : Fin 512) : V m c main_v5 (ix2 0 k) = m (c, Proc.tc.devRef main_arg7) (ix2 0 k) := by
  unfold V
  after_reads_at

theorem wout_read (i k : Fin 1024) : V m c main_v7 (ix2 i k) = m (c, Proc.tc.devRef main_arg8) (ix3 0 i k) := by
  unfold V
  after_reads_at

theorem wup_read (i : Fin 1024) (k : Fin 5632) : V m c main_v9 (ix2 i k) = m (c, Proc.tc.devRef main_arg9) (ix3 0 i k) := by
  unfold V
  after_reads_at

theorem wdn_read (i : Fin 2816) (k : Fin 1024) : V m c main_v11 (ix2 i k) = m (c, Proc.tc.devRef main_arg10) (ix3 0 i k) := by
  unfold V
  after_reads_at

theorem block5 (t : Fin cfg0.N) : (iblk m c 5 t : Vec Ideal S3x1024 .f32) = V m c main_v0 := by
  have idx : ∀ t : Fin cfg0.N, win0_5.index t = ![0, 0] := (by decide +kernel : ∀ t : Fin grid0.N, _)
  funext y
  obtain ⟨r, l, rfl⟩ : ∃ (r : Fin 3) (l : Fin 1024), y = ix2 r l := ⟨y 0, y 1, by funext a; fin_cases a <;> rfl⟩
  blk_ext [iblk, idx t]

theorem block6 (t : Fin cfg0.N) : (iblk m c 6 t : Vec Ideal S3x1024 .f32) = V m c main_v1 := by
  have idx : ∀ t : Fin cfg0.N, win0_6.index t = ![0, 0] := (by decide +kernel : ∀ t : Fin grid0.N, _)
  funext y
  obtain ⟨r, l, rfl⟩ : ∃ (r : Fin 3) (l : Fin 1024), y = ix2 r l := ⟨y 0, y 1, by funext a; fin_cases a <;> rfl⟩
  blk_ext [iblk, idx t]

theorem block7 (t : Fin cfg0.N) : (iblk m c 7 t : Vec Ideal S512x512 .bf16) = V m c main_v3 := by
  have idx : ∀ t : Fin cfg0.N, win0_7.index t = ![0, 0] := (by decide +kernel : ∀ t : Fin grid0.N, _)
  funext y
  obtain ⟨r, l, rfl⟩ : ∃ (r : Fin 512) (l : Fin 512), y = ix2 r l := ⟨y 0, y 1, by funext a; fin_cases a <;> rfl⟩
  blk_ext [iblk, idx t]

theorem block8 (t : Fin cfg0.N) : (iblk m c 8 t : Vec Ideal S1x512 .f32) = V m c main_v5 := by
  have idx : ∀ t : Fin cfg0.N, win0_8.index t = ![0, 0] := (by decide +kernel : ∀ t : Fin grid0.N, _)
  funext y
  obtain ⟨r, l, rfl⟩ : ∃ (r : Fin 1) (l : Fin 512), y = ix2 r l := ⟨y 0, y 1, by funext a; fin_cases a <;> rfl⟩
  blk_ext [iblk, idx t]

theorem block9 (t : Fin cfg0.N) : (iblk m c 9 t : Vec Ideal S1024x1024 .bf16) = V m c main_v7 := by
  have idx : ∀ t : Fin cfg0.N, win0_9.index t = ![0, 0] := (by decide +kernel : ∀ t : Fin grid0.N, _)
  funext y
  obtain ⟨r, l, rfl⟩ : ∃ (r : Fin 1024) (l : Fin 1024), y = ix2 r l := ⟨y 0, y 1, by funext a; fin_cases a <;> rfl⟩
  blk_ext [iblk, idx t]

theorem block10 (t : Fin cfg0.N) : (iblk m c 10 t : Vec Ideal S1024x5632 .bf16) = V m c main_v9 := by
  have idx : ∀ t : Fin cfg0.N, win0_10.index t = ![0, 0] := (by decide +kernel : ∀ t : Fin grid0.N, _)
  funext y
  obtain ⟨r, l, rfl⟩ : ∃ (r : Fin 1024) (l : Fin 5632), y = ix2 r l := ⟨y 0, y 1, by funext a; fin_cases a <;> rfl⟩
  blk_ext [iblk, idx t]

theorem block11 (t : Fin cfg0.N) : (iblk m c 11 t : Vec Ideal S2816x1024 .bf16) = V m c main_v11 := by
  have idx : ∀ t : Fin cfg0.N, win0_11.index t = ![0, 0] := (by decide +kernel : ∀ t : Fin grid0.N, _)
  funext y
  obtain ⟨r, l, rfl⟩ : ∃ (r : Fin 2816) (l : Fin 1024), y = ix2 r l := ⟨y 0, y 1, by funext a; fin_cases a <;> rfl⟩
  blk_ext [iblk, idx t]

theorem block0 (t : Fin cfg0.N) (r : Fin 512) (l : Fin 1024) (n : Fin 32768) (hn : (n : ℕ) = 512 * min t.val 63 + r) :
    iblk m c 0 t (ix2 r l) = V m c main_arg0 (ix2 n l) := by
  have idx : ∀ t : Fin cfg0.N, win0_0.index t = ![min t.val 63, 0] := (by decide +kernel : ∀ t : Fin grid0.N, _)
  blk_ext [iblk, idx t]

theorem block1 (t : Fin cfg0.N) (r : Fin 512) (l : Fin 512) (n : Fin 32768) (hn : (n : ℕ) = 512 * min t.val 63 + r) :
    iblk m c 1 t (ix2 r l) = V m c main_arg1 (ix2 n l) := by
  have idx : ∀ t : Fin cfg0.N, win0_1.index t = ![min t.val 63, 0] := (by decide +kernel : ∀ t : Fin grid0.N, _)
  blk_ext [iblk, idx t]

theorem block2 (t : Fin cfg0.N) (r : Fin 32) (s : Fin 32) (l : Fin 256) (n : Fin 2048) (hn : (n : ℕ) = 32 * min t.val 63 + s) :
    iblk m c 2 t (ix3 r s l) = V m c main_arg2 (ix3 r n l) := by
  have idx : ∀ t : Fin cfg0.N, win0_2.index t = ![0, min t.val 63, 0] := (by decide +kernel : ∀ t : Fin grid0.N, _)
  blk_ext [iblk, idx t]

theorem block3 (t : Fin cfg0.N) (i : Fin 9) (l : Fin 1024) (n : Fin 16) (hn : (n : ℕ) = min t.val 63 / 8) :
    iblk m c 3 t (ix3 0 i l) = V m c main_arg3 (ix3 n i l) := by
  have idx : ∀ t : Fin cfg0.N, win0_3.index t = ![min t.val 63 / 8, 0, 0] := (by decide +kernel : ∀ t : Fin grid0.N, _)
  blk_ext [iblk, idx t]

theorem block4 (t : Fin cfg0.N) (i : Fin 9) (l : Fin 1024) (n : Fin 16) (hn : (n : ℕ) = (t.val - 1) / 8) :
    iblk m c 4 t (ix3 0 i l) = V m c main_arg3 (ix3 n i l) := by
  have idx : ∀ t : Fin cfg0.N, win0_4.index t = ![(t.val - 1) / 8, 0, 0] := (by decide +kernel : ∀ t : Fin grid0.N, _)
  blk_ext [iblk, idx t]

theorem bw_block (t : Fin cfg0.N) : bw (iblk m c 5 t) (iblk m c 6 t) (iblk m c 7 t) (iblk m c 8 t) (iblk m c 9 t) (iblk m c 10 t) (iblk m c 11 t) = wts m c := by
  rw [block5, block6, block7, block8, block9, block10, block11]
  unfold bw wts weightsOf
  congr 1 <;> funext i
  · funext k; exact wglu_read m c i k
  · exact bglu_read m c i
  · funext k; exact wout_read m c i k
  · funext k; exact wup_read m c i k
  · funext k; exact wdn_read m c i k
  · funext k; exact gain_read m c i k
  · funext k; exact offset_read m c i k

theorem btok_block (t : Fin cfg0.N) (r : Fin 512) (n : Fin 32768) (hn : (n : ℕ) = 512 * min t.val 63 + r) :
    btok (iblk m c 0 t) (iblk m c 1 t) (iblk m c 2 t) r = tok m c n := by
  unfold btok tok tokenOf
  congr 1 <;> funext k
  · exact (block0 m c t r k n hn).trans (congrFun (V_main_arg0 m c) _)
  · exact (block1 m c t r k n hn).trans (congrFun (V_main_arg1 m c) _)
  · refine (tokens_at (iblk m c 2 t) ⟨k / 16, by omega⟩ ⟨r / 16, by omega⟩ ⟨16 * (r % 16) + k % 16, by omega⟩ _ ?_ ?_ ?_).symm.trans ?_
    · show 8 * (k.val / 128) + k.val % 128 / 16 = k / 16; omega
    · rfl
    · show 16 * (r.val % 16) + k.val % 128 % 16 = 16 * (r % 16) + k % 16; omega
    refine (block2 m c t _ _ _ ⟨n / 16, by omega⟩ (show n.val / 16 = 32 * min t.val 63 + r.val / 16 by omega)).trans ?_
    refine (congrFun (V_main_arg2 m c) _).trans ?_
    refine congrArg (m (c, Proc.tc.devRef main_arg2)) ?_
    congr 1
    exact Fin.ext (show 16 * (r.val % 16) + k.val % 16 = n.val % 16 * 16 + k.val % 16 by omega)

theorem mods_kept (t : Fin cfg0.N) (b : Fin 8) (hb : (b : ℕ) = min t.val 63 / 8) : bmod (iblk m c 3 t) = mods m c b := by
  funext i j
  exact (block3 m c t i j ⟨b, by omega⟩ hb).trans (congrFun (V_main_arg3 m c) _)

theorem mods_last (t : Fin cfg0.N) (b : Fin 8) (hb : (b : ℕ) = (t.val - 1) / 8) : bmod (iblk m c 4 t) = mods m c b := by
  funext i j
  exact (block4 m c t i j ⟨b, by omega⟩ hb).trans (congrFun (V_main_arg3 m c) _)

/-! ## What a point keeps and writes -/

/-- The rows a point keeps. -/
theorem kept_mid (t : Fin cfg0.N) : (outsAt0 m c t.val t.isLt).2.2
    = midBlock (iblk m c 0 t) (iblk m c 1 t) (iblk m c 2 t) (iblk m c 3 t) (iblk m c 5 t) (iblk m c 6 t) (iblk m c 7 t) (iblk m c 8 t) (iblk m c 9 t) (iblk m c 10 t) (iblk m c 11 t) := by
  by_cases h0 : t.val % 65 = 0
  · rw [outsAt0_A m c t h0]
    dsimp only
    rw [scratch_A3]
  · rw [outsAt0_B m c t h0]
    dsimp only
    rw [scratch_B3]

/-- Their modulated form. -/
theorem kept_mod (t : Fin cfg0.N) : (outsAt0 m c t.val t.isLt).2.1
    = modBlock (iblk m c 0 t) (iblk m c 1 t) (iblk m c 2 t) (iblk m c 3 t) (iblk m c 5 t) (iblk m c 6 t) (iblk m c 7 t) (iblk m c 8 t) (iblk m c 9 t) (iblk m c 10 t) (iblk m c 11 t) := by
  by_cases h0 : t.val % 65 = 0
  · rw [outsAt0_A m c t h0]
    dsimp only
    rw [scratch_A2]
  · rw [outsAt0_B m c t h0]
    dsimp only
    rw [scratch_B2]

theorem mid_at (t : Fin cfg0.N) (r : Fin 512) (n : Fin 32768) (hn : (n : ℕ) = 512 * min t.val 63 + r) (b : Fin 8)
    (hb : (b : ℕ) = min t.val 63 / 8) (j : Fin 1024) :
    (outsAt0 m c t.val t.isLt).2.2 (ix2 r j) = (wts m c).mid (tok m c n) (mods m c b) j := by
  rw [kept_mid]
  show (bw (iblk m c 5 t) (iblk m c 6 t) (iblk m c 7 t) (iblk m c 8 t) (iblk m c 9 t) (iblk m c 10 t) (iblk m c 11 t)).mid (btok (iblk m c 0 t) (iblk m c 1 t) (iblk m c 2 t) r) (bmod (iblk m c 3 t)) j = _
  rw [bw_block, btok_block m c t r n hn, mods_kept m c t b hb]

theorem mod_at (t : Fin cfg0.N) (r : Fin 512) (n : Fin 32768) (hn : (n : ℕ) = 512 * min t.val 63 + r) (b : Fin 8)
    (hb : (b : ℕ) = min t.val 63 / 8) (j : Fin 1024) :
    (outsAt0 m c t.val t.isLt).2.1 (ix2 r j) = Weights.modulated ((wts m c).mid (tok m c n) (mods m c b)) (mods m c b) j := by
  rw [kept_mod]
  show Weights.modulated (fun k => (bw (iblk m c 5 t) (iblk m c 6 t) (iblk m c 7 t) (iblk m c 8 t) (iblk m c 9 t) (iblk m c 10 t) (iblk m c 11 t)).mid (btok (iblk m c 0 t) (iblk m c 1 t) (iblk m c 2 t) r) (bmod (iblk m c 3 t)) k)
    (bmod (iblk m c 3 t)) j = _
  rw [bw_block, btok_block m c t r n hn, mods_kept m c t b hb]

/-- The layer's rows of one device. -/
def kernelRows : FVec Ideal S32768x1024 .f32 :=
  rows (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10))

theorem written (t : Fin cfg0.N) (h : 1 ≤ t.val) (r : Fin 512) (j : Fin 1024) (n : Fin 32768)
    (hn : (n : ℕ) = 512 * (t.val - 1) + r) : (outsAt0 m c t.val t.isLt).1 (ix2 r j) = kernelRows m c (ix2 n j) := by
  have ht : t.val < 65 := t.isLt
  have h0 : ¬ t.val % 65 = 0 := by omega
  have hr := r.isLt
  let s : Fin cfg0.N := ⟨t.val - 1, by omega⟩
  let b : Fin 8 := ⟨n / 4096, by omega⟩
  have hs : (n : ℕ) = 512 * min s.val 63 + r := by show n.val = 512 * min (t.val - 1) 63 + r; omega
  have hb : (b : ℕ) = min s.val 63 / 8 := by show n.val / 4096 = min (t.val - 1) 63 / 8; omega
  have hb' : (b : ℕ) = (t.val - 1) / 8 := by show n.val / 4096 = (t.val - 1) / 8; omega
  rw [outsAt0_B m c t h0]
  dsimp only
  rw [out_B]
  show (bw (iblk m c 5 t) (iblk m c 6 t) (iblk m c 7 t) (iblk m c 8 t) (iblk m c 9 t) (iblk m c 10 t) (iblk m c 11 t)).last (fun k => (outsAt0 m c s.val s.isLt).2.2 (ix2 r k)) (fun k => (outsAt0 m c s.val s.isLt).2.1 (ix2 r k)) (bmod (iblk m c 4 t)) j = _
  rw [bw_block, mods_last m c t b hb', funext (mid_at m c s r n hs b hb), funext (mod_at m c s r n hs b hb)]
  rfl

/-- THE CALL'S RESULT after the run. -/
theorem final : (dats m 0 c).arrAt 12 cfg0.N = kernelRows m c := by
  have idx : ∀ t : Fin cfg0.N, win0_12.index t = ![t.val - 1, 0] := (by decide +kernel : ∀ t : Fin grid0.N, _)
  have late : ∀ t : Fin cfg0.N, (cfg0.win 12).flush t = true → 1 ≤ t.val := (by decide +kernel : ∀ t : Fin grid0.N, _)
  refine (dats m 0 c).arrAt_eq_of_covers 12 _ (by decide +kernel) fun t ht y => ?_
  have h1 := late t ht
  have ht' : t.val < 65 := t.isLt
  blk_simp
  rw [after0_12]
  obtain ⟨r, l, rfl⟩ : ∃ (r : Fin 512) (l : Fin 1024), y = ix2 r l := ⟨y 0, y 1, by funext a; fin_cases a <;> rfl⟩
  have hr := r.isLt
  refine (written m c t h1 r l ⟨512 * (t.val - 1) + r, by omega⟩ rfl).trans ?_
  have e : (win0_12.blk t).view.emb (ix2 r l) = (ix2 (⟨512 * (t.val - 1) + r, by omega⟩ : Fin 32768) l : S32768x1024.Idx) := by
    blk_ext [idx t]
  rw [e]

end Cert.Out

end
-- ==== Proof.InRow.lean ====
/-
  THE BEGINNING OF THE LAYER, one token at a time, over the extended reals: from a token's row and its batch entry's
  modulation, the row of the stream behind the first half-step feed-forward part, and the row of the input projection.
-/
module

public import proofs.«01_k».proof.Proof.OutRow

@[expose] public section

noncomputable section

namespace Cert.In

open Idealize.ShloMosaic Cert.Out

/-- The weights and the norm's gain and offset. -/
structure Weights where
  wup : Fin 1024 → Fin 5632 → EReal
  wdn : Fin 2816 → Fin 1024 → EReal
  win : Fin 1024 → Fin 2048 → EReal
  gain : Fin 1024 → EReal
  offset : Fin 1024 → EReal

/-- A row under a scale and a shift of the modulation. -/
def modulated (x scale shift : Fin 1024 → EReal) (j : Fin 1024) : EReal := x j * (1 + scale j) + shift j

namespace Weights

variable (w : Weights) (x : Fin 1024 → EReal) (mod : Fin 9 → Fin 1024 → EReal)

/-- The first feed-forward product. -/
def up (h : Fin 1024 → EReal) (k : Fin 5632) : EReal := ∑ j : Fin 1024, h j * w.wup j k

/-- The gated hidden row. -/
def hidden (h : Fin 1024 → EReal) (k : Fin 2816) : EReal :=
  w.up h ⟨2816 + k, by omega⟩ * Ideal.logistic (w.up h ⟨2816 + k, by omega⟩) * w.up h ⟨k, by omega⟩

/-- The second feed-forward product. -/
def down (h : Fin 1024 → EReal) (j : Fin 1024) : EReal := ∑ k : Fin 2816, w.hidden h k * w.wdn k j

/-- The residual stream behind the feed-forward part. -/
def stream : Fin 1024 → EReal :=
  layerNorm (fun j => num 0x3F9837F0#32 * x j + num 0x3F000000#32 * mod 2 j * w.down (modulated x (mod 1) (mod 0)) j)
    w.gain w.offset

/-- The input projection of the modulated stream: queries, keys, values and S5 inputs, 512 of each. -/
def projected (k : Fin 2048) : EReal := ∑ j : Fin 1024, modulated (w.stream x mod) (mod 4) (mod 3) j * w.win j k

end Weights

/-- The queries' scale. -/
def scaled (k : Fin 1024) (z : EReal) : EReal := if k.val < 512 then z * num 0x3E38AA3B#32 else z

/-- The weights, every token's row and every batch entry's modulation. -/
structure Layer where
  w : Weights
  x : Fin 32768 → Fin 1024 → EReal
  mod : Fin 8 → Fin 9 → Fin 1024 → EReal

namespace Layer

variable (A : Layer)

/-- Token n's row of the stream. -/
def stream (n : Fin 32768) : Fin 1024 → EReal := A.w.stream (A.x n) (A.mod ⟨n / 4096, by omega⟩)

/-- Token n's row of the input projection. -/
def projected (n : Fin 32768) : Fin 2048 → EReal := A.w.projected (A.x n) (A.mod ⟨n / 4096, by omega⟩)

/-- Token n's queries, scaled, and keys. -/
def queriesKeys (n : Fin 32768) (k : Fin 1024) : EReal := scaled k (A.projected n ⟨k, by omega⟩)

/-- The values of token r of window b, feature k. -/
def values (b : Fin 128) (k : Fin 512) (r : Fin 256) : EReal := A.projected ⟨256 * b + r, by omega⟩ ⟨1024 + k, by omega⟩

/-- The S5 inputs of chunk s, group g: place l is feature l % 16 of the chunk's token l / 16. -/
def inputs (g : Fin 32) (s : Fin 2048) (l : Fin 256) : EReal :=
  A.projected ⟨16 * s + l / 16, by omega⟩ ⟨1536 + 16 * g + l % 16, by omega⟩

end Layer

end Cert.In

end
-- ==== Proof.InTokens.lean ====
module
public import proofs.«01_k».proof.Proof.Gen.FfnInIdeal.Skeleton
public import proofs.«01_k».proof.Proof.OutTokens
public import Idealize.ShloMosaic.Lib.Pipeline.ValueKit
/-! The S5 inputs leave a point in channel-major tiles: rotations and selections along the lanes turn the tokens' rows
into them, sixteen chunks at a time. Here the block that the stores leave is shown to be the projection's entries. -/
@[expose] public section
set_option maxRecDepth 65536
noncomputable section
namespace Cert.In
open Cert.FfnInIdeal Cert.FfnInIdeal.Gen Idealize.ShloMosaic
open Cert.Out (from' from_turned)

/-- Each lane's group of sixteen, as a word. -/
def group : IVec S1x128 32 := k0_pay39 (iota .tc S1x128 32 [1] iota_S1x128_d1_w32)

/-- Whether the lane's group has the bit `d`. -/
def bit (d : BitVec 32) : IVec S1x128 1 := cmpi .ne (andi group (broadcast S1x128 d)) (broadcast S1x128 0#32)

def pick (d : BitVec 32) (a b : FVec Ideal S16x128 .f32) : FVec Ideal S16x128 .f32 :=
  select (broadcastTo S16x128 (shapeCast S1x128 (bit d) shapeCasts_S1x128_S1x128) broadcasts_S1x128_S16x128) a b

def roll (n : BitVec 32) (a : FVec Ideal S16x128 .f32) : FVec Ideal S16x128 .f32 :=
  dynamicRotate 1 n none a rotates_S16x128_d1

/-- One round: tiles whose numbers differ by `2^e` exchange the lanes whose groups differ by `2^e`. -/
def swap (e : Fin 3) (T : Fin 8 → FVec Ideal S16x128 .f32) (a : Fin 8) : FVec Ideal S16x128 .f32 :=
  bif a.val.testBit e then pick (![1#32, 2#32, 4#32] e) (T a) (roll (![112#32, 96#32, 64#32] e) (T (a - ![1, 2, 4] e)))
  else pick (![1#32, 2#32, 4#32] e) (roll (![16#32, 32#32, 64#32] e) (T (a + ![1, 2, 4] e))) (T a)

def bits : Fin 3 → Fin 128 → BitVec 1 := fun e l => bit (![1#32, 2#32, 4#32] e) (ix2 0 l)

theorem bits_eq : ∀ e l, bits e l = BitVec.ofBool ((l.val / 16).testBit e) := by decide +kernel

theorem pick_at (d : BitVec 32) (a b : FVec Ideal S16x128 .f32) (h : Fin 16) (l : Fin 128) :
    pick d a b (ix2 h l) = Scalar.select (bit d (ix2 0 l)) (a (ix2 h l)) (b (ix2 h l)) := by
  unfold pick
  pointwise

theorem roll_up (e : Fin 3) (a : FVec Ideal S16x128 .f32) (h : Fin 16) (l : Fin 128) :
    roll (![112#32, 96#32, 64#32] e) a (ix2 h l) = a (ix2 h (l + ![16, 32, 64] e)) := by
  unfold roll
  fin_cases e
  all_goals pointwise
  all_goals exact congrArg (fun k => a (ix2 h k)) (Fin.ext (by simp [Fin.val_add]; try omega))

theorem roll_down (e : Fin 3) (a : FVec Ideal S16x128 .f32) (h : Fin 16) (l : Fin 128) :
    roll (![16#32, 32#32, 64#32] e) a (ix2 h l) = a (ix2 h (l - ![16, 32, 64] e)) := by
  unfold roll
  fin_cases e
  all_goals pointwise
  all_goals exact congrArg (fun k => a (ix2 h k)) (Fin.ext (by simp [Fin.sub_def]; try omega))

theorem swap_at (e : Fin 3) (T : Fin 8 → FVec Ideal S16x128 .f32) (a : Fin 8) (h : Fin 16) (l : Fin 128) :
    swap e T a (ix2 h l) = T (from' e a l).1 (ix2 h (from' e a l).2) := by
  have hb := bits_eq e l
  unfold bits at hb
  unfold swap from'
  cases a.val.testBit e <;> simp only [cond_true, cond_false, pick_at, roll_up, roll_down, hb] <;>
    cases (l.val / 16).testBit e <;> rfl

/-- Three rounds transpose tiles and lane groups. -/
def turned (T : Fin 8 → FVec Ideal S16x128 .f32) : Fin 8 → FVec Ideal S16x128 .f32 := swap 0 (swap 1 (swap 2 T))

theorem turned_at (T : Fin 8 → FVec Ideal S16x128 .f32) (a : Fin 8) (h : Fin 16) (l : Fin 128) :
    turned T a (ix2 h l) = T ⟨l / 16, by omega⟩ (ix2 h ⟨16 * a + l % 16, by omega⟩) := by
  unfold turned
  have e := from_turned a l
  dsimp only at e
  rw [swap_at, swap_at, swap_at, e]

theorem inb_row (t : Fin 2) (v : Fin 4) (w : Fin 2) (a : Fin 8) (b : Fin 3) :
    S1x16x128.size b = 0 ∨ (![v.val, 256 * t + 8 * w + a, 0] : Fin 3 → ℕ) b + (![1, 16, 1] : Fin 3 → ℕ) b * (S1x16x128.size b - 1) < S4x512x128.size b := by
  fin_cases b <;> simp <;> omega

/-- The rows of one phase in one slab of half a block of tokens. -/
def phase (t : Fin 2) (v : Fin 4) (w : Fin 2) (a : Fin 8) : LoadRect S4x512x128 where
  off := ![v, 256 * t + 8 * w + a, 0]
  size := S1x16x128.size
  stride := ![1, 16, 1]
  inb := inb_row t v w a

/-- The eight phases of half a chunk. -/
def tiles (U : Fin 2 → Vec Ideal S4x512x128 .f32) (t : Fin 2) (v : Fin 4) (w : Fin 2) (a : Fin 8) : FVec Ideal S16x128 .f32 :=
  shapeCast S16x128 (fun j => U t ((phase t v w a).idx j)) shapeCasts_S1x16x128_S16x128

theorem inb_tile (t : Fin 2) (v : Fin 4) (w : Fin 2) (g : Fin 8) (a : Fin 3) :
    (![8 * v + g, 16 * t, 128 * w] : Fin 3 → ℕ) a + S1x16x128.size a ≤ S32x32x256.size a := by
  fin_cases a <;> simp <;> omega

/-- Half the phases of sixteen chunks of one channel group. -/
def tile (t : Fin 2) (v : Fin 4) (w : Fin 2) (g : Fin 8) : Rect S32x32x256 :=
  Rect.unit (s := S32x32x256) ![8 * v + g, 16 * t, 128 * w] S1x16x128.size (inb_tile t v w g)

def piece (U : Fin 2 → Vec Ideal S4x512x128 .f32) (t : Fin 2) (v : Fin 4) (w : Fin 2) (g : Fin 8) : View.Piece (Elt Ideal) S32x32x256 .f32 :=
  ⟨tile t v w g, shapeCast S1x16x128 (turned (tiles U t v w) g) shapeCasts_S16x128_S1x16x128⟩

/-- The stores of the tiles, the last first. -/
def pieces (U : Fin 2 → Vec Ideal S4x512x128 .f32) : List (View.Piece (Elt Ideal) S32x32x256 .f32) :=
  [1, 0].flatMap fun t => [3, 2, 1, 0].flatMap fun v => [1, 0].flatMap fun w => [7, 6, 5, 4, 3, 2, 1, 0].map fun g => piece U t v w g

/-- The projection's entries, chunk by chunk. -/
def chunks (U : Fin 2 → Vec Ideal S4x512x128 .f32) (y : S32x32x256.Idx) : Elt Ideal .f32 :=
  U ⟨(y 1).val / 16, by have h1 : (y 1).val < 32 := (y 1).isLt; omega⟩
    (ix3 ⟨(y 0).val / 8, by have h0 : (y 0).val < 32 := (y 0).isLt; omega⟩
      ⟨16 * (y 1).val + (y 2).val / 16, by have h1 : (y 1).val < 32 := (y 1).isLt; have h2 : (y 2).val < 256 := (y 2).isLt; omega⟩
      ⟨16 * ((y 0).val % 8) + (y 2).val % 16, by omega⟩)

theorem drop_at (T : FVec Ideal S1x16x128 .f32) (h : Fin 16) (l : Fin 128) :
    shapeCast S16x128 T shapeCasts_S1x16x128_S16x128 (ix2 h l) = T (ix3 0 h l) := by
  pointwise

theorem lift_at (T : FVec Ideal S16x128 .f32) (u : Fin 1) (h : Fin 16) (l : Fin 128) :
    shapeCast S1x16x128 T shapeCasts_S16x128_S1x16x128 (ix3 u h l) = T (ix2 h l) := by
  pointwise

theorem tiles_at (U : Fin 2 → Vec Ideal S4x512x128 .f32) (t : Fin 2) (v : Fin 4) (w : Fin 2) (a : Fin 8) (h : Fin 16) (l : Fin 128) :
    tiles U t v w a (ix2 h l) = U t (ix3 v ⟨256 * t + 8 * w + a + 16 * h, by omega⟩ l) := by
  unfold tiles
  refine (drop_at (fun j => U t ((phase t v w a).idx j)) h l).trans (congrArg (U t) ?_)
  funext b
  match b with
  | ⟨0, _⟩ => exact Fin.ext (show v.val + 1 * 0 = v by omega)
  | ⟨1, _⟩ => exact Fin.ext (show 256 * t.val + 8 * w + a + 16 * h.val = 256 * t + 8 * w + a + 16 * h by omega)
  | ⟨2, _⟩ => exact Fin.ext (show 0 + 1 * l.val = l by omega)

theorem chunks_at (U : Fin 2 → Vec Ideal S4x512x128 .f32) (t : Fin 2) (a : Fin 4) (b : Fin 512) (d : Fin 128) (y : S32x32x256.Idx)
    (ht : (y 1).val / 16 = t) (ha : (y 0).val / 8 = a) (hb : 16 * (y 1).val + (y 2).val / 16 = b)
    (hd : 16 * ((y 0).val % 8) + (y 2).val % 16 = d) : U t (ix3 a b d) = chunks U y := by
  have h0 : (y 0).val < 32 := (y 0).isLt
  have h1 : (y 1).val < 32 := (y 1).isLt
  have h2 : (y 2).val < 256 := (y 2).isLt
  obtain rfl : t = ⟨(y 1).val / 16, by clear ht ha hb hd; omega⟩ := Fin.ext ht.symm
  obtain rfl : a = ⟨(y 0).val / 8, by clear ht ha hb hd; omega⟩ := Fin.ext ha.symm
  obtain rfl : b = ⟨16 * (y 1).val + (y 2).val / 16, by clear ht ha hb hd; omega⟩ := Fin.ext hb.symm
  obtain rfl : d = ⟨16 * ((y 0).val % 8) + (y 2).val % 16, by clear ht ha hb hd; omega⟩ := Fin.ext hd.symm
  rfl

theorem piece_at (U : Fin 2 → Vec Ideal S4x512x128 .f32) (t : Fin 2) (v : Fin 4) (w : Fin 2) (g : Fin 8) (x : (tile t v w g).shape.Idx) :
    (piece U t v w g).2 x = chunks U ((tile t v w g).emb x) := by
  obtain ⟨u, h, l, rfl⟩ : ∃ (u : Fin 1) (h : Fin 16) (l : Fin 128), x = ix3 u h l :=
    ⟨x 0, x 1, x 2, by funext a; fin_cases a <;> rfl⟩
  have e : (piece U t v w g).2 (ix3 u h l) = shapeCast S1x16x128 (turned (tiles U t v w) g) shapeCasts_S16x128_S1x16x128 (ix3 u h l) := rfl
  have e0 : ((tile t v w g).emb (ix3 u h l) 0).val = 8 * v + g + 1 * u := rfl
  have e1 : ((tile t v w g).emb (ix3 u h l) 1).val = 16 * t + 1 * h := rfl
  have e2 : ((tile t v w g).emb (ix3 u h l) 2).val = 128 * w + 1 * l := rfl
  rw [e, lift_at, turned_at, tiles_at]
  refine chunks_at U _ _ _ _ _ ?_ ?_ ?_ ?_ <;> simp only [e0, e1, e2] <;> omega

theorem canon_chunks (U : Fin 2 → Vec Ideal S4x512x128 .f32) (L : List (View.Piece (Elt Ideal) S32x32x256 .f32)) (hL : L = pieces U) :
    View.canon L = chunks U := by
  subst hL
  funext y
  refine View.canon_apply_of_pieces (Val := Elt Ideal) _ _ ?_ y ?_
  · intro p hp
    simp only [pieces, List.mem_flatMap, List.mem_map] at hp
    obtain ⟨t, -, v, -, w, -, g, -, rfl⟩ := hp
    exact piece_at U t v w g
  · have h0 : (y 0).val < 32 := (y 0).isLt
    have h1 : (y 1).val < 32 := (y 1).isLt
    have h2 : (y 2).val < 256 := (y 2).isLt
    refine ⟨piece U ⟨(y 1).val / 16, by omega⟩ ⟨(y 0).val / 8, by omega⟩ ⟨(y 2).val / 128, by omega⟩ ⟨(y 0).val % 8, by omega⟩, ?_, ?_⟩
    · simp only [pieces, List.mem_flatMap, List.mem_map]
      exact ⟨_, (by decide : ∀ t : Fin 2, t ∈ [1, 0]) _, _, (by decide : ∀ v : Fin 4, v ∈ [3, 2, 1, 0]) _, _,
        (by decide : ∀ w : Fin 2, w ∈ [1, 0]) _, _, (by decide : ∀ a : Fin 8, a ∈ [7, 6, 5, 4, 3, 2, 1, 0]) _, rfl⟩
    · have e : (piece U ⟨(y 1).val / 16, by omega⟩ ⟨(y 0).val / 8, by omega⟩ ⟨(y 2).val / 128, by omega⟩ ⟨(y 0).val % 8, by omega⟩).1
          = tile ⟨(y 1).val / 16, by omega⟩ ⟨(y 0).val / 8, by omega⟩ ⟨(y 2).val / 128, by omega⟩ ⟨(y 0).val % 8, by omega⟩ := rfl
      rw [e, LoadRect.mem_set]
      intro b
      match b with
      | ⟨0, _⟩ => exact ⟨0, Nat.one_pos, show (y 0).val = 8 * ((y 0).val / 8) + (y 0).val % 8 + 1 * 0 by omega⟩
      | ⟨1, _⟩ => exact ⟨(y 1).val % 16, show (y 1).val % 16 < 16 by omega,
          show (y 1).val = 16 * ((y 1).val / 16) + 1 * ((y 1).val % 16) by omega⟩
      | ⟨2, _⟩ => exact ⟨(y 2).val % 128, show (y 2).val % 128 < 128 by omega,
          show (y 2).val = 128 * ((y 2).val / 128) + 1 * ((y 2).val % 128) by omega⟩

end Cert.In
end
-- ==== Proof.InHalf.lean ====
module
public import proofs.«01_k».proof.Proof.Gen.FfnInIdeal.Skeleton
public import proofs.«01_k».proof.Proof.InRow
public import proofs.«01_k».proof.Proof.InTokens
public import Idealize.ShloMosaic.Lib.Pipeline.ValueKit
/-! What a point computes for each half of its block of tokens: the rows of the stream, the modulated rows and their
projections, and where the stores put them. -/
@[expose] public section
set_option maxRecDepth 65536
noncomputable section
namespace Cert.In
open Cert.FfnInIdeal Cert.FfnInIdeal.Gen Idealize.ShloMosaic
open Cert.Out (num mean layerNorm)

variable (x0 : Vec Ideal S512x1024 .f32) (x1 : Vec Ideal S1x9x1024 .f32) (x2 : Vec Ideal S3x1024 .f32) (x3 : Vec Ideal S3x1024 .f32) (x4 : Vec Ideal S1024x5632 .bf16) (x5 : Vec Ideal S2816x1024 .bf16) (x6 : Vec Ideal S1024x2048 .bf16)

/-- The weights as the blocks hold them. -/
def bw : Weights where
  wup j k := x4 (ix2 j k)
  wdn k j := x5 (ix2 k j)
  win j k := x6 (ix2 j k)
  gain j := x2 (ix2 0 j)
  offset j := x3 (ix2 0 j)

/-- The modulation as its block holds it. -/
def bmod (i : Fin 9) (j : Fin 1024) : EReal := x1 (ix3 0 i j)

/-- A token's row as the block holds it. -/
def brow (r : Fin 512) (j : Fin 1024) : EReal := x0 (ix2 r j)

/-- The gated hidden rows. -/
def hid (y : S512x2816.Idx) : Elt Ideal .bf16 :=
  (bw x2 x3 x4 x5 x6).hidden (modulated (brow x0 (y 0)) (bmod x1 1) (bmod x1 0)) (y 1)

/-- The stream's rows. -/
def streamBlock (y : S512x1024.Idx) : Elt Ideal .f32 := (bw x2 x3 x4 x5 x6).stream (brow x0 (y 0)) (bmod x1) (y 1)

/-- The projected rows. -/
def proj (r : Fin 512) (k : Fin 2048) : EReal := (bw x2 x3 x4 x5 x6).projected (brow x0 r) (bmod x1) k

/-! ### One half of the block -/

theorem inb_x (t : Fin 2) (a : Fin 2) : (![256 * t.val, 0] : Fin 2 → ℕ) a + S256x1024.size a ≤ S512x1024.size a := by
  fin_cases a <;> simp <;> omega
theorem inb_p (t : Fin 2) (a : Fin 2) : (![256 * t.val, 0] : Fin 2 → ℕ) a + S256x2816.size a ≤ S512x2816.size a := by
  fin_cases a <;> simp <;> omega

def rowsX (t : Fin 2) : Rect S512x1024 := Rect.unit (s := S512x1024) ![256 * t.val, 0] S256x1024.size (inb_x t)
def rowsP (t : Fin 2) : Rect S512x2816 := Rect.unit (s := S512x2816) ![256 * t.val, 0] S256x2816.size (inb_p t)

/-- The row before its norm. -/
def acc (t : Fin 2) : FVec Ideal S256x1024 .f32 :=
  k0_pay21 (k0_pay3 x1) (View.ld (hid x0 x1 x2 x3 x4 x5 x6) (rowsP t)) x5 (View.ld x0 (rowsX t))

def gain : FVec Ideal S1x1024 .f32 := k0_pay22 (View.ld x2 (Rect.unit (s := S3x1024) ![0, 0] S1x1024.size inb_S3x1024_S1x1024_0_0))
def offset : Vec Ideal S1x1024 .f32 := View.ld x3 (Rect.unit (s := S3x1024) ![0, 0] S1x1024.size inb_S3x1024_S1x1024_0_0)
def winU : Vec Ideal S1024x512 .bf16 := View.ld x6 (Rect.unit (s := S1024x2048) ![0, 1536] S1024x512.size inb_S1024x2048_S1024x512_0_1536)
def winR : Vec Ideal S1024x1536 .bf16 := View.ld x6 (Rect.unit (s := S1024x2048) ![0, 0] S1024x1536.size inb_S1024x2048_S1024x1536_0_0)

def strm (t : Fin 2) : FVec Ideal S256x1024 .f32 := k0_pay23 (acc x0 x1 x2 x3 x4 x5 x6 t) (gain x2) (offset x3)
def hm (t : Fin 2) : FVec Ideal S256x1024 .bf16 := k0_pay24 (k0_pay3 x1) (acc x0 x1 x2 x3 x4 x5 x6 t) (gain x2) (offset x3)
def pu (t : Fin 2) : FVec Ideal S256x512 .f32 := k0_pay25 (k0_pay3 x1) (acc x0 x1 x2 x3 x4 x5 x6 t) (gain x2) (offset x3) (winU x6)
def pr (t : Fin 2) : FVec Ideal S256x1536 .f32 := k0_pay395 (hm x0 x1 x2 x3 x4 x5 x6 t) (winR x6)

theorem pay21_at (v : FVec Ideal S9x1024 .f32) (p : Vec Ideal S256x2816 .bf16) (w : Vec Ideal S2816x1024 .bf16) (x : Vec Ideal S256x1024 .f32)
    (r : Fin 256) (l : Fin 1024) : k0_pay21 v p w x (ix2 r l)
      = num 0x3F9837F0#32 * x (ix2 r l) + num 0x3F000000#32 * v (ix2 2 l) * ∑ k : Fin 2816, (p (ix2 r k) : EReal) * w (ix2 k l) := by
  unfold k0_pay21
  pointwise

theorem pay3_at (i : Fin 9) (l : Fin 1024) : k0_pay3 x1 (ix2 i l) = bmod x1 i l := by
  unfold k0_pay3
  pointwise
  rfl

theorem pay23_at (a : FVec Ideal S256x1024 .f32) (g : FVec Ideal S1x1024 .f32) (o : Vec Ideal S1x1024 .f32) (r : Fin 256) (l : Fin 1024) :
    k0_pay23 a g o (ix2 r l) = layerNorm (fun j => a (ix2 r j)) (fun j => g (ix2 0 j)) (fun j => o (ix2 0 j)) l := by
  unfold k0_pay23
  pointwise
  rfl

theorem pay24_at (v : FVec Ideal S9x1024 .f32) (a : FVec Ideal S256x1024 .f32) (g : FVec Ideal S1x1024 .f32) (o : Vec Ideal S1x1024 .f32) (r : Fin 256) (l : Fin 1024) :
    k0_pay24 v a g o (ix2 r l) = modulated (fun j => k0_pay23 a g o (ix2 r j)) (fun j => v (ix2 4 j)) (fun j => v (ix2 3 j)) l := by
  unfold k0_pay24
  generalize k0_pay23 a g o = s
  pointwise
  rfl

theorem pay25_at (v : FVec Ideal S9x1024 .f32) (a : FVec Ideal S256x1024 .f32) (g : FVec Ideal S1x1024 .f32) (o : Vec Ideal S1x1024 .f32) (w : Vec Ideal S1024x512 .bf16)
    (r : Fin 256) (k : Fin 512) : k0_pay25 v a g o w (ix2 r k) = ∑ j : Fin 1024, (k0_pay24 v a g o (ix2 r j) : EReal) * w (ix2 j k) := by
  unfold k0_pay25
  generalize k0_pay24 v a g o = s
  pointwise

theorem pay395_at (h : FVec Ideal S256x1024 .bf16) (w : Vec Ideal S1024x1536 .bf16)
    (r : Fin 256) (k : Fin 1536) : k0_pay395 h w (ix2 r k) = ∑ j : Fin 1024, (h (ix2 r j) : EReal) * w (ix2 j k) := by
  unfold k0_pay395
  pointwise

theorem ldP (f : S512x2816.Idx → Elt Ideal .bf16) (t : Fin 2) (r : Fin 256) (k : Fin 2816) :
    (View.ld f (rowsP t) : Vec Ideal S256x2816 .bf16) (ix2 r k) = f (ix2 ⟨256 * t + r, by omega⟩ k) :=
  congrArg f (funext fun a => match a with
    | ⟨0, _⟩ => Fin.ext (show 256 * t.val + 1 * r = 256 * t + r by omega)
    | ⟨1, _⟩ => Fin.ext (show 0 + 1 * k.val = k by omega))

theorem ldX (f : S512x1024.Idx → Elt Ideal .f32) (t : Fin 2) (r : Fin 256) (k : Fin 1024) :
    (View.ld f (rowsX t) : Vec Ideal S256x1024 .f32) (ix2 r k) = f (ix2 ⟨256 * t + r, by omega⟩ k) :=
  congrArg f (funext fun a => match a with
    | ⟨0, _⟩ => Fin.ext (show 256 * t.val + 1 * r = 256 * t + r by omega)
    | ⟨1, _⟩ => Fin.ext (show 0 + 1 * k.val = k by omega))

theorem gain_at (j : Fin 1024) : gain x2 (ix2 0 j) = x2 (ix2 0 j) := by
  unfold gain k0_pay22
  pointwise

theorem offset_at (j : Fin 1024) : offset x3 (ix2 0 j) = x3 (ix2 0 j) := by
  unfold offset
  pointwise

theorem winU_at (j : Fin 1024) (k : Fin 512) : winU x6 (ix2 j k) = x6 (ix2 j ⟨1536 + k, by omega⟩) := by
  unfold winU
  pointwise

theorem winR_at (j : Fin 1024) (k : Fin 1536) : winR x6 (ix2 j k) = x6 (ix2 j ⟨k, by omega⟩) := by
  unfold winR
  pointwise

theorem acc_at (t : Fin 2) (r : Fin 256) (l : Fin 1024) : acc x0 x1 x2 x3 x4 x5 x6 t (ix2 r l)
    = num 0x3F9837F0#32 * brow x0 ⟨256 * t + r, by omega⟩ l + num 0x3F000000#32 * bmod x1 2 l
        * (bw x2 x3 x4 x5 x6).down (modulated (brow x0 ⟨256 * t + r, by omega⟩) (bmod x1 1) (bmod x1 0)) l := by
  refine (pay21_at _ _ _ _ r l).trans ?_
  refine congrArg₂ (· + ·) (congrArg _ (ldX x0 t r l)) (congrArg₂ (· * ·) (congrArg _ (pay3_at x1 2 l)) ?_)
  exact Finset.sum_congr rfl fun k _ => congrArg (· * x5 (ix2 k l)) (ldP (hid x0 x1 x2 x3 x4 x5 x6) t r k)

theorem strm_at (t : Fin 2) (r : Fin 256) (l : Fin 1024) :
    strm x0 x1 x2 x3 x4 x5 x6 t (ix2 r l) = streamBlock x0 x1 x2 x3 x4 x5 x6 (ix2 ⟨256 * t + r, by omega⟩ l) := by
  unfold strm
  simp only [pay23_at, gain_at, offset_at, acc_at]
  rfl

theorem hm_at (t : Fin 2) (r : Fin 256) (l : Fin 1024) : hm x0 x1 x2 x3 x4 x5 x6 t (ix2 r l)
    = modulated ((bw x2 x3 x4 x5 x6).stream (brow x0 ⟨256 * t + r, by omega⟩) (bmod x1)) (bmod x1 4) (bmod x1 3) l := by
  have e : ∀ j, k0_pay23 (acc x0 x1 x2 x3 x4 x5 x6 t) (gain x2) (offset x3) (ix2 r j)
      = (bw x2 x3 x4 x5 x6).stream (brow x0 ⟨256 * t + r, by omega⟩) (bmod x1) j := fun j => strm_at x0 x1 x2 x3 x4 x5 x6 t r j
  unfold hm
  simp only [pay24_at, pay3_at, e]

theorem pu_at (t : Fin 2) (r : Fin 256) (k : Fin 512) : pu x0 x1 x2 x3 x4 x5 x6 t (ix2 r k)
    = proj x0 x1 x2 x3 x4 x5 x6 ⟨256 * t + r, by omega⟩ ⟨1536 + k, by omega⟩ := by
  have e : ∀ j, k0_pay24 (k0_pay3 x1) (acc x0 x1 x2 x3 x4 x5 x6 t) (gain x2) (offset x3) (ix2 r j) = _ := fun j => hm_at x0 x1 x2 x3 x4 x5 x6 t r j
  unfold pu
  simp only [pay25_at, e, winU_at]
  rfl

theorem pr_at (t : Fin 2) (r : Fin 256) (k : Fin 1536) : pr x0 x1 x2 x3 x4 x5 x6 t (ix2 r k)
    = proj x0 x1 x2 x3 x4 x5 x6 ⟨256 * t + r, by omega⟩ ⟨k, by omega⟩ := by
  unfold pr
  simp only [pay395_at, hm_at, winR_at]
  rfl

end Cert.In
end
-- ==== Proof.InStores.lean ====
module
public import proofs.«01_k».proof.Proof.InHalf
/-! The blocks that the stores of a point leave, entry by entry. -/
@[expose] public section
set_option maxRecDepth 65536
noncomputable section
namespace Cert.In
open Cert.FfnInIdeal Cert.FfnInIdeal.Gen Idealize.ShloMosaic
open Cert.Out (num mean layerNorm)

variable (x0 : Vec Ideal S512x1024 .f32) (x1 : Vec Ideal S1x9x1024 .f32) (x2 : Vec Ideal S3x1024 .f32) (x3 : Vec Ideal S3x1024 .f32) (x4 : Vec Ideal S1024x5632 .bf16) (x5 : Vec Ideal S2816x1024 .bf16) (x6 : Vec Ideal S1024x2048 .bf16)

/-! ### The stream -/

def streamPieces : List (View.Piece (Elt Ideal) S512x1024 .f32) := [1, 0].map fun t => ⟨rowsX t, strm x0 x1 x2 x3 x4 x5 x6 t⟩

theorem canon_stream (L : List (View.Piece (Elt Ideal) S512x1024 .f32)) (hL : L = streamPieces x0 x1 x2 x3 x4 x5 x6) : View.canon L = streamBlock x0 x1 x2 x3 x4 x5 x6 := by
  subst hL
  refine funext fun y => View.canon_apply_of_pieces (Val := Elt Ideal) _ _ ?_ y
    (View.cover_of_tiledL (s := S512x1024) _ ![256, 1024] (by sl_kernel_rfl) y)
  intro p hp
  simp only [streamPieces, List.mem_map] at hp
  obtain ⟨t, -, rfl⟩ := hp
  intro x
  obtain ⟨r, l, rfl⟩ : ∃ (r : Fin 256) (l : Fin 1024), x = ix2 r l := ⟨x 0, x 1, by funext a; fin_cases a <;> rfl⟩
  exact (strm_at x0 x1 x2 x3 x4 x5 x6 t r l).trans (ldX (streamBlock x0 x1 x2 x3 x4 x5 x6) t r l).symm

/-! ### Queries and keys -/

def qkBlock (y : S512x1024.Idx) : Elt Ideal .bf16 := scaled (y 1) (proj x0 x1 x2 x3 x4 x5 x6 (y 0) ⟨(y 1).val, Nat.lt_trans (y 1).isLt (by decide)⟩)

theorem inb_qk (t b : Fin 2) (a : Fin 2) : (![256 * t.val, 512 * b.val] : Fin 2 → ℕ) a + S256x512.size a ≤ S512x1024.size a := by
  fin_cases a <;> simp <;> omega

def rowsQ (t b : Fin 2) : Rect S512x1024 := Rect.unit (s := S512x1024) ![256 * t.val, 512 * b.val] S256x512.size (inb_qk t b)

def qkPiece (t b : Fin 2) : View.Piece (Elt Ideal) S512x1024 .bf16 :=
  ⟨rowsQ t b, bif b == 0 then k0_pay396 (hm x0 x1 x2 x3 x4 x5 x6 t) (winR x6) else k0_pay397 (pr x0 x1 x2 x3 x4 x5 x6 t)⟩

def qkPieces : List (View.Piece (Elt Ideal) S512x1024 .bf16) := [1, 0].flatMap fun t => [1, 0].map fun b => qkPiece x0 x1 x2 x3 x4 x5 x6 t b

theorem pay396_at (h : FVec Ideal S256x1024 .bf16) (w : Vec Ideal S1024x1536 .bf16) (r : Fin 256) (k : Fin 512) :
    k0_pay396 h w (ix2 r k) = k0_pay395 h w (ix2 r ⟨k, by omega⟩) * num 0x3E38AA3B#32 := by
  unfold k0_pay396
  generalize k0_pay395 h w = p
  pointwise

theorem pay397_at (p : FVec Ideal S256x1536 .f32) (r : Fin 256) (k : Fin 512) :
    k0_pay397 p (ix2 r k) = p (ix2 r ⟨512 + k, by omega⟩) := by
  unfold k0_pay397
  pointwise

theorem qk_at (n : Fin 512) (k : Fin 2048) (z : EReal) (y : S512x1024.Idx) (h0 : (y 0 : ℕ) = n) (h1 : (y 1 : ℕ) = k)
    (hz : z = scaled (y 1) (proj x0 x1 x2 x3 x4 x5 x6 n k)) : z = qkBlock x0 x1 x2 x3 x4 x5 x6 y := by
  have hy : (y 1 : ℕ) < 1024 := (y 1).isLt
  obtain rfl : y 0 = n := Fin.ext h0
  obtain rfl : k = ⟨(y 1).val, Nat.lt_trans hy (by decide)⟩ := Fin.ext h1.symm
  exact hz

theorem canon_qk (L : List (View.Piece (Elt Ideal) S512x1024 .bf16)) (hL : L = qkPieces x0 x1 x2 x3 x4 x5 x6) : View.canon L = qkBlock x0 x1 x2 x3 x4 x5 x6 := by
  subst hL
  refine funext fun y => View.canon_apply_of_pieces (Val := Elt Ideal) _ _ ?_ y
    (View.cover_of_tiledL (s := S512x1024) _ ![256, 512] (by sl_kernel_rfl) y)
  intro p hp
  simp only [qkPieces, List.mem_flatMap, List.mem_map] at hp
  obtain ⟨t, -, b, -, rfl⟩ := hp
  intro x
  obtain ⟨r, l, rfl⟩ : ∃ (r : Fin 256) (l : Fin 512), x = ix2 r l := ⟨x 0, x 1, by funext a; fin_cases a <;> rfl⟩
  have e0 : ((qkPiece x0 x1 x2 x3 x4 x5 x6 t b).1.emb (ix2 r l) 0).val = 256 * t + 1 * r := rfl
  have e1 : ((qkPiece x0 x1 x2 x3 x4 x5 x6 t b).1.emb (ix2 r l) 1).val = 512 * b + 1 * l := rfl
  match b with
  | 0 =>
    refine qk_at x0 x1 x2 x3 x4 x5 x6 ⟨256 * t + r, by omega⟩ ⟨l, by omega⟩ _ _ (e0.trans (by dsimp only; omega)) (e1.trans (by dsimp only [Fin.val_zero]; omega)) ?_
    refine (pay396_at (hm x0 x1 x2 x3 x4 x5 x6 t) (winR x6) r l).trans ?_
    unfold scaled
    rw [if_pos (by rw [e1]; dsimp only [Fin.val_zero]; omega)]
    exact congrArg (· * num 0x3E38AA3B#32) (pr_at x0 x1 x2 x3 x4 x5 x6 t r ⟨l, by omega⟩)
  | 1 =>
    refine qk_at x0 x1 x2 x3 x4 x5 x6 ⟨256 * t + r, by omega⟩ ⟨512 + l, by omega⟩ _ _ (e0.trans (by dsimp only; omega)) (e1.trans (by dsimp only [Fin.val_one]; omega)) ?_
    refine (pay397_at (pr x0 x1 x2 x3 x4 x5 x6 t) r l).trans ?_
    unfold scaled
    rw [if_neg (by rw [e1]; dsimp only [Fin.val_one]; omega)]
    exact pr_at x0 x1 x2 x3 x4 x5 x6 t r ⟨512 + l, by omega⟩

/-! ### Values -/

def vtBlock (y : S2x512x256.Idx) : Elt Ideal .bf16 :=
  proj x0 x1 x2 x3 x4 x5 x6 ⟨256 * (y 0).val + (y 2).val, by have h0 : (y 0).val < 2 := (y 0).isLt; have h2 : (y 2).val < 256 := (y 2).isLt; omega⟩
    ⟨1024 + (y 1).val, by have h1 : (y 1).val < 512 := (y 1).isLt; omega⟩

theorem inb_v (t : Fin 2) (a : Fin 3) : (![t.val, 0, 0] : Fin 3 → ℕ) a + S1x512x256.size a ≤ S2x512x256.size a := by
  fin_cases a <;> simp <;> omega

def rowsV (t : Fin 2) : Rect S2x512x256 := Rect.unit (s := S2x512x256) ![t.val, 0, 0] S1x512x256.size (inb_v t)

def vtPieces : List (View.Piece (Elt Ideal) S2x512x256 .bf16) := [1, 0].map fun t => ⟨rowsV t, k0_pay398 (pr x0 x1 x2 x3 x4 x5 x6 t)⟩

theorem pay398_at (p : FVec Ideal S256x1536 .f32) (u : Fin 1) (k : Fin 512) (r : Fin 256) :
    k0_pay398 p (ix3 u k r) = p (ix2 r ⟨1024 + k, by omega⟩) := by
  unfold k0_pay398
  pointwise

theorem vt_at (n : Fin 512) (k : Fin 2048) (y : S2x512x256.Idx) (h0 : 256 * (y 0).val + (y 2).val = n) (h1 : 1024 + (y 1).val = k) :
    proj x0 x1 x2 x3 x4 x5 x6 n k = vtBlock x0 x1 x2 x3 x4 x5 x6 y := by
  have a0 : (y 0).val < 2 := (y 0).isLt
  have a1 : (y 1).val < 512 := (y 1).isLt
  have a2 : (y 2).val < 256 := (y 2).isLt
  obtain rfl : n = ⟨256 * (y 0).val + (y 2).val, by clear h0 h1; omega⟩ := Fin.ext h0.symm
  obtain rfl : k = ⟨1024 + (y 1).val, Nat.add_lt_add_left (Nat.lt_trans a1 (by decide : 512 < 1024)) 1024⟩ := Fin.ext h1.symm
  rfl

theorem canon_vt (L : List (View.Piece (Elt Ideal) S2x512x256 .bf16)) (hL : L = vtPieces x0 x1 x2 x3 x4 x5 x6) : View.canon L = vtBlock x0 x1 x2 x3 x4 x5 x6 := by
  subst hL
  refine funext fun y => View.canon_apply_of_pieces (Val := Elt Ideal) _ _ ?_ y
    (View.cover_of_tiledL (s := S2x512x256) _ ![1, 512, 256] (by sl_kernel_rfl) y)
  intro p hp
  simp only [vtPieces, List.mem_map] at hp
  obtain ⟨t, -, rfl⟩ := hp
  intro x
  obtain ⟨u, k, r, rfl⟩ : ∃ (u : Fin 1) (k : Fin 512) (r : Fin 256), x = ix3 u k r :=
    ⟨x 0, x 1, x 2, by funext a; fin_cases a <;> rfl⟩
  refine (pay398_at (pr x0 x1 x2 x3 x4 x5 x6 t) u k r).trans ((pr_at x0 x1 x2 x3 x4 x5 x6 t r ⟨1024 + k, by omega⟩).trans (vt_at x0 x1 x2 x3 x4 x5 x6 _ _ _ ?_ ?_))
  · show 256 * (t.val + 1 * u.val) + (0 + 1 * r.val) = 256 * t.val + r.val
    omega
  · show 1024 + (0 + 1 * k.val) = 1024 + k.val
    omega

/-! ### S5 inputs -/

theorem inb_u (t : Fin 2) (v : Fin 4) (a : Fin 3) : (![v.val, 256 * t.val, 0] : Fin 3 → ℕ) a + S1x256x128.size a ≤ S4x512x128.size a := by
  fin_cases a <;> simp <;> omega

def rowsU (t : Fin 2) (v : Fin 4) : Rect S4x512x128 := Rect.unit (s := S4x512x128) ![v.val, 256 * t.val, 0] S1x256x128.size (inb_u t v)

def slab (t : Fin 2) (v : Fin 4) : FVec Ideal S1x256x128 .f32 :=
  ![k0_pay26 (k0_pay3 x1) (acc x0 x1 x2 x3 x4 x5 x6 t) (gain x2) (offset x3) (winU x6), k0_pay28 (k0_pay27 (k0_pay3 x1) (acc x0 x1 x2 x3 x4 x5 x6 t) (gain x2) (offset x3) (winU x6)),
    k0_pay29 (pu x0 x1 x2 x3 x4 x5 x6 t), k0_pay30 (pu x0 x1 x2 x3 x4 x5 x6 t)] v

def slabPieces (t : Fin 2) : List (View.Piece (Elt Ideal) S4x512x128 .f32) := [3, 2, 1, 0].map fun v => ⟨rowsU t v, slab x0 x1 x2 x3 x4 x5 x6 t v⟩

/-- The projection's rows as the buffer holds them: after the first half, and after both. -/
def rowsKept (t : Fin 2) : Vec Ideal S4x512x128 .f32 :=
  View.canon (bif t == 0 then slabPieces x0 x1 x2 x3 x4 x5 x6 0 else slabPieces x0 x1 x2 x3 x4 x5 x6 1 ++ slabPieces x0 x1 x2 x3 x4 x5 x6 0)

def kept (y : S4x512x128.Idx) : Elt Ideal .f32 :=
  proj x0 x1 x2 x3 x4 x5 x6 (y 1) ⟨1536 + 128 * (y 0).val + (y 2).val, by have h0 : (y 0).val < 4 := (y 0).isLt; have h2 : (y 2).val < 128 := (y 2).isLt; omega⟩

theorem kept_at (n : Fin 512) (k : Fin 2048) (y : S4x512x128.Idx) (h0 : (y 1).val = n) (h1 : 1536 + 128 * (y 0).val + (y 2).val = k) :
    proj x0 x1 x2 x3 x4 x5 x6 n k = kept x0 x1 x2 x3 x4 x5 x6 y := by
  have a0 : (y 0).val < 4 := (y 0).isLt
  have a2 : (y 2).val < 128 := (y 2).isLt
  obtain rfl : y 1 = n := Fin.ext h0
  obtain rfl : k = ⟨1536 + 128 * (y 0).val + (y 2).val, by clear h1; omega⟩ := Fin.ext h1.symm
  rfl

theorem slab_at (t : Fin 2) (v : Fin 4) (u : Fin 1) (r : Fin 256) (l : Fin 128) :
    slab x0 x1 x2 x3 x4 x5 x6 t v (ix3 u r l) = pu x0 x1 x2 x3 x4 x5 x6 t (ix2 r ⟨128 * v + l, by omega⟩) := by
  unfold slab k0_pay26 k0_pay27
  rw [show k0_pay25 (k0_pay3 x1) (acc x0 x1 x2 x3 x4 x5 x6 t) (gain x2) (offset x3) (winU x6) = pu x0 x1 x2 x3 x4 x5 x6 t from rfl]
  generalize pu x0 x1 x2 x3 x4 x5 x6 t = p
  fin_cases v
  all_goals
    unfold_payloads
    pointwise

theorem slab_piece (t : Fin 2) (p : View.Piece (Elt Ideal) S4x512x128 .f32) (hp : p ∈ slabPieces x0 x1 x2 x3 x4 x5 x6 t) (x : p.1.shape.Idx) :
    p.2 x = kept x0 x1 x2 x3 x4 x5 x6 (p.1.emb x) := by
  simp only [slabPieces, List.mem_map] at hp
  obtain ⟨v, -, rfl⟩ := hp
  obtain ⟨u, r, l, rfl⟩ : ∃ (u : Fin 1) (r : Fin 256) (l : Fin 128), x = ix3 u r l :=
    ⟨x 0, x 1, x 2, by funext a; fin_cases a <;> rfl⟩
  refine (slab_at x0 x1 x2 x3 x4 x5 x6 t v u r l).trans ((pu_at x0 x1 x2 x3 x4 x5 x6 t r ⟨128 * v + l, by omega⟩).trans (kept_at x0 x1 x2 x3 x4 x5 x6 _ _ _ ?_ ?_))
  · show 256 * t.val + 1 * r.val = 256 * t.val + r.val
    omega
  · show 1536 + 128 * (v.val + 1 * u.val) + (0 + 1 * l.val) = 1536 + (128 * v.val + l.val)
    omega

theorem slab_mem (t : Fin 2) (y : S4x512x128.Idx) (hy : (y 1).val / 256 = t) : ∃ p ∈ slabPieces x0 x1 x2 x3 x4 x5 x6 t, y ∈ p.1.set := by
  refine ⟨⟨rowsU t (y 0), slab x0 x1 x2 x3 x4 x5 x6 t (y 0)⟩, ?_, ?_⟩
  · simp only [slabPieces, List.mem_map]
    exact ⟨_, (by decide : ∀ v : Fin 4, v ∈ [3, 2, 1, 0]) _, rfl⟩
  · show y ∈ (rowsU t (y 0)).set
    rw [LoadRect.mem_set]
    intro b
    match b with
    | ⟨0, _⟩ => exact ⟨0, Nat.one_pos, show (y 0).val = (y 0).val + 1 * 0 by omega⟩
    | ⟨1, _⟩ => exact ⟨(y 1).val % 256, show (y 1).val % 256 < 256 by omega,
        show (y 1).val = 256 * t.val + 1 * ((y 1).val % 256) by omega⟩
    | ⟨2, _⟩ => exact ⟨(y 2).val, (y 2).isLt, show (y 2).val = 0 + 1 * (y 2).val by omega⟩

theorem rowsKept_at (t : Fin 2) (y : S4x512x128.Idx) (hy : (y 1).val / 256 = t) : rowsKept x0 x1 x2 x3 x4 x5 x6 t y = kept x0 x1 x2 x3 x4 x5 x6 y := by
  unfold rowsKept
  match t with
  | 0 => exact View.canon_apply_of_pieces (Val := Elt Ideal) _ (slabPieces x0 x1 x2 x3 x4 x5 x6 0) (slab_piece x0 x1 x2 x3 x4 x5 x6 0) y (slab_mem x0 x1 x2 x3 x4 x5 x6 0 y hy)
  | 1 =>
    refine View.canon_apply_of_pieces (Val := Elt Ideal) _ (slabPieces x0 x1 x2 x3 x4 x5 x6 1 ++ slabPieces x0 x1 x2 x3 x4 x5 x6 0) (fun p hp => ?_) y ?_
    · exact (List.mem_append.1 hp).elim (slab_piece x0 x1 x2 x3 x4 x5 x6 1 p) (slab_piece x0 x1 x2 x3 x4 x5 x6 0 p)
    · obtain ⟨p, hp, hm⟩ := slab_mem x0 x1 x2 x3 x4 x5 x6 1 y hy
      exact ⟨p, List.mem_append_left _ hp, hm⟩

def usBlock (y : S32x32x256.Idx) : Elt Ideal .f32 :=
  proj x0 x1 x2 x3 x4 x5 x6 ⟨16 * (y 1).val + (y 2).val / 16, by have h1 : (y 1).val < 32 := (y 1).isLt; have h2 : (y 2).val < 256 := (y 2).isLt; omega⟩
    ⟨1536 + 16 * (y 0).val + (y 2).val % 16, by have h0 : (y 0).val < 32 := (y 0).isLt; omega⟩

theorem canon_us (L : List (View.Piece (Elt Ideal) S32x32x256 .f32)) (hL : L = pieces (rowsKept x0 x1 x2 x3 x4 x5 x6)) : View.canon L = usBlock x0 x1 x2 x3 x4 x5 x6 := by
  rw [canon_chunks _ L hL]
  funext y
  have h0 : (y 0).val < 32 := (y 0).isLt
  have h1 : (y 1).val < 32 := (y 1).isLt
  have h2 : (y 2).val < 256 := (y 2).isLt
  unfold chunks
  refine (rowsKept_at x0 x1 x2 x3 x4 x5 x6 _ _ ?_).trans ?_
  · show (16 * (y 1).val + (y 2).val / 16) / 256 = (y 1).val / 16
    omega
  · refine congrArg (proj x0 x1 x2 x3 x4 x5 x6 _) (Fin.ext ?_)
    show 1536 + 128 * ((y 0).val / 8) + (16 * ((y 0).val % 8) + (y 2).val % 16) = 1536 + 16 * (y 0).val + (y 2).val % 16
    omega

end Cert.In
end
-- ==== Proof.InBody.lean ====
module
public import proofs.«01_k».proof.Proof.Gen.FfnInIdeal.Value
public import proofs.«01_k».proof.Proof.InStores
/-! What a point of the call leaves in its four output blocks. -/
@[expose] public section
set_option maxRecDepth 65536
noncomputable section
namespace Cert.In
open Cert.FfnInIdeal Cert.FfnInIdeal.Gen Idealize.ShloMosaic

variable (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S3x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S1024x2048 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S2x512x256 .bf16) (harg10 : arg10.IsWhole) (arg11 : Memref sig .tc .vmem S32x32x256 .f32) (harg11 : arg11.IsWhole) (arg12 : Memref sig .tc .vmem S512x2816 .bf16) (harg12 : arg12.IsWhole) (arg13 : Memref sig .tc .vmem S4x512x128 .f32) (harg13 : arg13.IsWhole)
variable (x0 : Vec Ideal S512x1024 .f32) (x1 : Vec Ideal S1x9x1024 .f32) (x2 : Vec Ideal S3x1024 .f32) (x3 : Vec Ideal S3x1024 .f32) (x4 : Vec Ideal S1024x5632 .bf16) (x5 : Vec Ideal S2816x1024 .bf16) (x6 : Vec Ideal S1024x2048 .bf16)

theorem readCov_ld {S : Shape} {e : EltTy} (v : View sig .tc .vmem S e) (L : List (View.Piece (Elt Ideal) S e)) (r : Rect S) :
    v.readCov L r.toLoadRect = View.ld (View.canon L) r := View.readCov_eq_canon' v L _

/-- One entry of a chunk of the hidden rows. -/
theorem chunk (r : Fin 512) (k kg : Fin 5632) (z : S512x2816.Idx) (h0 : (z 0 : ℕ) = r) (h1 : (k : ℕ) = z 1)
    (hg : (kg : ℕ) = 2816 + k) :
    (bw x2 x3 x4 x5 x6).up (modulated (brow x0 r) (bmod x1 1) (bmod x1 0)) kg
        * Ideal.logistic ((bw x2 x3 x4 x5 x6).up (modulated (brow x0 r) (bmod x1 1) (bmod x1 0)) kg)
        * (bw x2 x3 x4 x5 x6).up (modulated (brow x0 r) (bmod x1 1) (bmod x1 0)) k
      = hid x0 x1 x2 x3 x4 x5 x6 z := by
  have hz : (z 1 : ℕ) < 2816 := (z 1).isLt
  obtain rfl : k = ⟨z 1, Nat.lt_trans hz (by decide)⟩ := Fin.ext h1
  obtain rfl : kg = ⟨2816 + z 1, Nat.add_lt_add_left hz 2816⟩ := Fin.ext hg
  obtain rfl : z 0 = r := Fin.ext h0
  rfl

theorem canon_p (L : List (View.Piece (Elt Ideal) S512x2816 .bf16))
    (hL : ∀ p ∈ L, ∀ x : p.1.shape.Idx, p.2 x = hid x0 x1 x2 x3 x4 x5 x6 (p.1.emb x))
    (hc : ∀ y, ∃ p ∈ L, y ∈ p.1.set) : View.canon L = hid x0 x1 x2 x3 x4 x5 x6 :=
  funext fun y => View.canon_apply_of_pieces (Val := Elt Ideal) _ L hL y (hc y)

/-- The eleven stores of the hidden rows, the last first. -/
def hidPieces : List (View.Piece (Elt Ideal) S512x2816 .bf16) :=
  [⟨Rect.unit (s := S512x2816) ![0, 2560] S512x256.size inb_S512x2816_S512x256_0_2560, k0_pay19 (k0_pay4 x1 x0) (View.ld x4 (Rect.unit (s := S1024x5632) ![0, 2560] S1024x256.size inb_S1024x5632_S1024x256_0_2560)) (View.ld x4 (Rect.unit (s := S1024x5632) ![0, 5376] S1024x256.size inb_S1024x5632_S1024x256_0_5376))⟩,
    ⟨Rect.unit (s := S512x2816) ![0, 2304] S512x256.size inb_S512x2816_S512x256_0_2304, k0_pay18 (k0_pay4 x1 x0) (View.ld x4 (Rect.unit (s := S1024x5632) ![0, 2304] S1024x256.size inb_S1024x5632_S1024x256_0_2304)) (View.ld x4 (Rect.unit (s := S1024x5632) ![0, 5120] S1024x256.size inb_S1024x5632_S1024x256_0_5120))⟩,
    ⟨Rect.unit (s := S512x2816) ![0, 2048] S512x256.size inb_S512x2816_S512x256_0_2048, k0_pay17 (k0_pay4 x1 x0) (View.ld x4 (Rect.unit (s := S1024x5632) ![0, 2048] S1024x256.size inb_S1024x5632_S1024x256_0_2048)) (View.ld x4 (Rect.unit (s := S1024x5632) ![0, 4864] S1024x256.size inb_S1024x5632_S1024x256_0_4864))⟩,
    ⟨Rect.unit (s := S512x2816) ![0, 1792] S512x256.size inb_S512x2816_S512x256_0_1792, k0_pay16 (k0_pay4 x1 x0) (k0_pay15 (k0_pay4 x1 x0) (View.ld x4 (Rect.unit (s := S1024x5632) ![0, 1792] S1024x256.size inb_S1024x5632_S1024x256_0_1792))) (View.ld x4 (Rect.unit (s := S1024x5632) ![0, 4608] S1024x256.size inb_S1024x5632_S1024x256_0_4608))⟩,
    ⟨Rect.unit (s := S512x2816) ![0, 1536] S512x256.size inb_S512x2816_S512x256_0_1536, k0_pay14 (k0_pay4 x1 x0) (View.ld x4 (Rect.unit (s := S1024x5632) ![0, 1536] S1024x256.size inb_S1024x5632_S1024x256_0_1536)) (View.ld x4 (Rect.unit (s := S1024x5632) ![0, 4352] S1024x256.size inb_S1024x5632_S1024x256_0_4352))⟩,
    ⟨Rect.unit (s := S512x2816) ![0, 1280] S512x256.size inb_S512x2816_S512x256_0_1280, k0_pay13 (k0_pay4 x1 x0) (View.ld x4 (Rect.unit (s := S1024x5632) ![0, 1280] S1024x256.size inb_S1024x5632_S1024x256_0_1280)) (View.ld x4 (Rect.unit (s := S1024x5632) ![0, 4096] S1024x256.size inb_S1024x5632_S1024x256_0_4096))⟩,
    ⟨Rect.unit (s := S512x2816) ![0, 1024] S512x256.size inb_S512x2816_S512x256_0_1024, k0_pay12 (k0_pay10 (k0_pay4 x1 x0) (View.ld x4 (Rect.unit (s := S1024x5632) ![0, 1024] S1024x256.size inb_S1024x5632_S1024x256_0_1024))) (k0_pay11 (k0_pay4 x1 x0) (View.ld x4 (Rect.unit (s := S1024x5632) ![0, 3840] S1024x256.size inb_S1024x5632_S1024x256_0_3840)))⟩,
    ⟨Rect.unit (s := S512x2816) ![0, 768] S512x256.size inb_S512x2816_S512x256_0_768, k0_pay9 (k0_pay4 x1 x0) (View.ld x4 (Rect.unit (s := S1024x5632) ![0, 768] S1024x256.size inb_S1024x5632_S1024x256_0_768)) (View.ld x4 (Rect.unit (s := S1024x5632) ![0, 3584] S1024x256.size inb_S1024x5632_S1024x256_0_3584))⟩,
    ⟨Rect.unit (s := S512x2816) ![0, 512] S512x256.size inb_S512x2816_S512x256_0_512, k0_pay8 (k0_pay4 x1 x0) (View.ld x4 (Rect.unit (s := S1024x5632) ![0, 512] S1024x256.size inb_S1024x5632_S1024x256_0_512)) (View.ld x4 (Rect.unit (s := S1024x5632) ![0, 3328] S1024x256.size inb_S1024x5632_S1024x256_0_3328))⟩,
    ⟨Rect.unit (s := S512x2816) ![0, 256] S512x256.size inb_S512x2816_S512x256_0_256, k0_pay7 (k0_pay6 x1 x0 (View.ld x4 (Rect.unit (s := S1024x5632) ![0, 256] S1024x256.size inb_S1024x5632_S1024x256_0_256)) (View.ld x4 (Rect.unit (s := S1024x5632) ![0, 3072] S1024x256.size inb_S1024x5632_S1024x256_0_3072)))⟩,
    ⟨Rect.unit (s := S512x2816) ![0, 0] S512x256.size inb_S512x2816_S512x256_0_0, k0_pay5 x1 x0 (View.ld x4 (Rect.unit (s := S1024x5632) ![0, 0] S1024x256.size inb_S1024x5632_S1024x256_0_0)) (View.ld x4 (Rect.unit (s := S1024x5632) ![0, 2816] S1024x256.size inb_S1024x5632_S1024x256_0_2816))⟩]

theorem canon_hid (L : List (View.Piece (Elt Ideal) S512x2816 .bf16)) (hL : L = hidPieces x0 x1 x4) : View.canon L = hid x0 x1 x2 x3 x4 x5 x6 := by
  subst hL
  refine canon_p x0 x1 x2 x3 x4 x5 x6 _ ?_ fun y => View.cover_of_tiledL (s := S512x2816) _ ![512, 256] (by sl_kernel_rfl) y
  unfold hidPieces
  repeat' first | exact List.forall_mem_nil _ | refine List.forall_mem_cons.2 ⟨fun x => ?_, ?_⟩
  all_goals
    obtain ⟨r, l, rfl⟩ : ∃ (r : Fin 512) (l : Fin 256), x = ix2 r l := ⟨x 0, x 1, by funext a; fin_cases a <;> rfl⟩
    unfold_payloads
    pointwise
    refine chunk x0 x1 x2 x3 x4 x5 x6 r _ _ _ ?_ ?_ ?_
  all_goals first | (blk_simp; done) | (blk_simp; omega) | (dsimp only; omega)

theorem out_7 (y) : out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = streamBlock x0 x1 x2 x3 x4 x5 x6 y := by
  frame_out
  simp only [readCov_ld, View.readCov_eq_canon']
  rw [canon_hid x0 x1 x2 x3 x4 x5 x6 _ (by sl_kernel_rfl)]
  rw [canon_stream x0 x1 x2 x3 x4 x5 x6 _ (by sl_kernel_rfl)]

theorem out_8 (y) : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = qkBlock x0 x1 x2 x3 x4 x5 x6 y := by
  frame_out
  simp only [readCov_ld, View.readCov_eq_canon']
  rw [canon_hid x0 x1 x2 x3 x4 x5 x6 _ (by sl_kernel_rfl)]
  rw [canon_qk x0 x1 x2 x3 x4 x5 x6 _ (by sl_kernel_rfl)]

theorem out_9 (y) : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = vtBlock x0 x1 x2 x3 x4 x5 x6 y := by
  frame_out
  simp only [readCov_ld, View.readCov_eq_canon']
  rw [canon_hid x0 x1 x2 x3 x4 x5 x6 _ (by sl_kernel_rfl)]
  rw [canon_vt x0 x1 x2 x3 x4 x5 x6 _ (by sl_kernel_rfl)]

theorem out_10 (y) : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = usBlock x0 x1 x2 x3 x4 x5 x6 y := by
  frame_out
  simp only [readCov_ld, View.readCov_eq_canon']
  rw [canon_hid x0 x1 x2 x3 x4 x5 x6 _ (by sl_kernel_rfl)]
  rw [canon_us x0 x1 x2 x3 x4 x5 x6 _ (by sl_kernel_rfl)]

end Cert.In
end
-- ==== Proof.InValue.lean ====
/-
  THE CALL'S RESULTS: a point writes the rows of its 512 tokens; together the points write every token's.
-/
module

public import proofs.«01_k».proof.Proof.InBody
public import Idealize.ShloMosaic.Lib.StableHlo.ReadAt

@[expose] public section

set_option maxRecDepth 65536

noncomputable section

namespace Cert.In

open Cert.FfnInIdeal Cert.FfnInIdeal.Gen Idealize.ShloMosaic Idealize.ShloMosaic.TcCoe

variable (m : (ℓ : Loc nD τ sig) → Buf (Elt Ideal) ℓ) (c : Dev nD)

/-- What the arguments hold. -/
def layer : Layer where
  w := {
    wup := fun j k => m (c, Proc.tc.devRef main_arg4) (ix3 0 j k)
    wdn := fun k j => m (c, Proc.tc.devRef main_arg5) (ix3 0 k j)
    win := fun j k => m (c, Proc.tc.devRef main_arg6) (ix3 0 j k)
    gain := fun j => m (c, Proc.tc.devRef main_arg2) (ix3 0 0 j)
    offset := fun j => m (c, Proc.tc.devRef main_arg3) (ix3 0 0 j) }
  x n j := m (c, Proc.tc.devRef main_arg0) (ix3 ⟨n / 4096, by omega⟩ ⟨n % 4096, by omega⟩ j)
  mod b i j := m (c, Proc.tc.devRef main_arg1) (ix3 ⟨b, by omega⟩ i j)

/-! ### The blocks of a point -/

theorem x_read (n : Fin 32768) (j : Fin 1024) : V m c main_v0 (ix2 n j) = (layer m c).x n j := by
  show _ = m (c, Proc.tc.devRef main_arg0) (ix3 ⟨n / 4096, by omega⟩ ⟨n % 4096, by omega⟩ j)
  unfold V
  after_reads_at
  blk_ext

theorem gain_read (i : Fin 3) (k : Fin 1024) : V m c main_v1 (ix2 i k) = m (c, Proc.tc.devRef main_arg2) (ix3 0 i k) := by
  unfold V
  after_reads_at

theorem offset_read (i : Fin 3) (k : Fin 1024) : V m c main_v2 (ix2 i k) = m (c, Proc.tc.devRef main_arg3) (ix3 0 i k) := by
  unfold V
  after_reads_at

theorem wup_read (i : Fin 1024) (k : Fin 5632) : V m c main_v4 (ix2 i k) = m (c, Proc.tc.devRef main_arg4) (ix3 0 i k) := by
  unfold V
  after_reads_at

theorem wdn_read (i : Fin 2816) (k : Fin 1024) : V m c main_v6 (ix2 i k) = m (c, Proc.tc.devRef main_arg5) (ix3 0 i k) := by
  unfold V
  after_reads_at

theorem win_read (i : Fin 1024) (k : Fin 2048) : V m c main_v8 (ix2 i k) = m (c, Proc.tc.devRef main_arg6) (ix3 0 i k) := by
  unfold V
  after_reads_at

theorem block2 (t : Fin cfg0.N) : (iblk m c 2 t : Vec Ideal S3x1024 .f32) = V m c main_v1 := by
  have idx : ∀ t : Fin cfg0.N, win0_2.index t = ![0, 0] := (by decide +kernel : ∀ t : Fin grid0.N, _)
  funext y
  obtain ⟨r, l, rfl⟩ : ∃ (r : Fin 3) (l : Fin 1024), y = ix2 r l := ⟨y 0, y 1, by funext a; fin_cases a <;> rfl⟩
  blk_ext [iblk, idx t]

theorem block3 (t : Fin cfg0.N) : (iblk m c 3 t : Vec Ideal S3x1024 .f32) = V m c main_v2 := by
  have idx : ∀ t : Fin cfg0.N, win0_3.index t = ![0, 0] := (by decide +kernel : ∀ t : Fin grid0.N, _)
  funext y
  obtain ⟨r, l, rfl⟩ : ∃ (r : Fin 3) (l : Fin 1024), y = ix2 r l := ⟨y 0, y 1, by funext a; fin_cases a <;> rfl⟩
  blk_ext [iblk, idx t]

theorem block4 (t : Fin cfg0.N) : (iblk m c 4 t : Vec Ideal S1024x5632 .bf16) = V m c main_v4 := by
  have idx : ∀ t : Fin cfg0.N, win0_4.index t = ![0, 0] := (by decide +kernel : ∀ t : Fin grid0.N, _)
  funext y
  obtain ⟨r, l, rfl⟩ : ∃ (r : Fin 1024) (l : Fin 5632), y = ix2 r l := ⟨y 0, y 1, by funext a; fin_cases a <;> rfl⟩
  blk_ext [iblk, idx t]

theorem block5 (t : Fin cfg0.N) : (iblk m c 5 t : Vec Ideal S2816x1024 .bf16) = V m c main_v6 := by
  have idx : ∀ t : Fin cfg0.N, win0_5.index t = ![0, 0] := (by decide +kernel : ∀ t : Fin grid0.N, _)
  funext y
  obtain ⟨r, l, rfl⟩ : ∃ (r : Fin 2816) (l : Fin 1024), y = ix2 r l := ⟨y 0, y 1, by funext a; fin_cases a <;> rfl⟩
  blk_ext [iblk, idx t]

theorem block6 (t : Fin cfg0.N) : (iblk m c 6 t : Vec Ideal S1024x2048 .bf16) = V m c main_v8 := by
  have idx : ∀ t : Fin cfg0.N, win0_6.index t = ![0, 0] := (by decide +kernel : ∀ t : Fin grid0.N, _)
  funext y
  obtain ⟨r, l, rfl⟩ : ∃ (r : Fin 1024) (l : Fin 2048), y = ix2 r l := ⟨y 0, y 1, by funext a; fin_cases a <;> rfl⟩
  blk_ext [iblk, idx t]

theorem block0 (t : Fin cfg0.N) (r : Fin 512) (l : Fin 1024) (n : Fin 32768) (hn : (n : ℕ) = 512 * t.val + r) :
    iblk m c 0 t (ix2 r l) = V m c main_v0 (ix2 n l) := by
  have idx : ∀ t : Fin cfg0.N, win0_0.index t = ![t.val, 0] := (by decide +kernel : ∀ t : Fin grid0.N, _)
  blk_ext [iblk, idx t]

theorem block1 (t : Fin cfg0.N) (i : Fin 9) (l : Fin 1024) (n : Fin 16) (hn : (n : ℕ) = t.val / 8) :
    iblk m c 1 t (ix3 0 i l) = V m c main_arg1 (ix3 n i l) := by
  have idx : ∀ t : Fin cfg0.N, win0_1.index t = ![t.val / 8, 0, 0] := (by decide +kernel : ∀ t : Fin grid0.N, _)
  blk_ext [iblk, idx t]

theorem bw_block (t : Fin cfg0.N) : bw (iblk m c 2 t) (iblk m c 3 t) (iblk m c 4 t) (iblk m c 5 t) (iblk m c 6 t) = (layer m c).w := by
  rw [block2, block3, block4, block5, block6]
  unfold bw layer
  congr 1 <;> funext i
  · funext k; exact wup_read m c i k
  · funext k; exact wdn_read m c i k
  · funext k; exact win_read m c i k
  · exact gain_read m c 0 i
  · exact offset_read m c 0 i

theorem brow_block (t : Fin cfg0.N) (r : Fin 512) (n : Fin 32768) (hn : (n : ℕ) = 512 * t.val + r) :
    brow (iblk m c 0 t) r = (layer m c).x n :=
  funext fun j => (block0 m c t r j n hn).trans (x_read m c n j)

theorem bmod_block (t : Fin cfg0.N) (b : Fin 8) (hb : (b : ℕ) = t.val / 8) : bmod (iblk m c 1 t) = (layer m c).mod b := by
  funext i j
  exact (block1 m c t i j ⟨b, by omega⟩ hb).trans (congrFun (V_main_arg1 m c) _)

theorem stream_block (t : Fin cfg0.N) (r : Fin 512) (n : Fin 32768) (hn : (n : ℕ) = 512 * t.val + r) (j : Fin 1024) :
    streamBlock (iblk m c 0 t) (iblk m c 1 t) (iblk m c 2 t) (iblk m c 3 t) (iblk m c 4 t) (iblk m c 5 t) (iblk m c 6 t) (ix2 r j) = (layer m c).stream n j := by
  show (bw (iblk m c 2 t) (iblk m c 3 t) (iblk m c 4 t) (iblk m c 5 t) (iblk m c 6 t)).stream (brow (iblk m c 0 t) r) (bmod (iblk m c 1 t)) j = _
  rw [bw_block, brow_block m c t r n hn, bmod_block m c t ⟨n / 4096, by omega⟩ (show n.val / 4096 = t.val / 8 by omega)]
  rfl

theorem proj_block (t : Fin cfg0.N) (r : Fin 512) (n : Fin 32768) (hn : (n : ℕ) = 512 * t.val + r) (k : Fin 2048) :
    proj (iblk m c 0 t) (iblk m c 1 t) (iblk m c 2 t) (iblk m c 3 t) (iblk m c 4 t) (iblk m c 5 t) (iblk m c 6 t) r k = (layer m c).projected n k := by
  unfold proj
  rw [bw_block, brow_block m c t r n hn, bmod_block m c t ⟨n / 4096, by omega⟩ (show n.val / 4096 = t.val / 8 by omega)]
  rfl

/-! ### The four results of a layer, as arrays -/

def streamArray (A : Layer) (i : S32768x1024.Idx) : EReal := A.stream (i 0) (i 1)

def queriesKeysArray (A : Layer) (i : S32768x1024.Idx) : EReal := A.queriesKeys (i 0) (i 1)

def valuesArray (A : Layer) (i : S128x512x256.Idx) : EReal := A.values (i 0) (i 1) (i 2)

def inputsArray (A : Layer) (i : S32x2048x256.Idx) : EReal := A.inputs (i 0) (i 1) (i 2)

/-! ### The four arrays after the run -/

/-- The stream. -/
theorem final_stream : (dats m 0 c).arrAt 7 cfg0.N = streamArray (layer m c) := by
  have idx : ∀ t : Fin cfg0.N, win0_7.index t = ![t.val, 0] := (by decide +kernel : ∀ t : Fin grid0.N, _)
  refine (dats m 0 c).arrAt_eq_of_covers 7 _ (by decide +kernel) fun t ht y => ?_
  have ht' : t.val < 64 := t.isLt
  blk_simp
  rw [after0_7]
  obtain ⟨r, l, rfl⟩ : ∃ (r : Fin 512) (l : Fin 1024), y = ix2 r l := ⟨y 0, y 1, by funext a; fin_cases a <;> rfl⟩
  have hr := r.isLt
  have e : (win0_7.blk t).view.emb (ix2 r l) = (ix2 (⟨512 * t.val + r, by omega⟩ : Fin 32768) l : S32768x1024.Idx) := by
    blk_ext [idx t]
  rw [e]
  simp only [outsAt0]
  refine (out_7 .. ).trans ?_
  exact stream_block m c t r _ rfl l

/-- Queries and keys. -/
theorem final_queriesKeys : (dats m 0 c).arrAt 8 cfg0.N = queriesKeysArray (layer m c) := by
  have idx : ∀ t : Fin cfg0.N, win0_8.index t = ![t.val, 0] := (by decide +kernel : ∀ t : Fin grid0.N, _)
  refine (dats m 0 c).arrAt_eq_of_covers 8 _ (by decide +kernel) fun t ht y => ?_
  have ht' : t.val < 64 := t.isLt
  blk_simp
  rw [after0_8]
  obtain ⟨r, l, rfl⟩ : ∃ (r : Fin 512) (l : Fin 1024), y = ix2 r l := ⟨y 0, y 1, by funext a; fin_cases a <;> rfl⟩
  have hr := r.isLt
  have e : (win0_8.blk t).view.emb (ix2 r l) = (ix2 (⟨512 * t.val + r, by omega⟩ : Fin 32768) l : S32768x1024.Idx) := by
    blk_ext [idx t]
  rw [e]
  simp only [outsAt0]
  refine (out_8 .. ).trans ?_
  exact congrArg (scaled l) (proj_block m c t r _ rfl _)

/-- The values. -/
theorem final_values : (dats m 0 c).arrAt 9 cfg0.N = valuesArray (layer m c) := by
  have idx : ∀ t : Fin cfg0.N, win0_9.index t = ![t.val, 0, 0] := (by decide +kernel : ∀ t : Fin grid0.N, _)
  refine (dats m 0 c).arrAt_eq_of_covers 9 _ (by decide +kernel) fun t ht y => ?_
  have ht' : t.val < 64 := t.isLt
  blk_simp
  rw [after0_9]
  obtain ⟨r, s, l, rfl⟩ : ∃ (r : Fin 2) (s : Fin 512) (l : Fin 256), y = ix3 r s l := ⟨y 0, y 1, y 2, by funext a; fin_cases a <;> rfl⟩
  have hr := r.isLt
  have hl := l.isLt
  have e : (win0_9.blk t).view.emb (ix3 r s l) = (ix3 (⟨2 * t.val + r, by omega⟩ : Fin 128) s l : S128x512x256.Idx) := by
    blk_ext [idx t]
  rw [e]
  simp only [outsAt0]
  refine (out_9 .. ).trans ?_
  exact proj_block m c t _ _ (show 256 * (2 * t.val + r.val) + l.val = 512 * t.val + (256 * r.val + l.val) by omega) _

/-- The S5 inputs. -/
theorem final_inputs : (dats m 0 c).arrAt 10 cfg0.N = inputsArray (layer m c) := by
  have idx : ∀ t : Fin cfg0.N, win0_10.index t = ![0, t.val, 0] := (by decide +kernel : ∀ t : Fin grid0.N, _)
  refine (dats m 0 c).arrAt_eq_of_covers 10 _ (by decide +kernel) fun t ht y => ?_
  have ht' : t.val < 64 := t.isLt
  blk_simp
  rw [after0_10]
  obtain ⟨r, s, l, rfl⟩ : ∃ (r : Fin 32) (s : Fin 32) (l : Fin 256), y = ix3 r s l := ⟨y 0, y 1, y 2, by funext a; fin_cases a <;> rfl⟩
  have hr := r.isLt
  have hs := s.isLt
  have hl := l.isLt
  have e : (win0_10.blk t).view.emb (ix3 r s l) = (ix3 r (⟨32 * t.val + s, by omega⟩ : Fin 2048) l : S32x2048x256.Idx) := by
    blk_ext [idx t]
  rw [e]
  simp only [outsAt0]
  refine (out_10 .. ).trans ?_
  exact proj_block m c t _ _ (show 16 * (32 * t.val + s.val) + l.val / 16 = 512 * t.val + (16 * s.val + l.val / 16) by omega) _

end Cert.In

end
-- ==== Proof.InRef.lean ====
/-
  THE REFERENCE, at every entry of its four results.
-/
module

public import proofs.«01_k».proof.Proof.InRow
public import proofs.«01_k».proof.Proof.Gen.InReferenceIdeal.Run
public import Idealize.ShloMosaic.Lib.Pipeline.ValueKit

@[expose] public section

set_option maxRecDepth 65536

noncomputable section

namespace Cert.In.Ref

open Cert.InReferenceIdeal Cert.InReferenceIdeal.Gen Cert.InReferenceIdeal.Value Idealize.ShloMosaic Idealize.ShloMosaic.TcCoe
open Cert.Out (num mean layerNorm)

variable (m : (ℓ : Loc nD τ sig) → Buf (Elt Ideal) ℓ) (c : Dev nD)

abbrev a0 : FVec Ideal S8x4096x1024 .f32 := m ((c.tc : Thread nD τ).loc main_arg0)
abbrev a1 : FVec Ideal S16x9x1024 .f32 := m ((c.tc : Thread nD τ).loc main_arg1)
abbrev a2 : FVec Ideal S1x3x1024 .f32 := m ((c.tc : Thread nD τ).loc main_arg2)
abbrev a3 : FVec Ideal S1x3x1024 .f32 := m ((c.tc : Thread nD τ).loc main_arg3)
abbrev a4 : FVec Ideal S1x1024x5632 .f32 := m ((c.tc : Thread nD τ).loc main_arg4)
abbrev a5 : FVec Ideal S1x2816x1024 .f32 := m ((c.tc : Thread nD τ).loc main_arg5)
abbrev a6 : FVec Ideal S1x1024x2048 .f32 := m ((c.tc : Thread nD τ).loc main_arg6)

/-- What the arguments hold. -/
def layer : Layer where
  w := {
    wup := fun j k => a4 m c (ix3 0 j k)
    wdn := fun k j => a5 m c (ix3 0 k j)
    win := fun j k => a6 m c (ix3 0 j k)
    gain := fun j => a2 m c (ix3 0 0 j)
    offset := fun j => a3 m c (ix3 0 0 j) }
  x n j := a0 m c (ix3 ⟨n / 4096, by omega⟩ ⟨n % 4096, by omega⟩ j)
  mod b i j := a1 m c (ix3 ⟨b, by omega⟩ i j)

/-- The row at place s of batch entry b. -/
def row (b : Fin 8) (s : Fin 4096) (j : Fin 1024) : EReal := a0 m c (ix3 b s j)

/-! ### The stages -/

/-- The modulation, nine rows side by side. -/
def mm : FVec Ideal S8x1x9216 .f32 := shapeCast _ (extractStridedSlice S8x9x1024 ![0, 0, 0] (a1 m c) slices_S16x9x1024_S8x9x1024_0_0_0) shapeCasts_S8x9x1024_S8x1x9216

def up : FVec Ideal S8x4096x5632 .f32 := Host.dotGeneral dot_S8x4096x1024_S1024x5632_S8x4096x5632_2_0_01_1_n_n none (addf (mulf (a0 m c) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] (mm m c) slices_S8x1x9216_S8x1x1024_0_0_1024)))) (broadcastInDim S8x4096x1024 ![0, 1, 2] bcast_S8x1x1024_S8x4096x1024_0_1_2 (extractStridedSlice S8x1x1024 ![0, 0, 0] (mm m c) slices_S8x1x9216_S8x1x1024_0_0_0))) (shapeCast _ (a4 m c) shapeCasts_S1x1024x5632_S1024x5632)

def gate : FVec Ideal S8x4096x2816 .f32 := extractStridedSlice S8x4096x2816 ![0, 0, 2816] (up m c) slices_S8x4096x5632_S8x4096x2816_0_0_2816

def pre : FVec Ideal S8x4096x1024 .f32 := addf (mulf (broadcastInDim S8x4096x1024 ![] bcast_S_S8x4096x1024 (constant S_ .f32 0x3F9837F0#32)) (a0 m c)) (mulf (broadcastInDim S8x4096x1024 ![0, 1, 2] bcast_S8x1x1024_S8x4096x1024_0_1_2 (mulf (broadcastInDim S8x1x1024 ![] bcast_S_S8x1x1024 (constant S_ .f32 0x3F000000#32)) (extractStridedSlice S8x1x1024 ![0, 0, 2048] (mm m c) slices_S8x1x9216_S8x1x1024_0_0_2048))) (Host.dotGeneral dot_S8x4096x2816_S2816x1024_S8x4096x1024_2_0_01_1_n_n none (mulf (mulf (gate m c) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (gate m c)))))) (extractStridedSlice S8x4096x2816 ![0, 0, 0] (up m c) slices_S8x4096x5632_S8x4096x2816_0_0_0)) (shapeCast _ (a5 m c) shapeCasts_S1x2816x1024_S2816x1024)))

def center : FVec Ideal S8x4096x1 .f32 := (Host.divf (broadcastInDim S8x4096x1 ![0, 1] bcast_S8x4096_S8x4096x1_0_1 (Host.reduceAdd (pre m c) (constant S_ .f32 0x00000000#32) reducesTo_S8x4096x1024_S8x4096_d2 h_S_)) (broadcastInDim S8x4096x1 ![] bcast_S_S8x4096x1 (constant S_ .f32 0x44800000#32)))

def dev : FVec Ideal S8x4096x1024 .f32 := subf (pre m c) (broadcastInDim S8x4096x1024 ![0, 1, 2] bcast_S8x4096x1_S8x4096x1024_0_1_2 (center m c))

def stream : FVec Ideal S8x4096x1024 .f32 := addf (mulf (mulf (dev m c) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (dev m c) (dev m c)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1x1024 ![0, 0, 0] (a2 m c) slices_S1x3x1024_S1x1x1024_0_0_0) shapeCasts_S1x1x1024_S1024)))) (broadcastInDim S8x4096x1024 ![0, 1, 2] bcast_S1x1x1024_S8x4096x1024_0_1_2 (broadcastInDim S1x1x1024 ![2] bcast_S1024_S1x1x1024_2 (shapeCast _ (extractStridedSlice S1x1x1024 ![0, 0, 0] (a3 m c) slices_S1x3x1024_S1x1x1024_0_0_0) shapeCasts_S1x1x1024_S1024)))

def proj : FVec Ideal S8x4096x2048 .f32 := Host.dotGeneral dot_S8x4096x1024_S1024x2048_S8x4096x2048_2_0_01_1_n_n none (addf (mulf (stream m c) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 4096] (mm m c) slices_S8x1x9216_S8x1x1024_0_0_4096)))) (broadcastInDim S8x4096x1024 ![0, 1, 2] bcast_S8x1x1024_S8x4096x1024_0_1_2 (extractStridedSlice S8x1x1024 ![0, 0, 3072] (mm m c) slices_S8x1x9216_S8x1x1024_0_0_3072))) (shapeCast _ (a6 m c) shapeCasts_S1x1024x2048_S1024x2048)

def qk : FVec Ideal S8x4096x1024 .bf16 := truncf .bf16 (concatenate S8x4096x1024 2 [⟨S8x4096x512, mulf (extractStridedSlice S8x4096x512 ![0, 0, 0] (proj m c) slices_S8x4096x2048_S8x4096x512_0_0_0) (broadcastInDim S8x4096x512 ![] bcast_S_S8x4096x512 (constant S_ .f32 0x3E38AA3B#32))⟩, ⟨S8x4096x512, extractStridedSlice S8x4096x512 ![0, 0, 512] (proj m c) slices_S8x4096x2048_S8x4096x512_0_0_512⟩] concatenates_S8x4096x512_S8x4096x512_S8x4096x1024_d2) bitsLt_bf16_f32

theorem res_stream : res_main_v79 m c = shapeCast _ (stream m c) shapeCasts_S8x4096x1024_S32768x1024 := rfl

theorem res_qk : res_main_v81 m c = shapeCast _ (qk m c) shapeCasts_S8x4096x1024_S32768x1024 := rfl

theorem res_values : res_main_v82 m c = truncf .bf16 (transpose S128x512x256 [0, 2, 1] (shapeCast _ (extractStridedSlice S8x4096x512 ![0, 0, 1024] (proj m c) slices_S8x4096x2048_S8x4096x512_0_0_1024) shapeCasts_S8x4096x512_S128x256x512) transposes_S128x256x512_S128x512x256_0_2_1) bitsLt_bf16_f32 := rfl

theorem res_inputs : res_main_v83 m c = shapeCast _ (transpose S32x2048x16x16 [2, 0, 1, 3] (shapeCast _ (extractStridedSlice S8x4096x512 ![0, 0, 1536] (proj m c) slices_S8x4096x2048_S8x4096x512_0_0_1536) shapeCasts_S8x4096x512_S2048x16x32x16) transposes_S2048x16x32x16_S32x2048x16x16_2_0_1_3) shapeCasts_S32x2048x16x16_S32x2048x256 := rfl

/-! ### Their entries -/

theorem up_at (b : Fin 8) (s : Fin 4096) (k : Fin 5632) : up m c (ix3 b s k)
    = (layer m c).w.up (modulated (row m c b s) ((layer m c).mod b 1) ((layer m c).mod b 0)) k := by
  pointwise [up, mm]
  refine Fin.sum_fin_congr fun j => ?_
  have e1 : (⟨(1024 + (j : ℕ)) / 1024, by omega⟩ : Fin 9) = 1 := Fin.ext (by show (1024 + (j : ℕ)) / 1024 = 1; omega)
  have e0 : (⟨(j : ℕ) / 1024, by omega⟩ : Fin 9) = 0 := Fin.ext (by show (j : ℕ) / 1024 = 0; omega)
  have f0 : (⟨(j : ℕ) % 1024, by omega⟩ : Fin 1024) = j := Fin.ext (by show (j : ℕ) % 1024 = j; omega)
  rw [e1, e0, f0]
  rfl

theorem gate_at (b : Fin 8) (s : Fin 4096) (k : Fin 2816) : gate m c (ix3 b s k)
    = (layer m c).w.up (modulated (row m c b s) ((layer m c).mod b 1) ((layer m c).mod b 0)) ⟨2816 + k, by omega⟩ := by
  pointwise [gate, up_at]

theorem pre_at (b : Fin 8) (s : Fin 4096) (j : Fin 1024) : pre m c (ix3 b s j)
    = num 0x3F9837F0#32 * row m c b s j + num 0x3F000000#32 * (layer m c).mod b 2 j
      * (layer m c).w.down (modulated (row m c b s) ((layer m c).mod b 1) ((layer m c).mod b 0)) j := by
  pointwise [pre, mm, gate_at, up_at]
  have e : (⟨(2048 + (j : ℕ)) / 1024, by omega⟩ : Fin 9) = 2 := Fin.ext (by show (2048 + (j : ℕ)) / 1024 = 2; omega)
  rw [e]
  rfl

theorem center_at (b : Fin 8) (s : Fin 4096) : center m c (ix3 b s 0) = mean fun j => pre m c (ix3 b s j) := by
  pointwise [center]
  rfl

theorem dev_at (b : Fin 8) (s : Fin 4096) (j : Fin 1024) :
    dev m c (ix3 b s j) = (show EReal from pre m c (ix3 b s j)) - mean fun k => pre m c (ix3 b s k) := by
  pointwise [dev, center_at]

theorem stream_at (b : Fin 8) (s : Fin 4096) (j : Fin 1024) :
    stream m c (ix3 b s j) = (layer m c).w.stream (row m c b s) ((layer m c).mod b) j := by
  have e : (fun j => pre m c (ix3 b s j)) = _ := funext (pre_at m c b s)
  refine Eq.trans ?_ (congrArg (fun r => layerNorm r (layer m c).w.gain (layer m c).w.offset j) e)
  pointwise [stream]
  simp only [dev_at]
  rfl

theorem proj_at (b : Fin 8) (s : Fin 4096) (k : Fin 2048) :
    proj m c (ix3 b s k) = (layer m c).w.projected (row m c b s) ((layer m c).mod b) k := by
  pointwise [proj, mm, stream_at]
  refine Fin.sum_fin_congr fun j => ?_
  have e4 : (⟨(4096 + (j : ℕ)) / 1024, by omega⟩ : Fin 9) = 4 := Fin.ext (by show (4096 + (j : ℕ)) / 1024 = 4; omega)
  have e3 : (⟨(3072 + (j : ℕ)) / 1024, by omega⟩ : Fin 9) = 3 := Fin.ext (by show (3072 + (j : ℕ)) / 1024 = 3; omega)
  rw [e4, e3]
  rfl

/-! ### The results -/

theorem entry_of (b : Fin 8) (s : Fin 4096) (n : Fin 32768) (h : (n : ℕ) = b * 4096 + s) : (⟨n / 4096, by omega⟩ : Fin 8) = b :=
  Fin.ext (show n.val / 4096 = b.val by omega)

theorem row_of (b : Fin 8) (s : Fin 4096) (n : Fin 32768) (h : (n : ℕ) = b * 4096 + s) : (layer m c).x n = row m c b s := by
  have es : (⟨n % 4096, by omega⟩ : Fin 4096) = s := Fin.ext (show n.val % 4096 = s.val by omega)
  show (fun j => a0 m c (ix3 ⟨n / 4096, by omega⟩ ⟨n % 4096, by omega⟩ j)) = _
  rw [entry_of b s n h, es]
  rfl

theorem stream_of (b : Fin 8) (s : Fin 4096) (n : Fin 32768) (h : (n : ℕ) = b * 4096 + s) (j : Fin 1024) :
    stream m c (ix3 b s j) = (layer m c).stream n j := by
  rw [stream_at, Layer.stream, row_of m c b s n h, entry_of b s n h]

theorem proj_of (b : Fin 8) (s : Fin 4096) (k : Fin 2048) (n : Fin 32768) (h : (n : ℕ) = b * 4096 + s) :
    proj m c (ix3 b s k) = (layer m c).projected n k := by
  rw [proj_at, Layer.projected, row_of m c b s n h, entry_of b s n h]

theorem split_at {e : EltTy} (X : S8x4096x1024.Idx → Elt Ideal e) (n : Fin 32768) (j : Fin 1024) :
    shapeCast S32768x1024 X shapeCasts_S8x4096x1024_S32768x1024 (ix2 n j)
      = X (ix3 ⟨(n : ℕ) / 4096, by omega⟩ ⟨(n : ℕ) % 4096, by omega⟩ j) := by
  pointwise
  blk_ext

theorem qk_at (b : Fin 8) (s : Fin 4096) (k : Fin 1024) :
    qk m c (ix3 b s k) = scaled k (proj m c (ix3 b s ⟨k, by omega⟩)) := by
  by_cases h : (k : ℕ) < 512
  · pointwise [qk]
    rw [scaled, if_pos h]
    simp only [h, ↓reduceDIte, ↓reduceIte]
  · pointwise [qk]
    rw [scaled, if_neg h]
    simp only [h, ↓reduceDIte, ↓reduceIte]
    refine congrArg (fun l => proj m c (ix3 b s l)) (Fin.ext ?_)
    show 512 + ((k : ℕ) - 512) = k
    omega

theorem stream_flat : shapeCast S32768x1024 (stream m c) shapeCasts_S8x4096x1024_S32768x1024
    = (fun i => (layer m c).stream (i 0) (i 1) : S32768x1024.Idx → EReal) := by
  funext i
  obtain ⟨n, j, rfl⟩ : ∃ (n : Fin 32768) (j : Fin 1024), i = ix2 n j := ⟨i 0, i 1, by funext a; fin_cases a <;> rfl⟩
  have h := stream_of m c ⟨n / 4096, by omega⟩ ⟨n % 4096, by omega⟩ n (show (n : ℕ) = n.val / 4096 * 4096 + n.val % 4096 by omega) j
  generalize stream m c = X at h ⊢
  exact (split_at (e := .f32) X n j).trans h

theorem stream_eq : res_main_v79 m c = fun i => (layer m c).stream (i 0) (i 1) := (res_stream m c).trans (stream_flat m c)

theorem queriesKeys_eq : res_main_v81 m c = fun i => (layer m c).queriesKeys (i 0) (i 1) := by
  funext i
  obtain ⟨n, k, rfl⟩ : ∃ (n : Fin 32768) (k : Fin 1024), i = ix2 n k := ⟨i 0, i 1, by funext a; fin_cases a <;> rfl⟩
  rw [res_qk]
  refine (split_at (e := .bf16) (qk m c) n k).trans ((qk_at m c _ _ k).trans ?_)
  exact congrArg (scaled k) (proj_of m c _ _ _ n (show (n : ℕ) = n.val / 4096 * 4096 + n.val % 4096 by omega))

theorem values_eq : res_main_v82 m c = fun i => (layer m c).values (i 0) (i 1) (i 2) := by
  funext i
  obtain ⟨b, k, r, rfl⟩ : ∃ (b : Fin 128) (k : Fin 512) (r : Fin 256), i = ix3 b k r := ⟨i 0, i 1, i 2, by funext a; fin_cases a <;> rfl⟩
  have hr := r.isLt
  rw [res_values]
  refine Eq.trans ?_ (proj_of m c ⟨(256 * b + r) / 4096, by omega⟩ ⟨(256 * b + r) % 4096, by omega⟩ ⟨1024 + k, by omega⟩ ⟨256 * b + r, by omega⟩
    (show 256 * b.val + r.val = (256 * b.val + r.val) / 4096 * 4096 + (256 * b.val + r.val) % 4096 by omega))
  generalize proj m c = P
  pointwise
  blk_ext

theorem inputs_eq : res_main_v83 m c = fun i => (layer m c).inputs (i 0) (i 1) (i 2) := by
  funext i
  obtain ⟨g, s, l, rfl⟩ : ∃ (g : Fin 32) (s : Fin 2048) (l : Fin 256), i = ix3 g s l := ⟨i 0, i 1, i 2, by funext a; fin_cases a <;> rfl⟩
  have hl := l.isLt
  rw [res_inputs]
  refine Eq.trans ?_ (proj_of m c ⟨(16 * s + l / 16) / 4096, by omega⟩ ⟨(16 * s + l / 16) % 4096, by omega⟩ ⟨1536 + 16 * g + l % 16, by omega⟩ ⟨16 * s + l / 16, by omega⟩
    (show 16 * s.val + l.val / 16 = (16 * s.val + l.val / 16) / 4096 * 4096 + (16 * s.val + l.val / 16) % 4096 by omega))
  generalize proj m c = P
  pointwise
  blk_ext

end Cert.In.Ref

end
-- ==== Proof.AdaRow.lean ====
/-
  THE MODULATION OF A LAYER: every row of conditions passes through x · logistic x and the layer's projection, and the
  layer's offset is added. Rows 0 to 7 are the batch's, row 8 is the context's, the others are zero.
-/
module

public import Idealize.ShloMosaic.PureOps.Ideal
public import Idealize.ShloMosaic.Lib.Pipeline.ValueKit

@[expose] public section

noncomputable section

namespace Cert.Modulation

open Idealize.ShloMosaic

/-- x · logistic x. -/
def silu (x : EReal) : EReal := x * Ideal.logistic x

/-- One entry: the row's images against a column of the projection, and the offset. -/
def entry (x w : Fin 1024 → EReal) (b : EReal) : EReal := (∑ j, silu (x j) * w j) + b

/-- What the arguments hold. -/
structure Layer where
  cond : Fin 8 → Fin 1024 → EReal
  ctx : Fin 1024 → EReal
  w : Fin 1024 → Fin 9216 → EReal
  b : Fin 9216 → EReal

/-- The sixteen rows of conditions. -/
def Layer.row (A : Layer) (r : Fin 16) (j : Fin 1024) : EReal :=
  if h : r.val < 8 then A.cond ⟨r, h⟩ j else if r.val = 8 then A.ctx j else 0

/-- The modulation. -/
def Layer.out (A : Layer) (r : Fin 16) (k : Fin 9216) : EReal := entry (A.row r) (fun j => A.w j k) (A.b k)

/-- A number that is not infinite. -/
def IsNumber (x : EReal) : Prop := x ≠ ⊤ ∧ x ≠ ⊥

theorem real_coe (r : ℝ) : IsNumber (r : EReal) := ⟨EReal.coe_ne_top r, EReal.coe_ne_bot r⟩

theorem real_silu {x : EReal} (h : IsNumber x) : IsNumber (silu x) := by
  lift x to ℝ using h
  unfold silu
  rw [Ideal.logistic_coe, ← EReal.coe_mul]
  exact real_coe _

theorem silu_zero : silu 0 = 0 := zero_mul _

/-- A row of zeros leaves the offset alone. -/
theorem entry_zero (w : Fin 1024 → EReal) (b : EReal) : entry (fun _ => 0) w b = b := by
  unfold entry
  simp only [silu_zero, zero_mul, Finset.sum_const_zero, zero_add]

/-- The products with what is left of a factor after its own value is taken away vanish when the factors are numbers. -/
theorem parts (x w : Fin 1024 → EReal) (b : EReal) (hx : ∀ j, IsNumber (x j)) (hw : ∀ j, IsNumber (w j)) :
    (∑ j, silu (x j) * w j) + ((∑ j, (silu (x j) - silu (x j)) * w j) + ∑ j, silu (x j) * (w j - w j)) + b = entry x w b := by
  have h1 : ∀ j, silu (x j) - silu (x j) = 0 := fun j => EReal.sub_self (real_silu (hx j)).1 (real_silu (hx j)).2
  have h2 : ∀ j, w j - w j = 0 := fun j => EReal.sub_self (hw j).1 (hw j).2
  simp only [h1, h2, zero_mul, mul_zero, Finset.sum_const_zero, add_zero]
  rfl

end Cert.Modulation

end
-- ==== Proof.AdaRef.lean ====
/-
  THE REFERENCE, at every entry of its result.
-/
module

public import proofs.«01_k».proof.Proof.AdaRow
public import proofs.«01_k».proof.Proof.Gen.AdaReferenceIdeal.Run

@[expose] public section

set_option maxRecDepth 65536

noncomputable section

namespace Cert.Modulation.Ref

open Cert.AdaReferenceIdeal Cert.AdaReferenceIdeal.Gen Cert.AdaReferenceIdeal.Value Idealize.ShloMosaic

variable (a0 : FVec Ideal S8x1024 .f32) (a1 : FVec Ideal S1024 .f32) (a2 : FVec Ideal S1x1024x9216 .f32) (a3 : FVec Ideal S1x9216 .f32)

/-- What the arguments hold. -/
def layer : Layer where
  cond r j := a0 (ix2 r j)
  ctx j := a1 (ix1 j)
  w j k := a2 (ix3 0 j k)
  b k := a3 (ix2 0 k)

/-- The batch's rows. -/
def batch : FVec Ideal S8x9216 .f32 := addf (Host.dotGeneral dot_S8x1024_S1024x9216_S8x9216_1_0_0_1_n_n none (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) (shapeCast _ a2 shapeCasts_S1x1024x9216_S1024x9216)) (broadcastInDim S8x9216 ![0, 1] bcast_S1x9216_S8x9216_0_1 (broadcastInDim S1x9216 ![1] bcast_S9216_S1x9216_1 (shapeCast _ a3 shapeCasts_S1x9216_S9216)))

/-- The context's row. -/
def context : FVec Ideal S1x9216 .f32 := broadcastInDim S1x9216 ![1] bcast_S9216_S1x9216_1 (addf (Host.dotGeneral dot_S1024_S1024x9216_S9216_0_0_n_1_n_n none (mulf a1 (Host.divf (broadcastInDim S1024 ![] bcast_S_S1024 (constant S_ .f32 0x3F800000#32)) (addf (broadcastInDim S1024 ![] bcast_S_S1024 (constant S_ .f32 0x3F800000#32)) (Host.exp (Host.negf a1))))) (shapeCast _ a2 shapeCasts_S1x1024x9216_S1024x9216)) (shapeCast _ a3 shapeCasts_S1x9216_S9216))

/-- The rows that belong to nothing. -/
def rest : FVec Ideal S7x9216 .f32 := broadcastInDim S7x9216 ![0, 1] bcast_S1x9216_S7x9216_0_1 a3

/-- The result. -/
def result : FVec Ideal S16x9216 .f32 := concatenate S16x9216 0 [⟨S8x9216, batch a0 a2 a3⟩, ⟨S1x9216, context a1 a2 a3⟩, ⟨S7x9216, rest a3⟩] concatenates_S8x9216_S1x9216_S7x9216_S16x9216_d0

theorem batch_at (r : Fin 8) (k : Fin 9216) : batch a0 a2 a3 (ix2 r k)
    = entry (fun j => a0 (ix2 r j)) (fun j => a2 (ix3 0 j k)) (a3 (ix2 0 k)) := by
  pointwise [batch]
  rfl

theorem context_at (k : Fin 9216) : context a1 a2 a3 (ix2 0 k)
    = entry (fun j => a1 (ix1 j)) (fun j => a2 (ix3 0 j k)) (a3 (ix2 0 k)) := by
  pointwise [context]
  rfl

theorem rest_at (r : Fin 7) (k : Fin 9216) : rest a3 (ix2 r k) = a3 (ix2 0 k) := by
  pointwise [rest]

theorem result_at (r : Fin 16) (k : Fin 9216) : result a0 a1 a2 a3 (ix2 r k) = (layer a0 a1 a2 a3).out r k := by
  pointwise [result]
  have zero_row : ∀ h : ¬ r.val < 8, r.val ≠ 8 → (layer a0 a1 a2 a3).row r = fun _ => 0 := fun h h' =>
    funext fun j => (dif_neg h).trans (if_neg h')
  by_cases h : r.val < 8
  · rw [dif_pos h, batch_at]
    unfold Layer.out
    rw [show (layer a0 a1 a2 a3).row r = fun j => a0 (ix2 ⟨r, h⟩ j) from funext fun j => dif_pos h]
    rfl
  · rw [dif_neg h]
    by_cases h' : r.val = 8
    · rw [dif_pos (by omega), show (⟨r.val - 8, by omega⟩ : Fin 1) = 0 from Subsingleton.elim _ _, context_at]
      unfold Layer.out
      rw [show (layer a0 a1 a2 a3).row r = fun j => a1 (ix1 j) from funext fun j => (dif_neg h).trans (if_pos h')]
      rfl
    · rw [dif_neg (by omega), rest_at]
      unfold Layer.out
      rw [zero_row h h', entry_zero]
      rfl

end Cert.Modulation.Ref

end
-- ==== Proof.AdaRows.lean ====
/-
  TWO ROW WRITES: a block of rows set at the top of an array, and one row set at a given place.
-/
module

public import Idealize.ShloMosaic.Lib.Routing.OpsSet
public import Idealize.ShloMosaic.Lib.Routing.OpsOne
public import proofs.«01_k».proof.Proof.Gen.AdaIdeal

@[expose] public section

namespace Cert.Modulation

open Idealize.ShloMosaic Idealize.ShloMosaic.ValueIdx Idealize.ShloMosaic.Routing Cert.AdaIdeal Cert.AdaIdeal.Gen

variable (idx : IVec S1 32)

/-- Row r of the block lands at row r. -/
theorem lands_block (h : idx (ix1 0) = 0#32) (r : Fin 8) (j : Fin 1024) (R : Fin 16) (J : Fin 1024) :
    scatter_S16x1024_S1_S8x1024_01_n_0_0.resultIdx? (ix2 r j) idx = some (ix2 R J) ↔ r.val = R.val ∧ j = J := by
  have w0 : scatter_S16x1024_S1_S8x1024_01_n_0_0.window (ix2 r j) 0 = r.val := rfl
  have w1 : scatter_S16x1024_S1_S8x1024_01_n_0_0.window (ix2 r j) 1 = j.val := rfl
  have s1 : scatter_S16x1024_S1_S8x1024_01_n_0_0.start (ix2 r j) idx 1 = 0 := rfl
  have s0 : scatter_S16x1024_S1_S8x1024_01_n_0_0.start (ix2 r j) idx 0 = 0 := by
    have e : scatter_S16x1024_S1_S8x1024_01_n_0_0.start (ix2 r j) idx 0 = (idx (ix1 0)).toInt :=
      congrArg (fun i => (idx i).toInt) (by funext b; match b with | ⟨0, _⟩ => exact Subsingleton.elim (α := Fin 1) _ _)
    rw [e, h]; rfl
  rw [Fin.ext_iff, resultIdx?_ix2, s0, s1, w0, w1]
  omega

/-- The row lands at row 8. -/
theorem lands_row (h : idx (ix1 0) = 8#32) (j : Fin 1024) (R : Fin 16) (J : Fin 1024) :
    scatter_S16x1024_S1_S1024_0_0_0_0.resultIdx? (ix1 j) idx = some (ix2 R J) ↔ R.val = 8 ∧ j = J := by
  have w0 : scatter_S16x1024_S1_S1024_0_0_0_0.window (ix1 j) 0 = 0 := rfl
  have w1 : scatter_S16x1024_S1_S1024_0_0_0_0.window (ix1 j) 1 = j.val := rfl
  have s1 : scatter_S16x1024_S1_S1024_0_0_0_0.start (ix1 j) idx 1 = 0 := rfl
  have s0 : scatter_S16x1024_S1_S1024_0_0_0_0.start (ix1 j) idx 0 = 8 := by
    have e : scatter_S16x1024_S1_S1024_0_0_0_0.start (ix1 j) idx 0 = (idx (ix1 0)).toInt :=
      congrArg (fun i => (idx i).toInt) (by funext b; match b with | ⟨0, _⟩ => exact Subsingleton.elim (α := Fin 1) _ _)
    rw [e, h]; rfl
  rw [Fin.ext_iff, resultIdx?_ix2, s0, s1, w0, w1]
  omega

/-- The block set at the top: its rows there, the operand's elsewhere. -/
theorem set_block {α : Type} (x : S16x1024.Idx → α) (u : S8x1024.Idx → α) (h : idx (ix1 0) = 0#32) (R : Fin 16) (J : Fin 1024) :
    Host.scatter scatter_S16x1024_S1_S8x1024_01_n_0_0 (fun _ b => b) x idx u (ix2 R J)
      = if h : R.val < 8 then u (ix2 ⟨R, h⟩ J) else x (ix2 R J) := by
  have lands : ∀ k : S8x1024.Idx, scatter_S16x1024_S1_S8x1024_01_n_0_0.resultIdx? k idx = some (ix2 R J) →
      (k 0).val = R.val ∧ k 1 = J := fun k hk =>
    (lands_block idx h (k 0) (k 1) R J).1 ((congrArg (fun t => scatter_S16x1024_S1_S8x1024_01_n_0_0.resultIdx? t idx) (eq_ix2 k).symm).trans hk)
  by_cases hR : R.val < 8
  · rw [dif_pos hR]
    refine scatter_set_hit _ x idx u _ _ (fun k hk => congrArg u ((eq_ix2 k).trans ?_)) (ix2 ⟨R, hR⟩ J) ((lands_block idx h _ _ R J).2 ⟨rfl, rfl⟩)
    obtain ⟨e0, e1⟩ := lands k hk
    exact congr (congrArg ix2 (Fin.ext e0)) e1
  · rw [dif_neg hR]
    exact scatter_set_miss _ x idx u _ fun k hk => hR ((lands k hk).1 ▸ (k 0).isLt)

/-- The row set at place 8: the row there, the operand's elsewhere. -/
theorem set_row {α : Type} (x : S16x1024.Idx → α) (u : S1024.Idx → α) (h : idx (ix1 0) = 8#32) (R : Fin 16) (J : Fin 1024) :
    Host.scatter scatter_S16x1024_S1_S1024_0_0_0_0 (fun _ b => b) x idx u (ix2 R J)
      = if R.val = 8 then u (ix1 J) else x (ix2 R J) := by
  have lands : ∀ k : S1024.Idx, scatter_S16x1024_S1_S1024_0_0_0_0.resultIdx? k idx = some (ix2 R J) →
      R.val = 8 ∧ k 0 = J := fun k hk =>
    (lands_row idx h (k 0) R J).1 ((congrArg (fun t => scatter_S16x1024_S1_S1024_0_0_0_0.resultIdx? t idx) (eq_ix1 k).symm).trans hk)
  by_cases hR : R.val = 8
  · rw [if_pos hR]
    exact scatter_set_hit _ x idx u _ _ (fun k hk => congrArg u ((eq_ix1 k).trans (congrArg ix1 (lands k hk).2))) (ix1 J)
      ((lands_row idx h _ R J).2 ⟨hR, rfl⟩)
  · rw [if_neg hR]
    exact scatter_set_miss _ x idx u _ fun k hk => hR (lands k hk).1

end Cert.Modulation
-- ==== Proof.AdaValue.lean ====
/-
  THE CALL'S RESULT: a point writes 1152 columns of the modulation; together the points write every column.
-/
module

public import proofs.«01_k».proof.Proof.AdaRow
public import proofs.«01_k».proof.Proof.AdaRows
public import proofs.«01_k».proof.Proof.Gen.AdaIdeal.Value
public import Idealize.ShloMosaic.Lib.StableHlo.ReadAt

@[expose] public section

set_option maxRecDepth 65536

noncomputable section

namespace Cert.Modulation

open Cert.AdaIdeal Cert.AdaIdeal.Gen Idealize.ShloMosaic Idealize.ShloMosaic.TcCoe

/-! ### The body -/

/-- What the body stores, entry by entry. -/
theorem stored_at (x0 : Vec Ideal S16x1024 .f32) (x1 : Vec Ideal S1024x1152 .f32) (x2 : Vec Ideal S1x1152 .f32) (r : Fin 16) (l : Fin 1152)
    (hx : ∀ j, IsNumber (x0 (ix2 r j))) (hw : ∀ j, IsNumber (x1 (ix2 j l))) :
    k0_pay1 x0 x1 x2 (ix2 r l) = entry (fun j => x0 (ix2 r j)) (fun j => x1 (ix2 j l)) (x2 (ix2 0 l)) := by
  refine Eq.trans ?_ (parts _ _ _ hx hw)
  unfold k0_pay1
  pointwise
  rfl

/-- What the body leaves in its output block, entry by entry. -/
theorem left_at (x0 : Vec Ideal S16x1024 .f32) (x1 : Vec Ideal S1024x1152 .f32) (x2 : Vec Ideal S1x1152 .f32) (r : Fin 16) (l : Fin 1152)
    (hx : ∀ j, IsNumber (x0 (ix2 r j))) (hw : ∀ j, IsNumber (x1 (ix2 j l))) :
    out0_3 x0 x1 x2 (ix2 r l) = entry (fun j => x0 (ix2 r j)) (fun j => x1 (ix2 j l)) (x2 (ix2 0 l)) := by
  refine Eq.trans ?_ (stored_at x0 x1 x2 r l hx hw)
  have z : (![0, 0] : Fin 2 → ℕ) = fun _ => 0 := by decide
  unfold out0_3
  rw [View.canon_unit_zero z, View.ld_unit_zero z, View.ld_unit_zero z, View.ld_unit_zero z]

variable (m : (ℓ : Loc nD τ sig) → Buf (Elt Ideal) ℓ) (c : Dev nD)

/-- What the arguments hold. -/
def held : Layer where
  cond r j := m (c, Proc.tc.devRef main_arg0) (ix2 r j)
  ctx j := m (c, Proc.tc.devRef main_arg1) (ix1 j)
  w j k := m (c, Proc.tc.devRef main_arg2) (ix3 0 j k)
  b k := m (c, Proc.tc.devRef main_arg3) (ix2 0 k)

/-! ### The blocks of a point -/

theorem zero_word : (FloatOps.ofBits .f32 0x00000000#32 : Ideal .f32) = (0 : EReal) := by
  simp [FloatOps.ofBits, Ideal.ofBits, Ideal.ieee]

theorem rows_read (r : Fin 16) (j : Fin 1024) : V m c main_v4 (ix2 r j) = (held m c).row r j := by
  unfold V
  after_reads_at
  refine (set_row _ _ _ rfl r j).trans ?_
  unfold Layer.row
  by_cases h' : r.val = 8
  · rw [if_pos h', dif_neg (by omega), if_pos h']
    rfl
  · rw [if_neg h', if_neg h']
    refine (set_block _ _ _ rfl r j).trans ?_
    by_cases h : r.val < 8
    · rw [dif_pos h, dif_pos h]
      rfl
    · rw [dif_neg h, dif_neg h]
      exact zero_word

theorem w_read (j : Fin 1024) (k : Fin 9216) : V m c main_v5 (ix2 j k) = (held m c).w j k := by
  show _ = m (c, Proc.tc.devRef main_arg2) (ix3 0 j k)
  unfold V
  after_reads_at

theorem b_read (k : Fin 9216) : V m c main_v7 (ix2 0 k) = (held m c).b k := by
  show _ = m (c, Proc.tc.devRef main_arg3) (ix2 0 k)
  unfold V
  after_reads_at

theorem block0 (t : Fin cfg0.N) : (iblk m c 0 t : Vec Ideal S16x1024 .f32) = V m c main_v4 := by
  have idx : ∀ t : Fin cfg0.N, win0_0.index t = ![0, 0] := (by decide +kernel : ∀ t : Fin grid0.N, _)
  funext y
  obtain ⟨r, l, rfl⟩ : ∃ (r : Fin 16) (l : Fin 1024), y = ix2 r l := ⟨y 0, y 1, by funext a; fin_cases a <;> rfl⟩
  blk_ext [iblk, idx t]

theorem block1 (t : Fin cfg0.N) (j : Fin 1024) (l : Fin 1152) (k : Fin 9216) (hk : (k : ℕ) = 1152 * t.val + l) :
    iblk m c 1 t (ix2 j l) = V m c main_v5 (ix2 j k) := by
  have idx : ∀ t : Fin cfg0.N, win0_1.index t = ![0, t.val] := (by decide +kernel : ∀ t : Fin grid0.N, _)
  blk_ext [iblk, idx t]

theorem block2 (t : Fin cfg0.N) (l : Fin 1152) (k : Fin 9216) (hk : (k : ℕ) = 1152 * t.val + l) :
    iblk m c 2 t (ix2 0 l) = V m c main_v7 (ix2 0 k) := by
  have idx : ∀ t : Fin cfg0.N, win0_2.index t = ![0, t.val] := (by decide +kernel : ∀ t : Fin grid0.N, _)
  blk_ext [iblk, idx t]

/-! ### The array after the run -/

/-- The modulation, as an array. -/
def outArray (A : Layer) (i : S16x9216.Idx) : EReal := A.out (i 0) (i 1)

/-- Every number that the conditions and the projection hold is finite. -/
structure Layer.Numbers (A : Layer) : Prop where
  cond : ∀ r j, IsNumber (A.cond r j)
  ctx : ∀ j, IsNumber (A.ctx j)
  w : ∀ j k, IsNumber (A.w j k)

theorem Layer.Numbers.row {A : Layer} (h : A.Numbers) (r : Fin 16) (j : Fin 1024) : IsNumber (A.row r j) := by
  unfold Layer.row
  split
  · exact h.cond _ _
  · split
    · exact h.ctx _
    · exact real_coe 0

theorem final (h : (held m c).Numbers) : (dats m 0 c).arrAt 3 cfg0.N = outArray (held m c) := by
  have idx : ∀ t : Fin cfg0.N, win0_3.index t = ![0, t.val] := (by decide +kernel : ∀ t : Fin grid0.N, _)
  refine (dats m 0 c).arrAt_eq_of_covers 3 _ (by decide +kernel) fun t ht y => ?_
  have ht' : t.val < 8 := t.isLt
  blk_simp
  rw [after0_3]
  obtain ⟨r, l, rfl⟩ : ∃ (r : Fin 16) (l : Fin 1152), y = ix2 r l := ⟨y 0, y 1, by funext a; fin_cases a <;> rfl⟩
  have hl := l.isLt
  have e : (win0_3.blk t).view.emb (ix2 r l) = (ix2 r (⟨1152 * t.val + l, by omega⟩ : Fin 9216) : S16x9216.Idx) := by
    blk_ext [idx t]
  rw [e]
  have hx : ∀ j, iblk m c 0 t (ix2 r j) = (held m c).row r j := fun j => (congrFun (block0 m c t) _).trans (rows_read m c r j)
  have hw : ∀ j, iblk m c 1 t (ix2 j l) = (held m c).w j ⟨1152 * t.val + l, by omega⟩ := fun j =>
    (block1 m c t j l _ rfl).trans (w_read m c j _)
  have hb : iblk m c 2 t (ix2 0 l) = (held m c).b ⟨1152 * t.val + l, by omega⟩ := (block2 m c t l _ rfl).trans (b_read m c _)
  refine (left_at _ _ _ r l (fun j => ?_) fun j => ?_).trans ?_
  · rw [hx]; exact h.row r j
  · rw [hw]; exact h.w j _
  · exact congr (congr (congrArg entry (funext hx)) (funext hw)) hb

end Cert.Modulation

end
-- ==== Proof.AdaPre.lean ====
/- What the second precondition says of the arguments: the conditions and the projection hold numbers that are not infinite. -/
module

public import proofs.«01_k».proof.Pre_bounded
public import proofs.«01_k».proof.Proof.Pre
public import proofs.«01_k».proof.Proof.AdaRef
public import proofs.«01_k».proof.Proof.AdaValue
public import proofs.«01_k».proof.Proof.Gen.Pre_bounded

@[expose] public section

noncomputable section

namespace Cert.Modulation

open Idealize.ShloMosaic Cert.Pre_bounded Cert.S5.Pre

attribute [local instance] Cert.Pre_bounded.Gen.facts

variable {a0 : FVec Ideal S8x1024 .f32} {a1 : FVec Ideal S1024 .f32} {a2 : FVec Ideal S1x1024x9216 .f32} {a3 : FVec Ideal S1x9216 .f32}

/-- A value that a real number names is finite. -/
theorem number_of {x : EReal} (h : x = (x.toReal : EReal)) : IsNumber x := h ▸ real_coe _

/-- The precondition, read. -/
theorem read (h : fn (F := Ideal) a0 a1 a2 a3 = fun _ => 1#1) : (Ref.layer a0 a1 a2 a3).Numbers := by
  have h0 := congrFun h (Shape.Idx.first Facts.h_S_)
  obtain ⟨hp, h2⟩ := and_one h0
  obtain ⟨hp, h1⟩ := and_one hp
  obtain ⟨-, h0⟩ := and_one hp
  exact {
    cond := fun r j => number_of (finite_of_all a0 _ _ _ _ h0 _)
    ctx := fun j => number_of (finite_of_all a1 _ _ _ _ h1 _)
    w := fun j k => number_of (finite_of_all a2 _ _ _ _ h2 _) }

end Cert.Modulation

end
-- ==== Proof.CtxBody.lean ====
module
public import proofs.«01_k».proof.Proof.Gen.FfnInCtxIdeal.Value
public import proofs.«01_k».proof.Proof.InBody
/-! What a point of the context's call leaves in its four output blocks: the body is the one of the latent tokens' call. -/
@[expose] public section
set_option maxRecDepth 65536
noncomputable section
namespace Cert.In.Ctx
open Cert.FfnInCtxIdeal Cert.FfnInCtxIdeal.Gen Idealize.ShloMosaic

variable (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S3x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S1024x2048 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S2x512x256 .bf16) (harg10 : arg10.IsWhole) (arg11 : Memref sig .tc .vmem S32x32x256 .f32) (harg11 : arg11.IsWhole) (arg12 : Memref sig .tc .vmem S512x2816 .bf16) (harg12 : arg12.IsWhole) (arg13 : Memref sig .tc .vmem S4x512x128 .f32) (harg13 : arg13.IsWhole)
variable (x0 : Vec Ideal S512x1024 .f32) (x1 : Vec Ideal S1x9x1024 .f32) (x2 : Vec Ideal S3x1024 .f32) (x3 : Vec Ideal S3x1024 .f32) (x4 : Vec Ideal S1024x5632 .bf16) (x5 : Vec Ideal S2816x1024 .bf16) (x6 : Vec Ideal S1024x2048 .bf16)

theorem out_7 (y) : out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = streamBlock x0 x1 x2 x3 x4 x5 x6 y := by
  frame_out
  simp only [readCov_ld, View.readCov_eq_canon']
  rw [canon_hid x0 x1 x2 x3 x4 x5 x6 _ (by sl_kernel_rfl)]
  rw [canon_stream x0 x1 x2 x3 x4 x5 x6 _ (by sl_kernel_rfl)]

theorem out_8 (y) : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = qkBlock x0 x1 x2 x3 x4 x5 x6 y := by
  frame_out
  simp only [readCov_ld, View.readCov_eq_canon']
  rw [canon_hid x0 x1 x2 x3 x4 x5 x6 _ (by sl_kernel_rfl)]
  rw [canon_qk x0 x1 x2 x3 x4 x5 x6 _ (by sl_kernel_rfl)]

theorem out_9 (y) : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = vtBlock x0 x1 x2 x3 x4 x5 x6 y := by
  frame_out
  simp only [readCov_ld, View.readCov_eq_canon']
  rw [canon_hid x0 x1 x2 x3 x4 x5 x6 _ (by sl_kernel_rfl)]
  rw [canon_vt x0 x1 x2 x3 x4 x5 x6 _ (by sl_kernel_rfl)]

theorem out_10 (y) : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = usBlock x0 x1 x2 x3 x4 x5 x6 y := by
  frame_out
  simp only [readCov_ld, View.readCov_eq_canon']
  rw [canon_hid x0 x1 x2 x3 x4 x5 x6 _ (by sl_kernel_rfl)]
  rw [canon_us x0 x1 x2 x3 x4 x5 x6 _ (by sl_kernel_rfl)]

end Cert.In.Ctx
end
-- ==== Proof.CtxRow.lean ====
/-
  THE BEGINNING OF THE LAYER FOR THE CONTEXT: every token goes through the same maps as a latent token does, all of them
  under one modulation.
-/
module

public import proofs.«01_k».proof.Proof.InRow

@[expose] public section

noncomputable section

namespace Cert.In

open Idealize.ShloMosaic Cert.Out

/-- The weights, every context token's row and the one modulation. -/
structure Context where
  w : Weights
  x : Fin 2048 → Fin 1024 → EReal
  mod : Fin 9 → Fin 1024 → EReal

namespace Context

variable (A : Context)

/-- Token n's row of the stream. -/
def stream (n : Fin 2048) : Fin 1024 → EReal := A.w.stream (A.x n) A.mod

/-- Token n's row of the input projection. -/
def projected (n : Fin 2048) : Fin 2048 → EReal := A.w.projected (A.x n) A.mod

/-- Token n's queries, scaled, and keys. -/
def queriesKeys (n : Fin 2048) (k : Fin 1024) : EReal := scaled k (A.projected n ⟨k, by omega⟩)

/-- The values of token r of batch entry b, feature k. -/
def values (b : Fin 8) (k : Fin 512) (r : Fin 256) : EReal := A.projected ⟨256 * b + r, by omega⟩ ⟨1024 + k, by omega⟩

/-- The S5 inputs of chunk s, group g: place l is feature l % 16 of the chunk's token l / 16. -/
def inputs (g : Fin 32) (s : Fin 128) (l : Fin 256) : EReal :=
  A.projected ⟨16 * s + l / 16, by omega⟩ ⟨1536 + 16 * g + l % 16, by omega⟩

end Context

end Cert.In

end
-- ==== Proof.CtxValue.lean ====
/-
  THE CONTEXT'S RESULTS: a point writes the rows of its 512 tokens; together the points write every token's.
-/
module

public import proofs.«01_k».proof.Proof.CtxBody
public import proofs.«01_k».proof.Proof.CtxRow
public import Idealize.ShloMosaic.Lib.StableHlo.ReadAt

@[expose] public section

set_option maxRecDepth 65536

noncomputable section

namespace Cert.In.Ctx

open Cert.FfnInCtxIdeal Cert.FfnInCtxIdeal.Gen Idealize.ShloMosaic Idealize.ShloMosaic.TcCoe

variable (m : (ℓ : Loc nD τ sig) → Buf (Elt Ideal) ℓ) (c : Dev nD)

/-- What the arguments hold. -/
def context : Context where
  w := {
    wup := fun j k => m (c, Proc.tc.devRef main_arg4) (ix3 0 j k)
    wdn := fun k j => m (c, Proc.tc.devRef main_arg5) (ix3 0 k j)
    win := fun j k => m (c, Proc.tc.devRef main_arg6) (ix3 0 j k)
    gain := fun j => m (c, Proc.tc.devRef main_arg2) (ix3 0 0 j)
    offset := fun j => m (c, Proc.tc.devRef main_arg3) (ix3 0 0 j) }
  x n j := m (c, Proc.tc.devRef main_arg0) (ix3 ⟨n / 256, by omega⟩ ⟨n % 256, by omega⟩ j)
  mod i j := m (c, Proc.tc.devRef main_arg1) (ix3 8 i j)

/-! ### The blocks of a point -/

theorem x_read (n : Fin 2048) (j : Fin 1024) : V m c main_v0 (ix2 n j) = (context m c).x n j := by
  show _ = m (c, Proc.tc.devRef main_arg0) (ix3 ⟨n / 256, by omega⟩ ⟨n % 256, by omega⟩ j)
  unfold V
  after_reads_at
  blk_ext

theorem gain_read (i : Fin 3) (k : Fin 1024) : V m c main_v2 (ix2 i k) = m (c, Proc.tc.devRef main_arg2) (ix3 0 i k) := by
  unfold V
  after_reads_at

theorem offset_read (i : Fin 3) (k : Fin 1024) : V m c main_v3 (ix2 i k) = m (c, Proc.tc.devRef main_arg3) (ix3 0 i k) := by
  unfold V
  after_reads_at

theorem wup_read (i : Fin 1024) (k : Fin 5632) : V m c main_v5 (ix2 i k) = m (c, Proc.tc.devRef main_arg4) (ix3 0 i k) := by
  unfold V
  after_reads_at

theorem wdn_read (i : Fin 2816) (k : Fin 1024) : V m c main_v7 (ix2 i k) = m (c, Proc.tc.devRef main_arg5) (ix3 0 i k) := by
  unfold V
  after_reads_at

theorem win_read (i : Fin 1024) (k : Fin 2048) : V m c main_v9 (ix2 i k) = m (c, Proc.tc.devRef main_arg6) (ix3 0 i k) := by
  unfold V
  after_reads_at

theorem block2 (t : Fin cfg0.N) : (iblk m c 2 t : Vec Ideal S3x1024 .f32) = V m c main_v2 := by
  have idx : ∀ t : Fin cfg0.N, win0_2.index t = ![0, 0] := (by decide +kernel : ∀ t : Fin grid0.N, _)
  funext y
  obtain ⟨r, l, rfl⟩ : ∃ (r : Fin 3) (l : Fin 1024), y = ix2 r l := ⟨y 0, y 1, by funext a; fin_cases a <;> rfl⟩
  blk_ext [iblk, idx t]

theorem block3 (t : Fin cfg0.N) : (iblk m c 3 t : Vec Ideal S3x1024 .f32) = V m c main_v3 := by
  have idx : ∀ t : Fin cfg0.N, win0_3.index t = ![0, 0] := (by decide +kernel : ∀ t : Fin grid0.N, _)
  funext y
  obtain ⟨r, l, rfl⟩ : ∃ (r : Fin 3) (l : Fin 1024), y = ix2 r l := ⟨y 0, y 1, by funext a; fin_cases a <;> rfl⟩
  blk_ext [iblk, idx t]

theorem block4 (t : Fin cfg0.N) : (iblk m c 4 t : Vec Ideal S1024x5632 .bf16) = V m c main_v5 := by
  have idx : ∀ t : Fin cfg0.N, win0_4.index t = ![0, 0] := (by decide +kernel : ∀ t : Fin grid0.N, _)
  funext y
  obtain ⟨r, l, rfl⟩ : ∃ (r : Fin 1024) (l : Fin 5632), y = ix2 r l := ⟨y 0, y 1, by funext a; fin_cases a <;> rfl⟩
  blk_ext [iblk, idx t]

theorem block5 (t : Fin cfg0.N) : (iblk m c 5 t : Vec Ideal S2816x1024 .bf16) = V m c main_v7 := by
  have idx : ∀ t : Fin cfg0.N, win0_5.index t = ![0, 0] := (by decide +kernel : ∀ t : Fin grid0.N, _)
  funext y
  obtain ⟨r, l, rfl⟩ : ∃ (r : Fin 2816) (l : Fin 1024), y = ix2 r l := ⟨y 0, y 1, by funext a; fin_cases a <;> rfl⟩
  blk_ext [iblk, idx t]

theorem block6 (t : Fin cfg0.N) : (iblk m c 6 t : Vec Ideal S1024x2048 .bf16) = V m c main_v9 := by
  have idx : ∀ t : Fin cfg0.N, win0_6.index t = ![0, 0] := (by decide +kernel : ∀ t : Fin grid0.N, _)
  funext y
  obtain ⟨r, l, rfl⟩ : ∃ (r : Fin 1024) (l : Fin 2048), y = ix2 r l := ⟨y 0, y 1, by funext a; fin_cases a <;> rfl⟩
  blk_ext [iblk, idx t]

theorem block0 (t : Fin cfg0.N) (r : Fin 512) (l : Fin 1024) (n : Fin 2048) (hn : (n : ℕ) = 512 * t.val + r) :
    iblk m c 0 t (ix2 r l) = V m c main_v0 (ix2 n l) := by
  have idx : ∀ t : Fin cfg0.N, win0_0.index t = ![t.val, 0] := (by decide +kernel : ∀ t : Fin grid0.N, _)
  blk_ext [iblk, idx t]

theorem block1 (t : Fin cfg0.N) (i : Fin 9) (l : Fin 1024) : iblk m c 1 t (ix3 0 i l) = V m c main_v1 (ix3 0 i l) := by
  have idx : ∀ t : Fin cfg0.N, win0_1.index t = ![0, 0, 0] := (by decide +kernel : ∀ t : Fin grid0.N, _)
  blk_ext [iblk, idx t]

theorem mod_read (i : Fin 9) (k : Fin 1024) : V m c main_v1 (ix3 0 i k) = m (c, Proc.tc.devRef main_arg1) (ix3 8 i k) := by
  unfold V
  after_reads_at
  blk_ext

theorem bw_block (t : Fin cfg0.N) : bw (iblk m c 2 t) (iblk m c 3 t) (iblk m c 4 t) (iblk m c 5 t) (iblk m c 6 t) = (context m c).w := by
  rw [block2, block3, block4, block5, block6]
  unfold bw context
  congr 1 <;> funext i
  · funext k; exact wup_read m c i k
  · funext k; exact wdn_read m c i k
  · funext k; exact win_read m c i k
  · exact gain_read m c 0 i
  · exact offset_read m c 0 i

theorem brow_block (t : Fin cfg0.N) (r : Fin 512) (n : Fin 2048) (hn : (n : ℕ) = 512 * t.val + r) :
    brow (iblk m c 0 t) r = (context m c).x n :=
  funext fun j => (block0 m c t r j n hn).trans (x_read m c n j)

theorem bmod_block (t : Fin cfg0.N) : bmod (iblk m c 1 t) = (context m c).mod :=
  funext fun i => funext fun j => (block1 m c t i j).trans (mod_read m c i j)

theorem stream_block (t : Fin cfg0.N) (r : Fin 512) (n : Fin 2048) (hn : (n : ℕ) = 512 * t.val + r) (j : Fin 1024) :
    streamBlock (iblk m c 0 t) (iblk m c 1 t) (iblk m c 2 t) (iblk m c 3 t) (iblk m c 4 t) (iblk m c 5 t) (iblk m c 6 t) (ix2 r j) = (context m c).stream n j := by
  show (bw (iblk m c 2 t) (iblk m c 3 t) (iblk m c 4 t) (iblk m c 5 t) (iblk m c 6 t)).stream (brow (iblk m c 0 t) r) (bmod (iblk m c 1 t)) j = _
  rw [bw_block, brow_block m c t r n hn, bmod_block m c t]
  rfl

theorem proj_block (t : Fin cfg0.N) (r : Fin 512) (n : Fin 2048) (hn : (n : ℕ) = 512 * t.val + r) (k : Fin 2048) :
    proj (iblk m c 0 t) (iblk m c 1 t) (iblk m c 2 t) (iblk m c 3 t) (iblk m c 4 t) (iblk m c 5 t) (iblk m c 6 t) r k = (context m c).projected n k := by
  unfold proj
  rw [bw_block, brow_block m c t r n hn, bmod_block m c t]
  rfl

/-! ### The four results of the context, as arrays -/

def streamArray (A : Context) (i : S2048x1024.Idx) : EReal := A.stream (i 0) (i 1)

def queriesKeysArray (A : Context) (i : S2048x1024.Idx) : EReal := A.queriesKeys (i 0) (i 1)

def valuesArray (A : Context) (i : S8x512x256.Idx) : EReal := A.values (i 0) (i 1) (i 2)

def inputsArray (A : Context) (i : S32x128x256.Idx) : EReal := A.inputs (i 0) (i 1) (i 2)

/-! ### The four arrays after the run -/

/-- The stream. -/
theorem final_stream : (dats m 0 c).arrAt 7 cfg0.N = streamArray (context m c) := by
  have idx : ∀ t : Fin cfg0.N, win0_7.index t = ![t.val, 0] := (by decide +kernel : ∀ t : Fin grid0.N, _)
  refine (dats m 0 c).arrAt_eq_of_covers 7 _ (by decide +kernel) fun t ht y => ?_
  have ht' : t.val < 4 := t.isLt
  blk_simp
  rw [after0_7]
  obtain ⟨r, l, rfl⟩ : ∃ (r : Fin 512) (l : Fin 1024), y = ix2 r l := ⟨y 0, y 1, by funext a; fin_cases a <;> rfl⟩
  have hr := r.isLt
  have e : (win0_7.blk t).view.emb (ix2 r l) = (ix2 (⟨512 * t.val + r, by omega⟩ : Fin 2048) l : S2048x1024.Idx) := by
    blk_ext [idx t]
  rw [e]
  simp only [outsAt0]
  refine (out_7 .. ).trans ?_
  exact stream_block m c t r _ rfl l

/-- Queries and keys. -/
theorem final_queriesKeys : (dats m 0 c).arrAt 8 cfg0.N = queriesKeysArray (context m c) := by
  have idx : ∀ t : Fin cfg0.N, win0_8.index t = ![t.val, 0] := (by decide +kernel : ∀ t : Fin grid0.N, _)
  refine (dats m 0 c).arrAt_eq_of_covers 8 _ (by decide +kernel) fun t ht y => ?_
  have ht' : t.val < 4 := t.isLt
  blk_simp
  rw [after0_8]
  obtain ⟨r, l, rfl⟩ : ∃ (r : Fin 512) (l : Fin 1024), y = ix2 r l := ⟨y 0, y 1, by funext a; fin_cases a <;> rfl⟩
  have hr := r.isLt
  have e : (win0_8.blk t).view.emb (ix2 r l) = (ix2 (⟨512 * t.val + r, by omega⟩ : Fin 2048) l : S2048x1024.Idx) := by
    blk_ext [idx t]
  rw [e]
  simp only [outsAt0]
  refine (out_8 .. ).trans ?_
  exact congrArg (scaled l) (proj_block m c t r _ rfl _)

/-- The values. -/
theorem final_values : (dats m 0 c).arrAt 9 cfg0.N = valuesArray (context m c) := by
  have idx : ∀ t : Fin cfg0.N, win0_9.index t = ![t.val, 0, 0] := (by decide +kernel : ∀ t : Fin grid0.N, _)
  refine (dats m 0 c).arrAt_eq_of_covers 9 _ (by decide +kernel) fun t ht y => ?_
  have ht' : t.val < 4 := t.isLt
  blk_simp
  rw [after0_9]
  obtain ⟨r, s, l, rfl⟩ : ∃ (r : Fin 2) (s : Fin 512) (l : Fin 256), y = ix3 r s l := ⟨y 0, y 1, y 2, by funext a; fin_cases a <;> rfl⟩
  have hr := r.isLt
  have hl := l.isLt
  have e : (win0_9.blk t).view.emb (ix3 r s l) = (ix3 (⟨2 * t.val + r, by omega⟩ : Fin 8) s l : S8x512x256.Idx) := by
    blk_ext [idx t]
  rw [e]
  simp only [outsAt0]
  refine (out_9 .. ).trans ?_
  exact proj_block m c t _ _ (show 256 * (2 * t.val + r.val) + l.val = 512 * t.val + (256 * r.val + l.val) by omega) _

/-- The S5 inputs. -/
theorem final_inputs : (dats m 0 c).arrAt 10 cfg0.N = inputsArray (context m c) := by
  have idx : ∀ t : Fin cfg0.N, win0_10.index t = ![0, t.val, 0] := (by decide +kernel : ∀ t : Fin grid0.N, _)
  refine (dats m 0 c).arrAt_eq_of_covers 10 _ (by decide +kernel) fun t ht y => ?_
  have ht' : t.val < 4 := t.isLt
  blk_simp
  rw [after0_10]
  obtain ⟨r, s, l, rfl⟩ : ∃ (r : Fin 32) (s : Fin 32) (l : Fin 256), y = ix3 r s l := ⟨y 0, y 1, y 2, by funext a; fin_cases a <;> rfl⟩
  have hr := r.isLt
  have hs := s.isLt
  have hl := l.isLt
  have e : (win0_10.blk t).view.emb (ix3 r s l) = (ix3 r (⟨32 * t.val + s, by omega⟩ : Fin 128) l : S32x128x256.Idx) := by
    blk_ext [idx t]
  rw [e]
  simp only [outsAt0]
  refine (out_10 .. ).trans ?_
  exact proj_block m c t _ _ (show 16 * (32 * t.val + s.val) + l.val / 16 = 512 * t.val + (16 * s.val + l.val / 16) by omega) _

end Cert.In.Ctx

end
-- ==== Proof.CtxRef.lean ====
/-
  THE REFERENCE FOR THE CONTEXT, at every entry of its four results.
-/
module

public import proofs.«01_k».proof.Proof.CtxRow
public import proofs.«01_k».proof.Proof.Gen.InReferenceCtxIdeal.Run
public import Idealize.ShloMosaic.Lib.Pipeline.ValueKit

@[expose] public section

set_option maxRecDepth 65536

noncomputable section

namespace Cert.In.CtxRef

open Cert.InReferenceCtxIdeal Cert.InReferenceCtxIdeal.Gen Cert.InReferenceCtxIdeal.Value Idealize.ShloMosaic Idealize.ShloMosaic.TcCoe
open Cert.Out (num mean layerNorm)

variable (m : (ℓ : Loc nD τ sig) → Buf (Elt Ideal) ℓ) (c : Dev nD)

abbrev a0 : FVec Ideal S8x256x1024 .f32 := m ((c.tc : Thread nD τ).loc main_arg0)
abbrev a1 : FVec Ideal S16x9x1024 .f32 := m ((c.tc : Thread nD τ).loc main_arg1)
abbrev a2 : FVec Ideal S1x3x1024 .f32 := m ((c.tc : Thread nD τ).loc main_arg2)
abbrev a3 : FVec Ideal S1x3x1024 .f32 := m ((c.tc : Thread nD τ).loc main_arg3)
abbrev a4 : FVec Ideal S1x1024x5632 .f32 := m ((c.tc : Thread nD τ).loc main_arg4)
abbrev a5 : FVec Ideal S1x2816x1024 .f32 := m ((c.tc : Thread nD τ).loc main_arg5)
abbrev a6 : FVec Ideal S1x1024x2048 .f32 := m ((c.tc : Thread nD τ).loc main_arg6)

/-- What the arguments hold. -/
def context : Context where
  w := {
    wup := fun j k => a4 m c (ix3 0 j k)
    wdn := fun k j => a5 m c (ix3 0 k j)
    win := fun j k => a6 m c (ix3 0 j k)
    gain := fun j => a2 m c (ix3 0 0 j)
    offset := fun j => a3 m c (ix3 0 0 j) }
  x n j := a0 m c (ix3 ⟨n / 256, by omega⟩ ⟨n % 256, by omega⟩ j)
  mod i j := a1 m c (ix3 8 i j)

/-- The row at place s of batch entry b. -/
def row (b : Fin 8) (s : Fin 256) (j : Fin 1024) : EReal := a0 m c (ix3 b s j)

/-! ### The stages -/

/-- One row for every token. -/
def spread (v : FVec Ideal S1024 .f32) : FVec Ideal S8x256x1024 .f32 :=
  broadcastInDim S8x256x1024 ![0, 1, 2] bcast_S1x1x1024_S8x256x1024_0_1_2 (broadcastInDim S1x1x1024 ![2] bcast_S1024_S1x1x1024_2 v)

/-- The modulation, nine rows side by side. -/
def mm : FVec Ideal S9216 .f32 := shapeCast _ (shapeCast _ (extractStridedSlice S1x9x1024 ![8, 0, 0] (a1 m c) slices_S16x9x1024_S1x9x1024_8_0_0) shapeCasts_S1x9x1024_S9x1024) shapeCasts_S9x1024_S9216

def up : FVec Ideal S8x256x5632 .f32 := Host.dotGeneral dot_S8x256x1024_S1024x5632_S8x256x5632_2_0_01_1_n_n none (addf (mulf (a0 m c) (spread (addf (broadcastInDim S1024 ![] bcast_S_S1024 (constant S_ .f32 0x3F800000#32)) (extractStridedSlice S1024 ![1024] (mm m c) slices_S9216_S1024_1024)))) (spread (extractStridedSlice S1024 ![0] (mm m c) slices_S9216_S1024_0))) (shapeCast _ (a4 m c) shapeCasts_S1x1024x5632_S1024x5632)

def gate : FVec Ideal S8x256x2816 .f32 := extractStridedSlice S8x256x2816 ![0, 0, 2816] (up m c) slices_S8x256x5632_S8x256x2816_0_0_2816

def pre : FVec Ideal S8x256x1024 .f32 := addf (mulf (broadcastInDim S8x256x1024 ![] bcast_S_S8x256x1024 (constant S_ .f32 0x3F9837F0#32)) (a0 m c)) (mulf (spread (mulf (broadcastInDim S1024 ![] bcast_S_S1024 (constant S_ .f32 0x3F000000#32)) (extractStridedSlice S1024 ![2048] (mm m c) slices_S9216_S1024_2048))) (Host.dotGeneral dot_S8x256x2816_S2816x1024_S8x256x1024_2_0_01_1_n_n none (mulf (mulf (gate m c) (Host.divf (broadcastInDim S8x256x2816 ![] bcast_S_S8x256x2816 (constant S_ .f32 0x3F800000#32)) (addf (broadcastInDim S8x256x2816 ![] bcast_S_S8x256x2816 (constant S_ .f32 0x3F800000#32)) (Host.exp (Host.negf (gate m c)))))) (extractStridedSlice S8x256x2816 ![0, 0, 0] (up m c) slices_S8x256x5632_S8x256x2816_0_0_0)) (shapeCast _ (a5 m c) shapeCasts_S1x2816x1024_S2816x1024)))

def center : FVec Ideal S8x256x1 .f32 := (Host.divf (broadcastInDim S8x256x1 ![0, 1] bcast_S8x256_S8x256x1_0_1 (Host.reduceAdd (pre m c) (constant S_ .f32 0x00000000#32) reducesTo_S8x256x1024_S8x256_d2 h_S_)) (broadcastInDim S8x256x1 ![] bcast_S_S8x256x1 (constant S_ .f32 0x44800000#32)))

def dev : FVec Ideal S8x256x1024 .f32 := subf (pre m c) (broadcastInDim S8x256x1024 ![0, 1, 2] bcast_S8x256x1_S8x256x1024_0_1_2 (center m c))

def stream : FVec Ideal S8x256x1024 .f32 := addf (mulf (mulf (dev m c) (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf (dev m c) (dev m c)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (spread (shapeCast _ (extractStridedSlice S1x1x1024 ![0, 0, 0] (a2 m c) slices_S1x3x1024_S1x1x1024_0_0_0) shapeCasts_S1x1x1024_S1024))) (spread (shapeCast _ (extractStridedSlice S1x1x1024 ![0, 0, 0] (a3 m c) slices_S1x3x1024_S1x1x1024_0_0_0) shapeCasts_S1x1x1024_S1024))

def proj : FVec Ideal S8x256x2048 .f32 := Host.dotGeneral dot_S8x256x1024_S1024x2048_S8x256x2048_2_0_01_1_n_n none (addf (mulf (stream m c) (spread (addf (broadcastInDim S1024 ![] bcast_S_S1024 (constant S_ .f32 0x3F800000#32)) (extractStridedSlice S1024 ![4096] (mm m c) slices_S9216_S1024_4096)))) (spread (extractStridedSlice S1024 ![3072] (mm m c) slices_S9216_S1024_3072))) (shapeCast _ (a6 m c) shapeCasts_S1x1024x2048_S1024x2048)

def qk : FVec Ideal S8x256x1024 .bf16 := truncf .bf16 (concatenate S8x256x1024 2 [⟨S8x256x512, mulf (extractStridedSlice S8x256x512 ![0, 0, 0] (proj m c) slices_S8x256x2048_S8x256x512_0_0_0) (broadcastInDim S8x256x512 ![] bcast_S_S8x256x512 (constant S_ .f32 0x3E38AA3B#32))⟩, ⟨S8x256x512, extractStridedSlice S8x256x512 ![0, 0, 512] (proj m c) slices_S8x256x2048_S8x256x512_0_0_512⟩] concatenates_S8x256x512_S8x256x512_S8x256x1024_d2) bitsLt_bf16_f32

theorem res_stream : res_main_v84 m c = shapeCast _ (stream m c) shapeCasts_S8x256x1024_S2048x1024 := rfl

theorem res_qk : res_main_v86 m c = shapeCast _ (qk m c) shapeCasts_S8x256x1024_S2048x1024 := rfl

theorem res_values : res_main_v87 m c = truncf .bf16 (transpose S8x512x256 [0, 2, 1] (extractStridedSlice S8x256x512 ![0, 0, 1024] (proj m c) slices_S8x256x2048_S8x256x512_0_0_1024) transposes_S8x256x512_S8x512x256_0_2_1) bitsLt_bf16_f32 := rfl

theorem res_inputs : res_main_v88 m c = shapeCast _ (transpose S32x128x16x16 [2, 0, 1, 3] (shapeCast _ (extractStridedSlice S8x256x512 ![0, 0, 1536] (proj m c) slices_S8x256x2048_S8x256x512_0_0_1536) shapeCasts_S8x256x512_S128x16x32x16) transposes_S128x16x32x16_S32x128x16x16_2_0_1_3) shapeCasts_S32x128x16x16_S32x128x256 := rfl

/-! ### Their entries -/

theorem up_at (b : Fin 8) (s : Fin 256) (k : Fin 5632) : up m c (ix3 b s k)
    = (context m c).w.up (modulated (row m c b s) ((context m c).mod 1) ((context m c).mod 0)) k := by
  pointwise [up, mm, spread]
  refine Fin.sum_fin_congr fun j => ?_
  have e1 : (⟨(1024 + (j : ℕ)) / 1024, by omega⟩ : Fin 9) = 1 := Fin.ext (by show (1024 + (j : ℕ)) / 1024 = 1; omega)
  have e0 : (⟨(j : ℕ) / 1024, by omega⟩ : Fin 9) = 0 := Fin.ext (by show (j : ℕ) / 1024 = 0; omega)
  have f0 : (⟨(j : ℕ) % 1024, by omega⟩ : Fin 1024) = j := Fin.ext (by show (j : ℕ) % 1024 = j; omega)
  rw [e1, e0, f0]
  rfl

theorem gate_at (b : Fin 8) (s : Fin 256) (k : Fin 2816) : gate m c (ix3 b s k)
    = (context m c).w.up (modulated (row m c b s) ((context m c).mod 1) ((context m c).mod 0)) ⟨2816 + k, by omega⟩ := by
  pointwise [gate, up_at]

theorem pre_at (b : Fin 8) (s : Fin 256) (j : Fin 1024) : pre m c (ix3 b s j)
    = num 0x3F9837F0#32 * row m c b s j + num 0x3F000000#32 * (context m c).mod 2 j
      * (context m c).w.down (modulated (row m c b s) ((context m c).mod 1) ((context m c).mod 0)) j := by
  pointwise [pre, mm, spread, gate_at, up_at]
  have e : (⟨(2048 + (j : ℕ)) / 1024, by omega⟩ : Fin 9) = 2 := Fin.ext (by show (2048 + (j : ℕ)) / 1024 = 2; omega)
  rw [e]
  rfl

theorem center_at (b : Fin 8) (s : Fin 256) : center m c (ix3 b s 0) = mean fun j => pre m c (ix3 b s j) := by
  pointwise [center]
  rfl

theorem dev_at (b : Fin 8) (s : Fin 256) (j : Fin 1024) :
    dev m c (ix3 b s j) = (show EReal from pre m c (ix3 b s j)) - mean fun k => pre m c (ix3 b s k) := by
  pointwise [dev, center_at]

theorem stream_at (b : Fin 8) (s : Fin 256) (j : Fin 1024) :
    stream m c (ix3 b s j) = (context m c).w.stream (row m c b s) ((context m c).mod) j := by
  have e : (fun j => pre m c (ix3 b s j)) = _ := funext (pre_at m c b s)
  refine Eq.trans ?_ (congrArg (fun r => layerNorm r (context m c).w.gain (context m c).w.offset j) e)
  pointwise [stream, spread]
  simp only [dev_at]
  rfl

theorem proj_at (b : Fin 8) (s : Fin 256) (k : Fin 2048) :
    proj m c (ix3 b s k) = (context m c).w.projected (row m c b s) ((context m c).mod) k := by
  pointwise [proj, mm, spread, stream_at]
  refine Fin.sum_fin_congr fun j => ?_
  have e4 : (⟨(4096 + (j : ℕ)) / 1024, by omega⟩ : Fin 9) = 4 := Fin.ext (by show (4096 + (j : ℕ)) / 1024 = 4; omega)
  have e3 : (⟨(3072 + (j : ℕ)) / 1024, by omega⟩ : Fin 9) = 3 := Fin.ext (by show (3072 + (j : ℕ)) / 1024 = 3; omega)
  rw [e4, e3]
  rfl

/-! ### The results -/

theorem entry_of (b : Fin 8) (s : Fin 256) (n : Fin 2048) (h : (n : ℕ) = b * 256 + s) : (⟨n / 256, by omega⟩ : Fin 8) = b :=
  Fin.ext (show n.val / 256 = b.val by omega)

theorem row_of (b : Fin 8) (s : Fin 256) (n : Fin 2048) (h : (n : ℕ) = b * 256 + s) : (context m c).x n = row m c b s := by
  have es : (⟨n % 256, by omega⟩ : Fin 256) = s := Fin.ext (show n.val % 256 = s.val by omega)
  show (fun j => a0 m c (ix3 ⟨n / 256, by omega⟩ ⟨n % 256, by omega⟩ j)) = _
  rw [entry_of b s n h, es]
  rfl

theorem stream_of (b : Fin 8) (s : Fin 256) (n : Fin 2048) (h : (n : ℕ) = b * 256 + s) (j : Fin 1024) :
    stream m c (ix3 b s j) = (context m c).stream n j := by
  rw [stream_at, Context.stream, row_of m c b s n h]

theorem proj_of (b : Fin 8) (s : Fin 256) (k : Fin 2048) (n : Fin 2048) (h : (n : ℕ) = b * 256 + s) :
    proj m c (ix3 b s k) = (context m c).projected n k := by
  rw [proj_at, Context.projected, row_of m c b s n h]

theorem split_at {e : EltTy} (X : S8x256x1024.Idx → Elt Ideal e) (n : Fin 2048) (j : Fin 1024) :
    shapeCast S2048x1024 X shapeCasts_S8x256x1024_S2048x1024 (ix2 n j)
      = X (ix3 ⟨(n : ℕ) / 256, by omega⟩ ⟨(n : ℕ) % 256, by omega⟩ j) := by
  pointwise
  blk_ext

theorem qk_at (b : Fin 8) (s : Fin 256) (k : Fin 1024) :
    qk m c (ix3 b s k) = scaled k (proj m c (ix3 b s ⟨k, by omega⟩)) := by
  by_cases h : (k : ℕ) < 512
  · pointwise [qk]
    rw [scaled, if_pos h]
    simp only [h, ↓reduceDIte, ↓reduceIte]
  · pointwise [qk]
    rw [scaled, if_neg h]
    simp only [h, ↓reduceDIte, ↓reduceIte]
    refine congrArg (fun l => proj m c (ix3 b s l)) (Fin.ext ?_)
    show 512 + ((k : ℕ) - 512) = k
    omega

theorem stream_flat : shapeCast S2048x1024 (stream m c) shapeCasts_S8x256x1024_S2048x1024
    = (fun i => (context m c).stream (i 0) (i 1) : S2048x1024.Idx → EReal) := by
  funext i
  obtain ⟨n, j, rfl⟩ : ∃ (n : Fin 2048) (j : Fin 1024), i = ix2 n j := ⟨i 0, i 1, by funext a; fin_cases a <;> rfl⟩
  have h := stream_of m c ⟨n / 256, by omega⟩ ⟨n % 256, by omega⟩ n (show (n : ℕ) = n.val / 256 * 256 + n.val % 256 by omega) j
  generalize stream m c = X at h ⊢
  exact (split_at (e := .f32) X n j).trans h

theorem stream_eq : res_main_v84 m c = fun i => (context m c).stream (i 0) (i 1) := (res_stream m c).trans (stream_flat m c)

theorem queriesKeys_eq : res_main_v86 m c = fun i => (context m c).queriesKeys (i 0) (i 1) := by
  funext i
  obtain ⟨n, k, rfl⟩ : ∃ (n : Fin 2048) (k : Fin 1024), i = ix2 n k := ⟨i 0, i 1, by funext a; fin_cases a <;> rfl⟩
  rw [res_qk]
  refine (split_at (e := .bf16) (qk m c) n k).trans ((qk_at m c _ _ k).trans ?_)
  exact congrArg (scaled k) (proj_of m c _ _ _ n (show (n : ℕ) = n.val / 256 * 256 + n.val % 256 by omega))

theorem values_eq : res_main_v87 m c = fun i => (context m c).values (i 0) (i 1) (i 2) := by
  funext i
  obtain ⟨b, k, r, rfl⟩ : ∃ (b : Fin 8) (k : Fin 512) (r : Fin 256), i = ix3 b k r := ⟨i 0, i 1, i 2, by funext a; fin_cases a <;> rfl⟩
  have hr := r.isLt
  rw [res_values]
  refine Eq.trans ?_ (proj_of m c ⟨(256 * b + r) / 256, by omega⟩ ⟨(256 * b + r) % 256, by omega⟩ ⟨1024 + k, by omega⟩ ⟨256 * b + r, by omega⟩
    (show 256 * b.val + r.val = (256 * b.val + r.val) / 256 * 256 + (256 * b.val + r.val) % 256 by omega))
  generalize proj m c = P
  pointwise
  blk_ext

theorem inputs_eq : res_main_v88 m c = fun i => (context m c).inputs (i 0) (i 1) (i 2) := by
  funext i
  obtain ⟨g, s, l, rfl⟩ : ∃ (g : Fin 32) (s : Fin 128) (l : Fin 256), i = ix3 g s l := ⟨i 0, i 1, i 2, by funext a; fin_cases a <;> rfl⟩
  have hl := l.isLt
  rw [res_inputs]
  refine Eq.trans ?_ (proj_of m c ⟨(16 * s + l / 16) / 256, by omega⟩ ⟨(16 * s + l / 16) % 256, by omega⟩ ⟨1536 + 16 * g + l % 16, by omega⟩ ⟨16 * s + l / 16, by omega⟩
    (show 16 * s.val + l.val / 16 = (16 * s.val + l.val / 16) / 256 * 256 + (16 * s.val + l.val / 16) % 256 by omega))
  generalize proj m c = P
  pointwise
  blk_ext

end Cert.In.CtxRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_well_posed
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.OutFfn
public import proofs.«01_k».proof.Proof.Gen.OutFfn.Skeleton
public import proofs.«01_k».proof.Proof.Gen.OutFfn.Launch
public import proofs.«01_k».proof.Proof.Gen.OutFfn.Points
public import proofs.«01_k».proof.Proof.Gen.OutFfn.Frame
public import proofs.«01_k».proof.Proof.Gen.OutFfnIdeal
public import proofs.«01_k».proof.Proof.Gen.OutFfnIdeal.Skeleton
public import proofs.«01_k».proof.Proof.Gen.OutFfnIdeal.Launch
public import proofs.«01_k».proof.Proof.Gen.OutFfnIdeal.Points
public import proofs.«01_k».proof.Proof.Gen.OutFfnIdeal.Frame
public import proofs.«01_k».proof.Proof.Gen.OutFfnIdeal.Value
public import proofs.«01_k».proof.Proof.Gen.OutReferenceIdeal
public import proofs.«01_k».proof.Proof.Gen.OutReferenceIdeal.Run
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.InReferenceIdeal
public import proofs.«01_k».proof.Proof.Gen.InReferenceIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.Pre_bounded
public import proofs.«01_k».proof.Proof.Gen.FfnInCtx
public import proofs.«01_k».proof.Proof.Gen.FfnInCtx.Skeleton
public import proofs.«01_k».proof.Proof.Gen.FfnInCtx.Launch
public import proofs.«01_k».proof.Proof.Gen.FfnInCtx.Points
public import proofs.«01_k».proof.Proof.Gen.FfnInCtx.Frame
public import proofs.«01_k».proof.Proof.Gen.FfnInCtxIdeal
public import proofs.«01_k».proof.Proof.Gen.FfnInCtxIdeal.Skeleton
public import proofs.«01_k».proof.Proof.Gen.FfnInCtxIdeal.Launch
public import proofs.«01_k».proof.Proof.Gen.FfnInCtxIdeal.Points
public import proofs.«01_k».proof.Proof.Gen.FfnInCtxIdeal.Frame
public import proofs.«01_k».proof.Proof.Gen.FfnInCtxIdeal.Value
public import proofs.«01_k».proof.Proof.Gen.InReferenceCtxIdeal
public import proofs.«01_k».proof.Proof.Gen.InReferenceCtxIdeal.Run
public import proofs.«01_k».proof.Proof.Value
public import proofs.«01_k».proof.Proof.Pre
public import proofs.«01_k».proof.Proof.OutValue
public import proofs.«01_k».proof.Proof.InValue
public import proofs.«01_k».proof.Proof.InRef
public import proofs.«01_k».proof.Proof.AdaPre
public import proofs.«01_k».proof.Proof.CtxValue
public import proofs.«01_k».proof.Proof.CtxRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's iterates on one device. -/
def iterates (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.ReferenceIdeal.StepRun.initState m c
  | n + 1 => Cert.ReferenceIdeal.Step.step n (iterates m c n)

/-- The reference runs, keeps its arguments and leaves no counter: it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl _⟩)
    (Cert.ReferenceIdeal.Value.run m ρ)

/-- The parameters that the kernel's arguments hold on one device. -/
def held (m : (ℓ : Loc Cert.KernelIdeal.nD Cert.KernelIdeal.τ Cert.KernelIdeal.sig) → Buf (Elt Ideal) ℓ)
    (c : Dev Cert.KernelIdeal.nD) : Cert.S5.Params :=
  Cert.S5.Pre.params (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5))
    (m ((c.tc : Thread _ _).loc Cert.KernelIdeal.main_arg6))

/-- Kernel and reference compute the response matrix of the parameters that the arguments hold. -/
theorem same_response : Cert.algebraic_KernelIdeal_ReferenceIdeal_pre_well_posed
    (hKernelIdeal := Cert.KernelIdeal.Gen.facts) (hReferenceIdeal := Cert.ReferenceIdeal.Gen.facts)
    (hPre_well_posed := Cert.Pre_well_posed.Gen.facts) := by
  intro m ρ m' ρ' hpre hargs
  have hread := fun c => Cert.S5.Pre.read (hpre c)
  refine ⟨fun c => Cert.S5.responseArr (held m c), ?_, ?_⟩
  · refine (θ_run Cert.KernelIdeal.defs _ _).mono (fun r h c => ⟨?_, (h c).2⟩) (Cert.KernelIdeal.Value.run_blocks m ρ)
    exact (h c).1.trans (Cert.S5.final (q := held m c) ⟨(hread c).1, (hread c).2.1, (hread c).2.2⟩)
  · refine (θ_run Cert.ReferenceIdeal.defs _ _).mono (fun r h c => ⟨?_, (h c).2⟩)
      (Cert.ReferenceIdeal.StepRun.run_iter m' ρ' (iterates m') (fun _ => rfl) (fun _ _ => rfl))
    refine (h c).1.trans (funext fun y => ?_)
    obtain ⟨g, x, l, rfl⟩ : ∃ g x l, y = ValueIdx.ix3 g x l := ⟨y 0, y 1, y 2, by funext a; fin_cases a <;> rfl⟩
    have hinit : Cert.S5.Ref.Inv (held m c) 0 (iterates m' c 0) := by
      obtain ⟨e0, e1, e2, e3, e4, e5, e6, -⟩ := hargs c
      show Cert.S5.Ref.Inv (held m c) 0 (Cert.ReferenceIdeal.StepRun.initState m' c)
      unfold Cert.ReferenceIdeal.StepRun.initState
      rw [e0, e1, e2, e3, e4, e5, e6]
      exact Cert.S5.Ref.init_inv (hread c).1 (hread c).2.1
    exact Cert.S5.Ref.result_at (Cert.S5.Ref.iter_inv _ hinit (fun _ => rfl) 16 le_rfl) g x l

/-- The second reference runs, keeps its arguments and leaves no counter: it has no semaphore. -/
theorem frame_out_reference : Cert.quiescent_OutReferenceIdeal (hOutReferenceIdeal := Cert.OutReferenceIdeal.Gen.facts) := fun m ρ _ =>
  (θ_run Cert.OutReferenceIdeal.defs _ _).mono (fun r h => ⟨fun c => (h c).2, sem_eq_zero_of_no_sems rfl _⟩)
    (Cert.OutReferenceIdeal.Value.run m ρ)

/-- The reference's result, from its arguments one by one. -/
theorem reference_rows (V : Valuation Cert.OutReferenceIdeal.τ Cert.OutReferenceIdeal.sig (Elt Ideal)) : Cert.Out.Ref.result V
    = Cert.Out.rows (Cert.Out.Ref.a0 V) (Cert.Out.Ref.a1 V) (Cert.Out.Ref.a2 V) (Cert.Out.Ref.a3 V) (Cert.Out.Ref.a4 V)
      (Cert.Out.Ref.a5 V) (Cert.Out.Ref.a6 V) (Cert.Out.Ref.a7 V) (Cert.Out.Ref.a8 V) (Cert.Out.Ref.a9 V) (Cert.Out.Ref.a10 V) := rfl

/-- Kernel and reference compute the layer's rows of the arguments. -/
theorem same_rows : Cert.algebraic_OutFfnIdeal_OutReferenceIdeal
    (hOutFfnIdeal := Cert.OutFfnIdeal.Gen.facts) (hOutReferenceIdeal := Cert.OutReferenceIdeal.Gen.facts) := by
  intro m ρ m' ρ' _ hargs
  refine ⟨fun c => Cert.Out.kernelRows m c, ?_, ?_⟩
  · refine (θ_run Cert.OutFfnIdeal.defs _ _).mono (fun r h c => ⟨?_, (h c).2⟩) (Cert.OutFfnIdeal.Value.run_blocks m ρ)
    exact (h c).1.trans (Cert.Out.final m c)
  · refine (θ_run Cert.OutReferenceIdeal.defs _ _).mono (fun r h c => ⟨?_, (h c).2⟩) (Cert.OutReferenceIdeal.Value.run m' ρ')
    refine (h c).1.trans ((Cert.Out.Ref.result_eq (StableHlo.launchContents m' c)).trans ((reference_rows _).trans ?_))
    obtain ⟨e0, e1, e2, e3, e4, e5, e6, e7, e8, e9, e10⟩ := hargs c
    show Cert.Out.rows
      (m' ((c.tc : Thread Cert.OutReferenceIdeal.nD Cert.OutReferenceIdeal.τ).loc Cert.OutReferenceIdeal.main_arg0))
      (m' ((c.tc : Thread Cert.OutReferenceIdeal.nD Cert.OutReferenceIdeal.τ).loc Cert.OutReferenceIdeal.main_arg1))
      (m' ((c.tc : Thread Cert.OutReferenceIdeal.nD Cert.OutReferenceIdeal.τ).loc Cert.OutReferenceIdeal.main_arg2))
      (m' ((c.tc : Thread Cert.OutReferenceIdeal.nD Cert.OutReferenceIdeal.τ).loc Cert.OutReferenceIdeal.main_arg3))
      (m' ((c.tc : Thread Cert.OutReferenceIdeal.nD Cert.OutReferenceIdeal.τ).loc Cert.OutReferenceIdeal.main_arg4))
      (m' ((c.tc : Thread Cert.OutReferenceIdeal.nD Cert.OutReferenceIdeal.τ).loc Cert.OutReferenceIdeal.main_arg5))
      (m' ((c.tc : Thread Cert.OutReferenceIdeal.nD Cert.OutReferenceIdeal.τ).loc Cert.OutReferenceIdeal.main_arg6))
      (m' ((c.tc : Thread Cert.OutReferenceIdeal.nD Cert.OutReferenceIdeal.τ).loc Cert.OutReferenceIdeal.main_arg7))
      (m' ((c.tc : Thread Cert.OutReferenceIdeal.nD Cert.OutReferenceIdeal.τ).loc Cert.OutReferenceIdeal.main_arg8))
      (m' ((c.tc : Thread Cert.OutReferenceIdeal.nD Cert.OutReferenceIdeal.τ).loc Cert.OutReferenceIdeal.main_arg9))
      (m' ((c.tc : Thread Cert.OutReferenceIdeal.nD Cert.OutReferenceIdeal.τ).loc Cert.OutReferenceIdeal.main_arg10)) = _
    rw [e0, e1, e2, e3, e4, e5, e6, e7, e8, e9, e10]
    rfl

/-- The third reference runs, keeps its arguments and leaves no counter: it has no semaphore. -/
theorem frame_in_reference : Cert.quiescent_InReferenceIdeal (hInReferenceIdeal := Cert.InReferenceIdeal.Gen.facts) := fun m ρ _ =>
  (θ_run Cert.InReferenceIdeal.defs _ _).mono (fun r h => ⟨fun c => (h c).2.2.2.2, sem_eq_zero_of_no_sems rfl _⟩)
    (Cert.InReferenceIdeal.Value.run m ρ)

/-- Kernel and reference compute the beginning of the layer that the arguments hold. -/
theorem same_beginning : Cert.algebraic_FfnInIdeal_InReferenceIdeal
    (hFfnInIdeal := Cert.FfnInIdeal.Gen.facts) (hInReferenceIdeal := Cert.InReferenceIdeal.Gen.facts) := by
  intro m ρ m' ρ' _ hargs
  have held : ∀ c, Cert.In.Ref.layer m' c = Cert.In.layer m c := fun c => by
    obtain ⟨h0, h1, h2, h3, h4, h5, h6⟩ := hargs c
    have e0 : Cert.In.Ref.a0 m' c = m (c, Proc.tc.devRef Cert.FfnInIdeal.main_arg0) := h0
    have e1 : Cert.In.Ref.a1 m' c = m (c, Proc.tc.devRef Cert.FfnInIdeal.main_arg1) := h1
    have e2 : Cert.In.Ref.a2 m' c = m (c, Proc.tc.devRef Cert.FfnInIdeal.main_arg2) := h2
    have e3 : Cert.In.Ref.a3 m' c = m (c, Proc.tc.devRef Cert.FfnInIdeal.main_arg3) := h3
    have e4 : Cert.In.Ref.a4 m' c = m (c, Proc.tc.devRef Cert.FfnInIdeal.main_arg4) := h4
    have e5 : Cert.In.Ref.a5 m' c = m (c, Proc.tc.devRef Cert.FfnInIdeal.main_arg5) := h5
    have e6 : Cert.In.Ref.a6 m' c = m (c, Proc.tc.devRef Cert.FfnInIdeal.main_arg6) := h6
    unfold Cert.In.Ref.layer
    rw [e0, e1, e2, e3, e4, e5, e6]
    rfl
  refine ⟨fun c => Cert.In.streamArray (Cert.In.layer m c), fun c => Cert.In.queriesKeysArray (Cert.In.layer m c),
    fun c => Cert.In.valuesArray (Cert.In.layer m c), fun c => Cert.In.inputsArray (Cert.In.layer m c), ?_, ?_⟩
  · exact (θ_run Cert.FfnInIdeal.defs _ _).mono (fun r h c => ⟨(h c).1.trans (Cert.In.final_stream m c),
      (h c).2.1.trans (Cert.In.final_queriesKeys m c), (h c).2.2.1.trans (Cert.In.final_values m c),
      (h c).2.2.2.1.trans (Cert.In.final_inputs m c), (h c).2.2.2.2⟩) (Cert.FfnInIdeal.Value.run_blocks m ρ)
  · refine (θ_run Cert.InReferenceIdeal.defs _ _).mono (fun r h c => ⟨(h c).1.trans ?_, (h c).2.1.trans ?_,
      (h c).2.2.1.trans ?_, (h c).2.2.2.1.trans ?_, (h c).2.2.2.2⟩) (Cert.InReferenceIdeal.Value.run m' ρ')
    · exact (Cert.In.Ref.stream_eq m' c).trans (congrArg Cert.In.streamArray (held c))
    · exact (Cert.In.Ref.queriesKeys_eq m' c).trans (congrArg Cert.In.queriesKeysArray (held c))
    · exact (Cert.In.Ref.values_eq m' c).trans (congrArg Cert.In.valuesArray (held c))
    · exact (Cert.In.Ref.inputs_eq m' c).trans (congrArg Cert.In.inputsArray (held c))

/-- The fourth reference runs, keeps its arguments and leaves no counter: it has no semaphore. -/
theorem frame_modulation_reference : Cert.quiescent_AdaReferenceIdeal (hAdaReferenceIdeal := Cert.AdaReferenceIdeal.Gen.facts) := fun m ρ _ =>
  (θ_run Cert.AdaReferenceIdeal.defs _ _).mono (fun r h => ⟨fun c => (h c).2, sem_eq_zero_of_no_sems rfl _⟩)
    (Cert.AdaReferenceIdeal.Value.run m ρ)

/-- Kernel and reference compute the modulation of the conditions that the arguments hold. -/
theorem same_modulation : Cert.algebraic_AdaIdeal_AdaReferenceIdeal_pre_bounded
    (hAdaIdeal := Cert.AdaIdeal.Gen.facts) (hAdaReferenceIdeal := Cert.AdaReferenceIdeal.Gen.facts)
    (hPre_bounded := Cert.Pre_bounded.Gen.facts) := by
  intro m ρ m' ρ' hpre hargs
  have numbers : ∀ c, (Cert.Modulation.held m c).Numbers := fun c => Cert.Modulation.read (hpre c)
  refine ⟨fun c => Cert.Modulation.outArray (Cert.Modulation.held m c), ?_, ?_⟩
  · exact (θ_run Cert.AdaIdeal.defs _ _).mono (fun r h c => ⟨(h c).1.trans (Cert.Modulation.final m c (numbers c)), (h c).2⟩)
      (Cert.AdaIdeal.Value.run_blocks m ρ)
  · refine (θ_run Cert.AdaReferenceIdeal.defs _ _).mono (fun r h c => ⟨(h c).1.trans ?_, (h c).2⟩) (Cert.AdaReferenceIdeal.Value.run m' ρ')
    obtain ⟨e0, e1, e2, e3⟩ := hargs c
    rw [e0, e1, e2, e3]
    funext i
    obtain ⟨n, k, rfl⟩ : ∃ n k, i = ValueIdx.ix2 n k := ⟨i 0, i 1, by funext a; fin_cases a <;> rfl⟩
    exact Cert.Modulation.Ref.result_at _ _ _ _ n k

/-- The fifth reference runs, keeps its arguments and leaves no counter: it has no semaphore. -/
theorem frame_context_reference : Cert.quiescent_InReferenceCtxIdeal (hInReferenceCtxIdeal := Cert.InReferenceCtxIdeal.Gen.facts) := fun m ρ _ =>
  (θ_run Cert.InReferenceCtxIdeal.defs _ _).mono (fun r h => ⟨fun c => (h c).2.2.2.2, sem_eq_zero_of_no_sems rfl _⟩)
    (Cert.InReferenceCtxIdeal.Value.run m ρ)

/-- Kernel and reference compute the beginning of the layer for the context that the arguments hold. -/
theorem same_context : Cert.algebraic_FfnInCtxIdeal_InReferenceCtxIdeal
    (hFfnInCtxIdeal := Cert.FfnInCtxIdeal.Gen.facts) (hInReferenceCtxIdeal := Cert.InReferenceCtxIdeal.Gen.facts) := by
  intro m ρ m' ρ' _ hargs
  have held : ∀ c, Cert.In.CtxRef.context m' c = Cert.In.Ctx.context m c := fun c => by
    obtain ⟨h0, h1, h2, h3, h4, h5, h6⟩ := hargs c
    have e0 : Cert.In.CtxRef.a0 m' c = m (c, Proc.tc.devRef Cert.FfnInCtxIdeal.main_arg0) := h0
    have e1 : Cert.In.CtxRef.a1 m' c = m (c, Proc.tc.devRef Cert.FfnInCtxIdeal.main_arg1) := h1
    have e2 : Cert.In.CtxRef.a2 m' c = m (c, Proc.tc.devRef Cert.FfnInCtxIdeal.main_arg2) := h2
    have e3 : Cert.In.CtxRef.a3 m' c = m (c, Proc.tc.devRef Cert.FfnInCtxIdeal.main_arg3) := h3
    have e4 : Cert.In.CtxRef.a4 m' c = m (c, Proc.tc.devRef Cert.FfnInCtxIdeal.main_arg4) := h4
    have e5 : Cert.In.CtxRef.a5 m' c = m (c, Proc.tc.devRef Cert.FfnInCtxIdeal.main_arg5) := h5
    have e6 : Cert.In.CtxRef.a6 m' c = m (c, Proc.tc.devRef Cert.FfnInCtxIdeal.main_arg6) := h6
    unfold Cert.In.CtxRef.context
    rw [e0, e1, e2, e3, e4, e5, e6]
    rfl
  refine ⟨fun c => Cert.In.Ctx.streamArray (Cert.In.Ctx.context m c), fun c => Cert.In.Ctx.queriesKeysArray (Cert.In.Ctx.context m c),
    fun c => Cert.In.Ctx.valuesArray (Cert.In.Ctx.context m c), fun c => Cert.In.Ctx.inputsArray (Cert.In.Ctx.context m c), ?_, ?_⟩
  · exact (θ_run Cert.FfnInCtxIdeal.defs _ _).mono (fun r h c => ⟨(h c).1.trans (Cert.In.Ctx.final_stream m c),
      (h c).2.1.trans (Cert.In.Ctx.final_queriesKeys m c), (h c).2.2.1.trans (Cert.In.Ctx.final_values m c),
      (h c).2.2.2.1.trans (Cert.In.Ctx.final_inputs m c), (h c).2.2.2.2⟩) (Cert.FfnInCtxIdeal.Value.run_blocks m ρ)
  · refine (θ_run Cert.InReferenceCtxIdeal.defs _ _).mono (fun r h c => ⟨(h c).1.trans ?_, (h c).2.1.trans ?_,
      (h c).2.2.1.trans ?_, (h c).2.2.2.1.trans ?_, (h c).2.2.2.2⟩) (Cert.InReferenceCtxIdeal.Value.run m' ρ')
    · exact (Cert.In.CtxRef.stream_eq m' c).trans (congrArg Cert.In.Ctx.streamArray (held c))
    · exact (Cert.In.CtxRef.queriesKeys_eq m' c).trans (congrArg Cert.In.Ctx.queriesKeysArray (held c))
    · exact (Cert.In.CtxRef.values_eq m' c).trans (congrArg Cert.In.Ctx.valuesArray (held c))
    · exact (Cert.In.CtxRef.inputs_eq m' c).trans (congrArg Cert.In.Ctx.inputsArray (held c))

theorem claim : Cert.Claim := ⟨Cert.Kernel.Gen.facts, Cert.KernelIdeal.Gen.facts, Cert.ReferenceIdeal.Gen.facts, Cert.OutFfn.Gen.facts,
  Cert.OutFfnIdeal.Gen.facts, Cert.OutReferenceIdeal.Gen.facts, Cert.FfnIn.Gen.facts, Cert.FfnInIdeal.Gen.facts,
  Cert.InReferenceIdeal.Gen.facts, Cert.Ada.Gen.facts, Cert.AdaIdeal.Gen.facts, Cert.AdaReferenceIdeal.Gen.facts,
  Cert.FfnInCtx.Gen.facts, Cert.FfnInCtxIdeal.Gen.facts, Cert.InReferenceCtxIdeal.Gen.facts,
  Cert.Pre_well_posed.Gen.facts, Cert.Pre_bounded.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.OutFfn.Gen.frame m ρ, fun m ρ _ => Cert.OutFfnIdeal.Gen.frame m ρ, frame_out_reference,
  fun m ρ _ => Cert.FfnIn.Gen.frame m ρ, fun m ρ _ => Cert.FfnInIdeal.Gen.frame m ρ, frame_in_reference,
  fun m ρ _ => Cert.Ada.Gen.frame m ρ, fun m ρ _ => Cert.AdaIdeal.Gen.frame m ρ, fun m ρ _ => Cert.AdaIdeal.Gen.frame m ρ,
  frame_modulation_reference, fun m ρ _ => frame_modulation_reference m ρ trivial,
  fun m ρ _ => Cert.FfnInCtx.Gen.frame m ρ, fun m ρ _ => Cert.FfnInCtxIdeal.Gen.frame m ρ, frame_context_reference,
  trivial, same_response, trivial, same_rows, trivial, same_beginning, trivial, same_modulation,
  trivial, same_context⟩

end Cert.Proof

end
